-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_KernelGateIdeal_finite_gate [hPre_finite_gate : Cert.Pre_finite_gate.Facts] (m : (ℓ : Loc Cert.KernelGateIdeal.nD Cert.KernelGateIdeal.τ Cert.KernelGateIdeal.sig) → Buf (Elt Ideal) ℓ) : Prop :=
  ∀ c : Dev Cert.KernelGateIdeal.nD,
    (Cert.Pre_finite_gate.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1)) (m ((c.tc : Thread Cert.KernelGateIdeal.nD Cert.KernelGateIdeal.τ).loc Cert.KernelGateIdeal.main_arg2)) (m ((c.tc : Thread Cert.KernelGateIdeal.nD Cert.KernelGateIdeal.τ).loc Cert.KernelGateIdeal.main_arg3))) = (fun _ => 1#1)

def Pre_ReferenceGateIdeal (m : (ℓ : Loc Cert.ReferenceGateIdeal.nD Cert.ReferenceGateIdeal.τ Cert.ReferenceGateIdeal.sig) → Buf (Elt Ideal) ℓ) : Prop :=
  True

def Pre_ReferenceGateIdeal_finite_gate [hPre_finite_gate : Cert.Pre_finite_gate.Facts] (m : (ℓ : Loc Cert.ReferenceGateIdeal.nD Cert.ReferenceGateIdeal.τ Cert.ReferenceGateIdeal.sig) → Buf (Elt Ideal) ℓ) : Prop :=
  ∀ c : Dev Cert.ReferenceGateIdeal.nD,
    (Cert.Pre_finite_gate.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1)) (m ((c.tc : Thread Cert.ReferenceGateIdeal.nD Cert.ReferenceGateIdeal.τ).loc Cert.ReferenceGateIdeal.main_arg2)) (m ((c.tc : Thread Cert.ReferenceGateIdeal.nD Cert.ReferenceGateIdeal.τ).loc Cert.ReferenceGateIdeal.main_arg3))) = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelFwdUp (m : (ℓ : Loc Cert.KernelFwdUp.nD Cert.KernelFwdUp.τ Cert.KernelFwdUp.sig) → Buf (Elt Bits) ℓ) : Prop :=
  True

def Pre_KernelFwdUpIdeal (m : (ℓ : Loc Cert.KernelFwdUpIdeal.nD Cert.KernelFwdUpIdeal.τ Cert.KernelFwdUpIdeal.sig) → Buf (Elt Ideal) ℓ) : Prop :=
  True

def Pre_ReferenceFwdUpIdeal (m : (ℓ : Loc Cert.ReferenceFwdUpIdeal.nD Cert.ReferenceFwdUpIdeal.τ Cert.ReferenceFwdUpIdeal.sig) → Buf (Elt Ideal) ℓ) : Prop :=
  True

def Pre_KernelFwdDown (m : (ℓ : Loc Cert.KernelFwdDown.nD Cert.KernelFwdDown.τ Cert.KernelFwdDown.sig) → Buf (Elt Bits) ℓ) : Prop :=
  True

def Pre_KernelFwdDownIdeal (m : (ℓ : Loc Cert.KernelFwdDownIdeal.nD Cert.KernelFwdDownIdeal.τ Cert.KernelFwdDownIdeal.sig) → Buf (Elt Ideal) ℓ) : Prop :=
  True

def Pre_ReferenceFwdDownIdeal (m : (ℓ : Loc Cert.ReferenceFwdDownIdeal.nD Cert.ReferenceFwdDownIdeal.τ Cert.ReferenceFwdDownIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_attn [hPre_finite_attn : Cert.Pre_finite_attn.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_attn [hPre_finite_attn : Cert.Pre_finite_attn.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ r.2.sem = fun _ => 0)

def quiescent_KernelGateIdeal_pre_finite_gate [hKernelGateIdeal : Cert.KernelGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal_finite_gate m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3))
      ∧ r.2.sem = fun _ => 0)

def quiescent_ReferenceGateIdeal_pre_finite_gate [hReferenceGateIdeal : Cert.ReferenceGateIdeal.Facts] [hPre_finite_gate : Cert.Pre_finite_gate.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal_finite_gate m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelFwdUp [hKernelFwdUp : Cert.KernelFwdUp.Facts] : Prop :=
  ∀ (m : (ℓ : Loc Cert.KernelFwdUp.nD Cert.KernelFwdUp.τ Cert.KernelFwdUp.sig) → Buf (Elt Bits) ℓ) (g : Dev Cert.KernelFwdUp.nD → PrngReg), Pre_KernelFwdUp m →
    θ_run (Cert.KernelFwdUp.defs (F := Bits)) (onTc (τ := Cert.KernelFwdUp.τ) (Cert.KernelFwdUp.main (F := Bits))) ⟨m, fun _ => 0, g⟩ (fun r => (∀ c : Dev Cert.KernelFwdUp.nD,
      r.2.mem ((c.tc : Thread Cert.KernelFwdUp.nD Cert.KernelFwdUp.τ).loc Cert.KernelFwdUp.main_arg0) = m ((c.tc : Thread Cert.KernelFwdUp.nD Cert.KernelFwdUp.τ).loc Cert.KernelFwdUp.main_arg0)
      ∧ r.2.mem ((c.tc : Thread Cert.KernelFwdUp.nD Cert.KernelFwdUp.τ).loc Cert.KernelFwdUp.main_arg1) = m ((c.tc : Thread Cert.KernelFwdUp.nD Cert.KernelFwdUp.τ).loc Cert.KernelFwdUp.main_arg1))
      ∧ r.2.sem = fun _ => 0)

def quiescent_KernelFwdUpIdeal [hKernelFwdUpIdeal : Cert.KernelFwdUpIdeal.Facts] : Prop :=
  ∀ (m : (ℓ : Loc Cert.KernelFwdUpIdeal.nD Cert.KernelFwdUpIdeal.τ Cert.KernelFwdUpIdeal.sig) → Buf (Elt Ideal) ℓ) (g : Dev Cert.KernelFwdUpIdeal.nD → PrngReg), Pre_KernelFwdUpIdeal m →
    θ_run (Cert.KernelFwdUpIdeal.defs (F := Ideal)) (onTc (τ := Cert.KernelFwdUpIdeal.τ) (Cert.KernelFwdUpIdeal.main (F := Ideal))) ⟨m, fun _ => 0, g⟩ (fun r => (∀ c : Dev Cert.KernelFwdUpIdeal.nD,
      r.2.mem ((c.tc : Thread Cert.KernelFwdUpIdeal.nD Cert.KernelFwdUpIdeal.τ).loc Cert.KernelFwdUpIdeal.main_arg0) = m ((c.tc : Thread Cert.KernelFwdUpIdeal.nD Cert.KernelFwdUpIdeal.τ).loc Cert.KernelFwdUpIdeal.main_arg0)
      ∧ r.2.mem ((c.tc : Thread Cert.KernelFwdUpIdeal.nD Cert.KernelFwdUpIdeal.τ).loc Cert.KernelFwdUpIdeal.main_arg1) = m ((c.tc : Thread Cert.KernelFwdUpIdeal.nD Cert.KernelFwdUpIdeal.τ).loc Cert.KernelFwdUpIdeal.main_arg1))
      ∧ r.2.sem = fun _ => 0)

def quiescent_ReferenceFwdUpIdeal [hReferenceFwdUpIdeal : Cert.ReferenceFwdUpIdeal.Facts] : Prop :=
  ∀ (m : (ℓ : Loc Cert.ReferenceFwdUpIdeal.nD Cert.ReferenceFwdUpIdeal.τ Cert.ReferenceFwdUpIdeal.sig) → Buf (Elt Ideal) ℓ) (g : Dev Cert.ReferenceFwdUpIdeal.nD → PrngReg), Pre_ReferenceFwdUpIdeal m →
    θ_run (Cert.ReferenceFwdUpIdeal.defs (F := Ideal)) (onTc (τ := Cert.ReferenceFwdUpIdeal.τ) (Cert.ReferenceFwdUpIdeal.main (F := Ideal))) ⟨m, fun _ => 0, g⟩ (fun r => (∀ c : Dev Cert.ReferenceFwdUpIdeal.nD,
      r.2.mem ((c.tc : Thread Cert.ReferenceFwdUpIdeal.nD Cert.ReferenceFwdUpIdeal.τ).loc Cert.ReferenceFwdUpIdeal.main_arg0) = m ((c.tc : Thread Cert.ReferenceFwdUpIdeal.nD Cert.ReferenceFwdUpIdeal.τ).loc Cert.ReferenceFwdUpIdeal.main_arg0)
      ∧ r.2.mem ((c.tc : Thread Cert.ReferenceFwdUpIdeal.nD Cert.ReferenceFwdUpIdeal.τ).loc Cert.ReferenceFwdUpIdeal.main_arg1) = m ((c.tc : Thread Cert.ReferenceFwdUpIdeal.nD Cert.ReferenceFwdUpIdeal.τ).loc Cert.ReferenceFwdUpIdeal.main_arg1))
      ∧ r.2.sem = fun _ => 0)

def quiescent_KernelFwdDown [hKernelFwdDown : Cert.KernelFwdDown.Facts] : Prop :=
  ∀ (m : (ℓ : Loc Cert.KernelFwdDown.nD Cert.KernelFwdDown.τ Cert.KernelFwdDown.sig) → Buf (Elt Bits) ℓ) (g : Dev Cert.KernelFwdDown.nD → PrngReg), Pre_KernelFwdDown m →
    θ_run (Cert.KernelFwdDown.defs (F := Bits)) (onTc (τ := Cert.KernelFwdDown.τ) (Cert.KernelFwdDown.main (F := Bits))) ⟨m, fun _ => 0, g⟩ (fun r => (∀ c : Dev Cert.KernelFwdDown.nD,
      r.2.mem ((c.tc : Thread Cert.KernelFwdDown.nD Cert.KernelFwdDown.τ).loc Cert.KernelFwdDown.main_arg0) = m ((c.tc : Thread Cert.KernelFwdDown.nD Cert.KernelFwdDown.τ).loc Cert.KernelFwdDown.main_arg0)
      ∧ r.2.mem ((c.tc : Thread Cert.KernelFwdDown.nD Cert.KernelFwdDown.τ).loc Cert.KernelFwdDown.main_arg1) = m ((c.tc : Thread Cert.KernelFwdDown.nD Cert.KernelFwdDown.τ).loc Cert.KernelFwdDown.main_arg1)
      ∧ r.2.mem ((c.tc : Thread Cert.KernelFwdDown.nD Cert.KernelFwdDown.τ).loc Cert.KernelFwdDown.main_arg2) = m ((c.tc : Thread Cert.KernelFwdDown.nD Cert.KernelFwdDown.τ).loc Cert.KernelFwdDown.main_arg2))
      ∧ r.2.sem = fun _ => 0)

def quiescent_KernelFwdDownIdeal [hKernelFwdDownIdeal : Cert.KernelFwdDownIdeal.Facts] : Prop :=
  ∀ (m : (ℓ : Loc Cert.KernelFwdDownIdeal.nD Cert.KernelFwdDownIdeal.τ Cert.KernelFwdDownIdeal.sig) → Buf (Elt Ideal) ℓ) (g : Dev Cert.KernelFwdDownIdeal.nD → PrngReg), Pre_KernelFwdDownIdeal m →
    θ_run (Cert.KernelFwdDownIdeal.defs (F := Ideal)) (onTc (τ := Cert.KernelFwdDownIdeal.τ) (Cert.KernelFwdDownIdeal.main (F := Ideal))) ⟨m, fun _ => 0, g⟩ (fun r => (∀ c : Dev Cert.KernelFwdDownIdeal.nD,
      r.2.mem ((c.tc : Thread Cert.KernelFwdDownIdeal.nD Cert.KernelFwdDownIdeal.τ).loc Cert.KernelFwdDownIdeal.main_arg0) = m ((c.tc : Thread Cert.KernelFwdDownIdeal.nD Cert.KernelFwdDownIdeal.τ).loc Cert.KernelFwdDownIdeal.main_arg0)
      ∧ r.2.mem ((c.tc : Thread Cert.KernelFwdDownIdeal.nD Cert.KernelFwdDownIdeal.τ).loc Cert.KernelFwdDownIdeal.main_arg1) = m ((c.tc : Thread Cert.KernelFwdDownIdeal.nD Cert.KernelFwdDownIdeal.τ).loc Cert.KernelFwdDownIdeal.main_arg1)
      ∧ r.2.mem ((c.tc : Thread Cert.KernelFwdDownIdeal.nD Cert.KernelFwdDownIdeal.τ).loc Cert.KernelFwdDownIdeal.main_arg2) = m ((c.tc : Thread Cert.KernelFwdDownIdeal.nD Cert.KernelFwdDownIdeal.τ).loc Cert.KernelFwdDownIdeal.main_arg2))
      ∧ r.2.sem = fun _ => 0)

def quiescent_ReferenceFwdDownIdeal [hReferenceFwdDownIdeal : Cert.ReferenceFwdDownIdeal.Facts] : Prop :=
  ∀ (m : (ℓ : Loc Cert.ReferenceFwdDownIdeal.nD Cert.ReferenceFwdDownIdeal.τ Cert.ReferenceFwdDownIdeal.sig) → Buf (Elt Ideal) ℓ) (g : Dev Cert.ReferenceFwdDownIdeal.nD → PrngReg), Pre_ReferenceFwdDownIdeal m →
    θ_run (Cert.ReferenceFwdDownIdeal.defs (F := Ideal)) (onTc (τ := Cert.ReferenceFwdDownIdeal.τ) (Cert.ReferenceFwdDownIdeal.main (F := Ideal))) ⟨m, fun _ => 0, g⟩ (fun r => (∀ c : Dev Cert.ReferenceFwdDownIdeal.nD,
      r.2.mem ((c.tc : Thread Cert.ReferenceFwdDownIdeal.nD Cert.ReferenceFwdDownIdeal.τ).loc Cert.ReferenceFwdDownIdeal.main_arg0) = m ((c.tc : Thread Cert.ReferenceFwdDownIdeal.nD Cert.ReferenceFwdDownIdeal.τ).loc Cert.ReferenceFwdDownIdeal.main_arg0)
      ∧ r.2.mem ((c.tc : Thread Cert.ReferenceFwdDownIdeal.nD Cert.ReferenceFwdDownIdeal.τ).loc Cert.ReferenceFwdDownIdeal.main_arg1) = m ((c.tc : Thread Cert.ReferenceFwdDownIdeal.nD Cert.ReferenceFwdDownIdeal.τ).loc Cert.ReferenceFwdDownIdeal.main_arg1)
      ∧ r.2.mem ((c.tc : Thread Cert.ReferenceFwdDownIdeal.nD Cert.ReferenceFwdDownIdeal.τ).loc Cert.ReferenceFwdDownIdeal.main_arg2) = m ((c.tc : Thread Cert.ReferenceFwdDownIdeal.nD Cert.ReferenceFwdDownIdeal.τ).loc Cert.ReferenceFwdDownIdeal.main_arg2))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_KernelAttnIdeal_pre_finite_attn [hKernelAttnIdeal : Cert.KernelAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_attn m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_ReferenceAttnIdeal_pre_finite_attn [hReferenceAttnIdeal : Cert.ReferenceAttnIdeal.Facts] [hPre_finite_attn : Cert.Pre_finite_attn.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_attn m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale2" .f32 0x3E16C740#32 (((Real.sqrt 96)⁻¹ * (Real.log 2)⁻¹ : ℝ) : EReal)
  ∧ IdealRules.named_const.Statement Cert.KernelIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelGate_KernelGateIdeal : Prop :=
  True

def algebraic_KernelGateIdeal_ReferenceGateIdeal_pre_finite_gate [hKernelGateIdeal : Cert.KernelGateIdeal.Facts] [hReferenceGateIdeal : Cert.ReferenceGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal_finite_gate m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)) →
    ∃ (v0 : (c : Dev Cert.KernelGateIdeal.nD) → Buf (Elt Ideal) ((c.tc : Thread Cert.KernelGateIdeal.nD Cert.KernelGateIdeal.τ).loc Cert.KernelGateIdeal.main_v0_0)) (v1 : (c : Dev Cert.KernelGateIdeal.nD) → Buf (Elt Ideal) ((c.tc : Thread Cert.KernelGateIdeal.nD Cert.KernelGateIdeal.τ).loc Cert.KernelGateIdeal.main_v0_1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0_0) = v0 c
          ∧ r.2.mem ((c.tc : Thread Cert.KernelGateIdeal.nD Cert.KernelGateIdeal.τ).loc Cert.KernelGateIdeal.main_v0_1) = v1 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v10) = v0 c
          ∧ r.2.mem ((c.tc : Thread Cert.ReferenceGateIdeal.nD Cert.ReferenceGateIdeal.τ).loc Cert.ReferenceGateIdeal.main_v11) = v1 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v8) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v0_0)) (v1 : (c : Dev Cert.KernelInIdeal.nD) → Buf (Elt Ideal) ((c.tc : Thread Cert.KernelInIdeal.nD Cert.KernelInIdeal.τ).loc Cert.KernelInIdeal.main_v0_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0_0) = v0 c
          ∧ r.2.mem ((c.tc : Thread Cert.KernelInIdeal.nD Cert.KernelInIdeal.τ).loc Cert.KernelInIdeal.main_v0_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v39) = v0 c
          ∧ r.2.mem ((c.tc : Thread Cert.ReferenceInIdeal.nD Cert.ReferenceInIdeal.τ).loc Cert.ReferenceInIdeal.main_v22) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelFwdUp_KernelFwdUpIdeal : Prop :=
  True

def algebraic_KernelFwdUpIdeal_ReferenceFwdUpIdeal [hKernelFwdUpIdeal : Cert.KernelFwdUpIdeal.Facts] [hReferenceFwdUpIdeal : Cert.ReferenceFwdUpIdeal.Facts] : Prop :=
  ∀ (m : (ℓ : Loc Cert.KernelFwdUpIdeal.nD Cert.KernelFwdUpIdeal.τ Cert.KernelFwdUpIdeal.sig) → Buf (Elt Ideal) ℓ) (g : Dev Cert.KernelFwdUpIdeal.nD → PrngReg)
    (m' : (ℓ : Loc Cert.ReferenceFwdUpIdeal.nD Cert.ReferenceFwdUpIdeal.τ Cert.ReferenceFwdUpIdeal.sig) → Buf (Elt Ideal) ℓ) (g' : Dev Cert.ReferenceFwdUpIdeal.nD → PrngReg), Pre_KernelFwdUpIdeal m →
    (∀ c : Dev Cert.KernelFwdUpIdeal.nD,
      m' ((c.tc : Thread Cert.ReferenceFwdUpIdeal.nD Cert.ReferenceFwdUpIdeal.τ).loc Cert.ReferenceFwdUpIdeal.main_arg0) = m ((c.tc : Thread Cert.KernelFwdUpIdeal.nD Cert.KernelFwdUpIdeal.τ).loc Cert.KernelFwdUpIdeal.main_arg0)
      ∧ m' ((c.tc : Thread Cert.ReferenceFwdUpIdeal.nD Cert.ReferenceFwdUpIdeal.τ).loc Cert.ReferenceFwdUpIdeal.main_arg1) = m ((c.tc : Thread Cert.KernelFwdUpIdeal.nD Cert.KernelFwdUpIdeal.τ).loc Cert.KernelFwdUpIdeal.main_arg1)) →
    ∃ (v0 : (c : Dev Cert.KernelFwdUpIdeal.nD) → Buf (Elt Ideal) ((c.tc : Thread Cert.KernelFwdUpIdeal.nD Cert.KernelFwdUpIdeal.τ).loc Cert.KernelFwdUpIdeal.main_v0_0)) (v1 : (c : Dev Cert.KernelFwdUpIdeal.nD) → Buf (Elt Ideal) ((c.tc : Thread Cert.KernelFwdUpIdeal.nD Cert.KernelFwdUpIdeal.τ).loc Cert.KernelFwdUpIdeal.main_v0_1)) (v2 : (c : Dev Cert.KernelFwdUpIdeal.nD) → Buf (Elt Ideal) ((c.tc : Thread Cert.KernelFwdUpIdeal.nD Cert.KernelFwdUpIdeal.τ).loc Cert.KernelFwdUpIdeal.main_v0_2)),
      θ_run (Cert.KernelFwdUpIdeal.defs (F := Ideal)) (onTc (τ := Cert.KernelFwdUpIdeal.τ) (Cert.KernelFwdUpIdeal.main (F := Ideal))) ⟨m, fun _ => 0, g⟩ (fun r => ∀ c : Dev Cert.KernelFwdUpIdeal.nD,
          r.2.mem ((c.tc : Thread Cert.KernelFwdUpIdeal.nD Cert.KernelFwdUpIdeal.τ).loc Cert.KernelFwdUpIdeal.main_v0_0) = v0 c
          ∧ r.2.mem ((c.tc : Thread Cert.KernelFwdUpIdeal.nD Cert.KernelFwdUpIdeal.τ).loc Cert.KernelFwdUpIdeal.main_v0_1) = v1 c
          ∧ r.2.mem ((c.tc : Thread Cert.KernelFwdUpIdeal.nD Cert.KernelFwdUpIdeal.τ).loc Cert.KernelFwdUpIdeal.main_v0_2) = v2 c
          ∧ r.2.mem ((c.tc : Thread Cert.KernelFwdUpIdeal.nD Cert.KernelFwdUpIdeal.τ).loc Cert.KernelFwdUpIdeal.main_arg0) = m ((c.tc : Thread Cert.KernelFwdUpIdeal.nD Cert.KernelFwdUpIdeal.τ).loc Cert.KernelFwdUpIdeal.main_arg0)
          ∧ r.2.mem ((c.tc : Thread Cert.KernelFwdUpIdeal.nD Cert.KernelFwdUpIdeal.τ).loc Cert.KernelFwdUpIdeal.main_arg1) = m ((c.tc : Thread Cert.KernelFwdUpIdeal.nD Cert.KernelFwdUpIdeal.τ).loc Cert.KernelFwdUpIdeal.main_arg1))
      ∧ θ_run (Cert.ReferenceFwdUpIdeal.defs (F := Ideal)) (onTc (τ := Cert.ReferenceFwdUpIdeal.τ) (Cert.ReferenceFwdUpIdeal.main (F := Ideal))) ⟨m', fun _ => 0, g'⟩ (fun r => ∀ c : Dev Cert.ReferenceFwdUpIdeal.nD,
          r.2.mem ((c.tc : Thread Cert.ReferenceFwdUpIdeal.nD Cert.ReferenceFwdUpIdeal.τ).loc Cert.ReferenceFwdUpIdeal.main_v7) = v0 c
          ∧ r.2.mem ((c.tc : Thread Cert.ReferenceFwdUpIdeal.nD Cert.ReferenceFwdUpIdeal.τ).loc Cert.ReferenceFwdUpIdeal.main_v8) = v1 c
          ∧ r.2.mem ((c.tc : Thread Cert.ReferenceFwdUpIdeal.nD Cert.ReferenceFwdUpIdeal.τ).loc Cert.ReferenceFwdUpIdeal.main_v9) = v2 c
          ∧ r.2.mem ((c.tc : Thread Cert.ReferenceFwdUpIdeal.nD Cert.ReferenceFwdUpIdeal.τ).loc Cert.ReferenceFwdUpIdeal.main_arg0) = m' ((c.tc : Thread Cert.ReferenceFwdUpIdeal.nD Cert.ReferenceFwdUpIdeal.τ).loc Cert.ReferenceFwdUpIdeal.main_arg0)
          ∧ r.2.mem ((c.tc : Thread Cert.ReferenceFwdUpIdeal.nD Cert.ReferenceFwdUpIdeal.τ).loc Cert.ReferenceFwdUpIdeal.main_arg1) = m' ((c.tc : Thread Cert.ReferenceFwdUpIdeal.nD Cert.ReferenceFwdUpIdeal.τ).loc Cert.ReferenceFwdUpIdeal.main_arg1))

def preserves_KernelFwdDown_KernelFwdDownIdeal : Prop :=
  True

def algebraic_KernelFwdDownIdeal_ReferenceFwdDownIdeal [hKernelFwdDownIdeal : Cert.KernelFwdDownIdeal.Facts] [hReferenceFwdDownIdeal : Cert.ReferenceFwdDownIdeal.Facts] : Prop :=
  ∀ (m : (ℓ : Loc Cert.KernelFwdDownIdeal.nD Cert.KernelFwdDownIdeal.τ Cert.KernelFwdDownIdeal.sig) → Buf (Elt Ideal) ℓ) (g : Dev Cert.KernelFwdDownIdeal.nD → PrngReg)
    (m' : (ℓ : Loc Cert.ReferenceFwdDownIdeal.nD Cert.ReferenceFwdDownIdeal.τ Cert.ReferenceFwdDownIdeal.sig) → Buf (Elt Ideal) ℓ) (g' : Dev Cert.ReferenceFwdDownIdeal.nD → PrngReg), Pre_KernelFwdDownIdeal m →
    (∀ c : Dev Cert.KernelFwdDownIdeal.nD,
      m' ((c.tc : Thread Cert.ReferenceFwdDownIdeal.nD Cert.ReferenceFwdDownIdeal.τ).loc Cert.ReferenceFwdDownIdeal.main_arg0) = m ((c.tc : Thread Cert.KernelFwdDownIdeal.nD Cert.KernelFwdDownIdeal.τ).loc Cert.KernelFwdDownIdeal.main_arg0)
      ∧ m' ((c.tc : Thread Cert.ReferenceFwdDownIdeal.nD Cert.ReferenceFwdDownIdeal.τ).loc Cert.ReferenceFwdDownIdeal.main_arg1) = m ((c.tc : Thread Cert.KernelFwdDownIdeal.nD Cert.KernelFwdDownIdeal.τ).loc Cert.KernelFwdDownIdeal.main_arg1)
      ∧ m' ((c.tc : Thread Cert.ReferenceFwdDownIdeal.nD Cert.ReferenceFwdDownIdeal.τ).loc Cert.ReferenceFwdDownIdeal.main_arg2) = m ((c.tc : Thread Cert.KernelFwdDownIdeal.nD Cert.KernelFwdDownIdeal.τ).loc Cert.KernelFwdDownIdeal.main_arg2)) →
    ∃ (v0 : (c : Dev Cert.KernelFwdDownIdeal.nD) → Buf (Elt Ideal) ((c.tc : Thread Cert.KernelFwdDownIdeal.nD Cert.KernelFwdDownIdeal.τ).loc Cert.KernelFwdDownIdeal.main_v0)),
      θ_run (Cert.KernelFwdDownIdeal.defs (F := Ideal)) (onTc (τ := Cert.KernelFwdDownIdeal.τ) (Cert.KernelFwdDownIdeal.main (F := Ideal))) ⟨m, fun _ => 0, g⟩ (fun r => ∀ c : Dev Cert.KernelFwdDownIdeal.nD,
          r.2.mem ((c.tc : Thread Cert.KernelFwdDownIdeal.nD Cert.KernelFwdDownIdeal.τ).loc Cert.KernelFwdDownIdeal.main_v0) = v0 c
          ∧ r.2.mem ((c.tc : Thread Cert.KernelFwdDownIdeal.nD Cert.KernelFwdDownIdeal.τ).loc Cert.KernelFwdDownIdeal.main_arg0) = m ((c.tc : Thread Cert.KernelFwdDownIdeal.nD Cert.KernelFwdDownIdeal.τ).loc Cert.KernelFwdDownIdeal.main_arg0)
          ∧ r.2.mem ((c.tc : Thread Cert.KernelFwdDownIdeal.nD Cert.KernelFwdDownIdeal.τ).loc Cert.KernelFwdDownIdeal.main_arg1) = m ((c.tc : Thread Cert.KernelFwdDownIdeal.nD Cert.KernelFwdDownIdeal.τ).loc Cert.KernelFwdDownIdeal.main_arg1)
          ∧ r.2.mem ((c.tc : Thread Cert.KernelFwdDownIdeal.nD Cert.KernelFwdDownIdeal.τ).loc Cert.KernelFwdDownIdeal.main_arg2) = m ((c.tc : Thread Cert.KernelFwdDownIdeal.nD Cert.KernelFwdDownIdeal.τ).loc Cert.KernelFwdDownIdeal.main_arg2))
      ∧ θ_run (Cert.ReferenceFwdDownIdeal.defs (F := Ideal)) (onTc (τ := Cert.ReferenceFwdDownIdeal.τ) (Cert.ReferenceFwdDownIdeal.main (F := Ideal))) ⟨m', fun _ => 0, g'⟩ (fun r => ∀ c : Dev Cert.ReferenceFwdDownIdeal.nD,
          r.2.mem ((c.tc : Thread Cert.ReferenceFwdDownIdeal.nD Cert.ReferenceFwdDownIdeal.τ).loc Cert.ReferenceFwdDownIdeal.main_v3) = v0 c
          ∧ r.2.mem ((c.tc : Thread Cert.ReferenceFwdDownIdeal.nD Cert.ReferenceFwdDownIdeal.τ).loc Cert.ReferenceFwdDownIdeal.main_arg0) = m' ((c.tc : Thread Cert.ReferenceFwdDownIdeal.nD Cert.ReferenceFwdDownIdeal.τ).loc Cert.ReferenceFwdDownIdeal.main_arg0)
          ∧ r.2.mem ((c.tc : Thread Cert.ReferenceFwdDownIdeal.nD Cert.ReferenceFwdDownIdeal.τ).loc Cert.ReferenceFwdDownIdeal.main_arg1) = m' ((c.tc : Thread Cert.ReferenceFwdDownIdeal.nD Cert.ReferenceFwdDownIdeal.τ).loc Cert.ReferenceFwdDownIdeal.main_arg1)
          ∧ r.2.mem ((c.tc : Thread Cert.ReferenceFwdDownIdeal.nD Cert.ReferenceFwdDownIdeal.τ).loc Cert.ReferenceFwdDownIdeal.main_arg2) = m' ((c.tc : Thread Cert.ReferenceFwdDownIdeal.nD Cert.ReferenceFwdDownIdeal.τ).loc Cert.ReferenceFwdDownIdeal.main_arg2))

def preserves_KernelAttn_KernelAttnIdeal : Prop :=
  IdealRules.named_const.Statement Cert.KernelAttnIdeal.κ "mask" .f32 0xF149F2CA#32 ⊥
  ∧ IdealRules.named_const.Statement Cert.KernelAttnIdeal.κ "scale2" .f32 0x3E16C740#32 (((Real.sqrt 96)⁻¹ * (Real.log 2)⁻¹ : ℝ) : EReal)
  ∧ IdealRules.named_const.Statement Cert.KernelAttnIdeal.κ "scale" .f32 0x3DD105EC#32 (((Real.sqrt 96)⁻¹ : ℝ) : EReal)

def algebraic_KernelAttnIdeal_ReferenceAttnIdeal_pre_finite_attn [hKernelAttnIdeal : Cert.KernelAttnIdeal.Facts] [hReferenceAttnIdeal : Cert.ReferenceAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_attn m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)) →
    ∃ (v0 : (c : Dev Cert.KernelAttnIdeal.nD) → Buf (Elt Ideal) ((c.tc : Thread Cert.KernelAttnIdeal.nD Cert.KernelAttnIdeal.τ).loc Cert.KernelAttnIdeal.main_v0_0)) (v1 : (c : Dev Cert.KernelAttnIdeal.nD) → Buf (Elt Ideal) ((c.tc : Thread Cert.KernelAttnIdeal.nD Cert.KernelAttnIdeal.τ).loc Cert.KernelAttnIdeal.main_v0_1)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v0_0) = v0 c
          ∧ r.2.mem ((c.tc : Thread Cert.KernelAttnIdeal.nD Cert.KernelAttnIdeal.τ).loc Cert.KernelAttnIdeal.main_v0_1) = v1 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v39) = v0 c
          ∧ r.2.mem ((c.tc : Thread Cert.ReferenceAttnIdeal.nD Cert.ReferenceAttnIdeal.τ).loc Cert.ReferenceAttnIdeal.main_v40) = v1 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3))

def Claim : Prop :=
  ∃ (hKernel : Cert.Kernel.Facts) (hKernelIdeal : Cert.KernelIdeal.Facts) (hReferenceIdeal : Cert.ReferenceIdeal.Facts) (hKernelGate : Cert.KernelGate.Facts) (hKernelGateIdeal : Cert.KernelGateIdeal.Facts) (hReferenceGateIdeal : Cert.ReferenceGateIdeal.Facts) (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelIn : Cert.KernelIn.Facts) (hKernelInIdeal : Cert.KernelInIdeal.Facts) (hReferenceInIdeal : Cert.ReferenceInIdeal.Facts) (hKernelFwdUp : Cert.KernelFwdUp.Facts) (hKernelFwdUpIdeal : Cert.KernelFwdUpIdeal.Facts) (hReferenceFwdUpIdeal : Cert.ReferenceFwdUpIdeal.Facts) (hKernelFwdDown : Cert.KernelFwdDown.Facts) (hKernelFwdDownIdeal : Cert.KernelFwdDownIdeal.Facts) (hReferenceFwdDownIdeal : Cert.ReferenceFwdDownIdeal.Facts) (hKernelAttn : Cert.KernelAttn.Facts) (hKernelAttnIdeal : Cert.KernelAttnIdeal.Facts) (hReferenceAttnIdeal : Cert.ReferenceAttnIdeal.Facts) (hPre_finite : Cert.Pre_finite.Facts) (hPre_finite_gate : Cert.Pre_finite_gate.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelGate (hKernelGate := hKernelGate)
    ∧ quiescent_KernelGateIdeal (hKernelGateIdeal := hKernelGateIdeal)
    ∧ quiescent_KernelGateIdeal_pre_finite_gate (hKernelGateIdeal := hKernelGateIdeal) (hPre_finite_gate := hPre_finite_gate)
    ∧ quiescent_ReferenceGateIdeal (hReferenceGateIdeal := hReferenceGateIdeal)
    ∧ quiescent_ReferenceGateIdeal_pre_finite_gate (hReferenceGateIdeal := hReferenceGateIdeal) (hPre_finite_gate := hPre_finite_gate)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelFwdUp (hKernelFwdUp := hKernelFwdUp)
    ∧ quiescent_KernelFwdUpIdeal (hKernelFwdUpIdeal := hKernelFwdUpIdeal)
    ∧ quiescent_ReferenceFwdUpIdeal (hReferenceFwdUpIdeal := hReferenceFwdUpIdeal)
    ∧ quiescent_KernelFwdDown (hKernelFwdDown := hKernelFwdDown)
    ∧ quiescent_KernelFwdDownIdeal (hKernelFwdDownIdeal := hKernelFwdDownIdeal)
    ∧ quiescent_ReferenceFwdDownIdeal (hReferenceFwdDownIdeal := hReferenceFwdDownIdeal)
    ∧ quiescent_KernelAttn (hKernelAttn := hKernelAttn)
    ∧ quiescent_KernelAttnIdeal (hKernelAttnIdeal := hKernelAttnIdeal)
    ∧ quiescent_KernelAttnIdeal_pre_finite_attn (hKernelAttnIdeal := hKernelAttnIdeal) (hPre_finite_attn := hPre_finite_attn)
    ∧ quiescent_ReferenceAttnIdeal (hReferenceAttnIdeal := hReferenceAttnIdeal)
    ∧ quiescent_ReferenceAttnIdeal_pre_finite_attn (hReferenceAttnIdeal := hReferenceAttnIdeal) (hPre_finite_attn := hPre_finite_attn)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelGate_KernelGateIdeal
    ∧ algebraic_KernelGateIdeal_ReferenceGateIdeal_pre_finite_gate (hKernelGateIdeal := hKernelGateIdeal) (hReferenceGateIdeal := hReferenceGateIdeal) (hPre_finite_gate := hPre_finite_gate)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
    ∧ preserves_KernelIn_KernelInIdeal
    ∧ algebraic_KernelInIdeal_ReferenceInIdeal (hKernelInIdeal := hKernelInIdeal) (hReferenceInIdeal := hReferenceInIdeal)
    ∧ preserves_KernelFwdUp_KernelFwdUpIdeal
    ∧ algebraic_KernelFwdUpIdeal_ReferenceFwdUpIdeal (hKernelFwdUpIdeal := hKernelFwdUpIdeal) (hReferenceFwdUpIdeal := hReferenceFwdUpIdeal)
    ∧ preserves_KernelFwdDown_KernelFwdDownIdeal
    ∧ algebraic_KernelFwdDownIdeal_ReferenceFwdDownIdeal (hKernelFwdDownIdeal := hKernelFwdDownIdeal) (hReferenceFwdDownIdeal := hReferenceFwdDownIdeal)
    ∧ preserves_KernelAttn_KernelAttnIdeal
    ∧ algebraic_KernelAttnIdeal_ReferenceAttnIdeal_pre_finite_attn (hKernelAttnIdeal := hKernelAttnIdeal) (hReferenceAttnIdeal := hReferenceAttnIdeal) (hPre_finite_attn := hPre_finite_attn)
-- ==== Pre_finite.lean ====
abbrev S16384x8x128 : Shape := ⟨3, ![16384, 8, 128]⟩
abbrev S_ : Shape := ⟨0, ![]⟩

class Facts : Prop where
  bcast_S_S16384x8x128 : S_.BroadcastsInDim S16384x8x128 (![] : Fin 0 → Fin S16384x8x128.rank)
  reducesTo_S16384x8x128_S_d0_1_2 : S16384x8x128.ReducesTo [0, 1, 2] S_
  h_S_ : 0 < S_.numel

variable [Facts]

def fn_part1 {F : FTy → Type} [FloatOps F] (main_v13 : IVec S_ 1) (main_v16 : IVec S16384x8x128 1) : IVec S_ 1 :=
  let main_c_5 : IVec S_ 1 := constantI S_ 1 1#1
  let main_v17 : IVec S_ 1 := (fun x v => Host.reduce IntOp.andi x v reducesTo_S16384x8x128_S_d0_1_2 h_S_) main_v16 main_c_5
  let main_v18 : IVec S_ 1 := andi main_v13 main_v17
  main_v18

def fn {F : FTy → Type} [FloatOps F] (main_arg0 : FVec F S16384x8x128 .f32) (main_arg1 : FVec F S16384x8x128 .f32) (main_arg2 : FVec F S16384x8x128 .f32) (main_arg3 : FVec F S16384x8x128 .f32) : IVec S_ 1 :=
  let main_v0 : FVec F S16384x8x128 .f32 := Host.absf main_arg0
  let main_cst : FVec F S_ .f32 := constant S_ .f32 0x7F800000#32
  let main_v1 : FVec F S16384x8x128 .f32 := broadcastInDim S16384x8x128 ![] bcast_S_S16384x8x128 main_cst
  let main_v2 : IVec S16384x8x128 1 := cmpf .olt main_v0 main_v1
  let main_c : IVec S_ 1 := constantI S_ 1 1#1
  let main_v3 : IVec S_ 1 := (fun x v => Host.reduce IntOp.andi x v reducesTo_S16384x8x128_S_d0_1_2 h_S_) main_v2 main_c
  let main_v4 : FVec F S16384x8x128 .f32 := Host.absf main_arg1
  let main_cst_0 : FVec F S_ .f32 := constant S_ .f32 0x7F800000#32
  let main_v5 : FVec F S16384x8x128 .f32 := broadcastInDim S16384x8x128 ![] bcast_S_S16384x8x128 main_cst_0
  let main_v6 : IVec S16384x8x128 1 := cmpf .olt main_v4 main_v5
  let main_c_1 : IVec S_ 1 := constantI S_ 1 1#1
  let main_v7 : IVec S_ 1 := (fun x v => Host.reduce IntOp.andi x v reducesTo_S16384x8x128_S_d0_1_2 h_S_) main_v6 main_c_1
  let main_v8 : IVec S_ 1 := andi main_v3 main_v7
  let main_v9 : FVec F S16384x8x128 .f32 := Host.absf main_arg2
  let main_cst_2 : FVec F S_ .f32 := constant S_ .f32 0x7F800000#32
  let main_v10 : FVec F S16384x8x128 .f32 := broadcastInDim S16384x8x128 ![] bcast_S_S16384x8x128 main_cst_2
  let main_v11 : IVec S16384x8x128 1 := cmpf .olt main_v9 main_v10
  let main_c_3 : IVec S_ 1 := constantI S_ 1 1#1
  let main_v12 : IVec S_ 1 := (fun x v => Host.reduce IntOp.andi x v reducesTo_S16384x8x128_S_d0_1_2 h_S_) main_v11 main_c_3
  let main_v13 : IVec S_ 1 := andi main_v8 main_v12
  let main_v14 : FVec F S16384x8x128 .f32 := Host.absf main_arg3
  let main_cst_4 : FVec F S_ .f32 := constant S_ .f32 0x7F800000#32
  let main_v15 : FVec F S16384x8x128 .f32 := broadcastInDim S16384x8x128 ![] bcast_S_S16384x8x128 main_cst_4
  let main_v16 : IVec S16384x8x128 1 := cmpf .olt main_v14 main_v15
  fn_part1 (F := F) main_v13 main_v16
-- ==== Pre_finite_attn.lean ====
abbrev S16384x1024 : Shape := ⟨2, ![16384, 1024]⟩
abbrev S16384x1536 : Shape := ⟨2, ![16384, 1536]⟩
abbrev S16384x8x128 : Shape := ⟨3, ![16384, 8, 128]⟩
abbrev S16384x8x1 : Shape := ⟨3, ![16384, 8, 1]⟩
abbrev S16384x8 : Shape := ⟨2, ![16384, 8]⟩
abbrev S_ : Shape := ⟨0, ![]⟩

class Facts : Prop where
  bitsLt_bf16_f32 : FTy.bits .bf16 < FTy.bits .f32
  shapeCasts_S16384x1024_S16384x8x128 : S16384x1024.ShapeCasts S16384x8x128
  slices_S16384x8x128_S16384x8x1_0_0_64 : S16384x8x128.Slices ![0, 0, 64] S16384x8x1
  shapeCasts_S16384x8x1_S16384x8 : S16384x8x1.ShapeCasts S16384x8
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_

variable [Facts]

def fn_part1 {F : FTy → Type} [FloatOps F] (main_v14 : IVec S_ 1) (main_v17 : IVec S_ 1) : IVec S_ 1 :=
  let main_v18 : IVec S_ 1 := andi main_v14 main_v17
  main_v18

def fn {F : FTy → Type} [FloatOps F] (main_arg0 : FVec F S16384x1024 .bf16) (main_arg1 : FVec F S16384x1024 .bf16) (main_arg2 : FVec F S16384x1024 .bf16) (main_arg3 : FVec F S16384x1536 .bf16) : IVec S_ 1 :=
  let main_v0 : FVec F S16384x1024 .f32 := (extf .f32 · bitsLt_bf16_f32) main_arg2
  let main_v1 : FVec F S16384x8x128 .f32 := shapeCast S16384x8x128 main_v0 shapeCasts_S16384x1024_S16384x8x128
  let main_v2 : FVec F S16384x8x1 .f32 := (extractStridedSlice S16384x8x1 ![0, 0, 64] · slices_S16384x8x128_S16384x8x1_0_0_64) main_v1
  let main_v3 : FVec F S16384x8 .f32 := shapeCast S16384x8 main_v2 shapeCasts_S16384x8x1_S16384x8
  let main_v4 : FVec F S16384x1024 .f32 := (extf .f32 · bitsLt_bf16_f32) main_arg0
  let main_v5 : FVec F S16384x1024 .f32 := Host.absf main_v4
  let main_cst : FVec F S_ .f32 := constant S_ .f32 0x7F800000#32
  let main_v6 : FVec F S16384x1024 .f32 := broadcastInDim S16384x1024 ![] bcast_S_S16384x1024 main_cst
  let main_v7 : IVec S16384x1024 1 := cmpf .olt main_v5 main_v6
  let main_c : IVec S_ 1 := constantI S_ 1 1#1
  let main_v8 : IVec S_ 1 := (fun x v => Host.reduce IntOp.andi x v reducesTo_S16384x1024_S_d0_1 h_S_) main_v7 main_c
  let main_v9 : FVec F S16384x1024 .f32 := (extf .f32 · bitsLt_bf16_f32) main_arg1
  let main_v10 : FVec F S16384x1024 .f32 := Host.absf main_v9
  let main_cst_0 : FVec F S_ .f32 := constant S_ .f32 0x7F800000#32
  let main_v11 : FVec F S16384x1024 .f32 := broadcastInDim S16384x1024 ![] bcast_S_S16384x1024 main_cst_0
  let main_v12 : IVec S16384x1024 1 := cmpf .olt main_v10 main_v11
  let main_c_1 : IVec S_ 1 := constantI S_ 1 1#1
  let main_v13 : IVec S_ 1 := (fun x v => Host.reduce IntOp.andi x v reducesTo_S16384x1024_S_d0_1 h_S_) main_v12 main_c_1
  let main_v14 : IVec S_ 1 := andi main_v8 main_v13
  let main_cst_2 : FVec F S_ .f32 := constant S_ .f32 0x3F800000#32
  let main_v15 : FVec F S16384x8 .f32 := broadcastInDim S16384x8 ![] bcast_S_S16384x8 main_cst_2
  let main_v16 : IVec S16384x8 1 := cmpf .oeq main_v3 main_v15
  let main_c_3 : IVec S_ 1 := constantI S_ 1 1#1
  let main_v17 : IVec S_ 1 := (fun x v => Host.reduce IntOp.andi x v reducesTo_S16384x8_S_d0_1 h_S_) main_v16 main_c_3
  fn_part1 (F := F) main_v14 main_v17
-- ==== Pre_finite_gate.lean ====
abbrev S16384x1024 : Shape := ⟨2, ![16384, 1024]⟩
abbrev S16384x2816 : Shape := ⟨2, ![16384, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S16384x2816 : S_.BroadcastsInDim S16384x2816 (![] : Fin 0 → Fin S16384x2816.rank)
  reducesTo_S16384x2816_S_d0_1 : S16384x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S16384x1024 .f32) (main_arg1 : FVec F S16384x2816 .bf16) (main_arg2 : FVec F S16384x2816 .bf16) (main_arg3 : FVec F S2816x1024 .bf16) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2816 .f32 := (extf .f32 · bitsLt_bf16_f32) main_arg2
  let main_v5 : FVec F S16384x2816 .f32 := Host.absf main_v4
  let main_cst_0 : FVec F S_ .f32 := constant S_ .f32 0x7F800000#32
  let main_v6 : FVec F S16384x2816 .f32 := broadcastInDim S16384x2816 ![] bcast_S_S16384x2816 main_cst_0
  let main_v7 : IVec S16384x2816 1 := cmpf .olt main_v5 main_v6
  let main_c_1 : IVec S_ 1 := constantI S_ 1 1#1
  let main_v8 : IVec S_ 1 := (fun x v => Host.reduce IntOp.andi x v reducesTo_S16384x2816_S_d0_1 h_S_) main_v7 main_c_1
  let main_v9 : IVec S_ 1 := andi main_v3 main_v8
  let main_v10 : FVec F S2816x1024 .f32 := (extf .f32 · bitsLt_bf16_f32) main_arg3
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v9 main_v14
  main_v15
-- ==== Kernel.lean ====
abbrev S16384x8x128 : Shape := ⟨3, ![16384, 8, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x16384x128 : Shape := ⟨3, ![8, 16384, 128]⟩
abbrev S16384x512 : Shape := ⟨2, ![16384, 512]⟩
abbrev S16384x1024 : Shape := ⟨2, ![16384, 1024]⟩
abbrev S16384x1536 : Shape := ⟨2, ![16384, 1536]⟩
abbrev S8x16x1x1024 : Shape := ⟨4, ![8, 16, 1, 1024]⟩
abbrev S8x16x8x1024 : Shape := ⟨4, ![8, 16, 8, 1024]⟩
abbrev S8x128x1024 : Shape := ⟨3, ![8, 128, 1024]⟩
abbrev S1x128x1024 : Shape := ⟨3, ![1, 128, 1024]⟩
abbrev S1024x128 : Shape := ⟨2, ![1024, 128]⟩
abbrev S16384x128 : Shape := ⟨2, ![16384, 128]⟩
abbrev S1x8x1024 : Shape := ⟨3, ![1, 8, 1024]⟩
abbrev S8x1024 : Shape := ⟨2, ![8, 1024]⟩
abbrev S1x1024 : Shape := ⟨2, ![1, 1024]⟩
abbrev S1x512 : Shape := ⟨2, ![1, 512]⟩
abbrev S512x128 : Shape := ⟨2, ![512, 128]⟩
abbrev S512x512 : Shape := ⟨2, ![512, 512]⟩
abbrev S1024x512 : Shape := ⟨2, ![1024, 512]⟩
abbrev S1024x1024 : Shape := ⟨2, ![1024, 1024]⟩

abbrev nBuf : Space → Nat
  | .hbm => 59
  | .vmem => 15
  | .smem => 0
  | _ => 0

abbrev bufTy : (tb : Table) → Fin (tcTables nBuf tb) → BufTy
  | .hbm, ⟨0, _⟩ => ⟨S16384x8x128, .f32⟩
  | .hbm, ⟨1, _⟩ => ⟨S16384x8x128, .f32⟩
  | .hbm, ⟨2, _⟩ => ⟨S16384x8x128, .f32⟩
  | .hbm, ⟨3, _⟩ => ⟨S16384x8x128, .f32⟩
  | .hbm, ⟨4, _⟩ => ⟨S8x16384x16384, .f32⟩
  | .hbm, ⟨5, _⟩ => ⟨S_, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S16384, .i32⟩
  | .hbm, ⟨10, _⟩ => ⟨S1x16384, .i32⟩
  | .hbm, ⟨11, _⟩ => ⟨S16384x1, .i32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S1x16384x16384, .i1⟩
  | .hbm, ⟨16, _⟩ => ⟨S_, .f32⟩
  | .hbm, ⟨17, _⟩ => ⟨S_, .f32⟩
  | .hbm, ⟨18, _⟩ => ⟨S8x16384x16384, .i1⟩
  | .hbm, ⟨19, _⟩ => ⟨S8x16384x16384, .f32⟩
  | .hbm, ⟨20, _⟩ => ⟨S8x16384x16384, .f32⟩
  | .hbm, ⟨21, _⟩ => ⟨S_, .f32⟩
  | .hbm, ⟨22, _⟩ => ⟨S8x16384, .f32⟩
  | .hbm, ⟨23, _⟩ => ⟨S8x16384x1, .f32⟩
  | .hbm, ⟨24, _⟩ => ⟨S8x16384x16384, .f32⟩
  | .hbm, ⟨25, _⟩ => ⟨S8x16384x16384, .f32⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S8x16384x1, .f32⟩
  | .hbm, ⟨30, _⟩ => ⟨S8x16384x1, .f32⟩
  | .hbm, ⟨31, _⟩ => ⟨S8x16384x1, .f32⟩
  | .hbm, ⟨32, _⟩ => ⟨S8x16384x16384, .f32⟩
  | .hbm, ⟨33, _⟩ => ⟨S8x16384x16384, .f32⟩
  | .hbm, ⟨34, _⟩ => ⟨S8x16384x128, .f32⟩
  | .hbm, ⟨35, _⟩ => ⟨S8x16384x128, .f32⟩
  | .hbm, ⟨36, _⟩ => ⟨S8x16384x128, .f32⟩
  | .hbm, ⟨37, _⟩ => ⟨S_, .f32⟩
  | .hbm, ⟨38, _⟩ => ⟨S8x16384, .f32⟩
  | .hbm, ⟨39, _⟩ => ⟨S_, .bf16⟩
  | .hbm, ⟨40, _⟩ => ⟨S16384x512, .bf16⟩
  | .hbm, ⟨41, _⟩ => ⟨S16384x1024, .f32⟩
  | .hbm, ⟨42, _⟩ => ⟨S16384x1024, .bf16⟩
  | .hbm, ⟨43, _⟩ => ⟨S16384x1536, .bf16⟩
  | .hbm, ⟨44, _⟩ => ⟨S16384x1024, .f32⟩
  | .hbm, ⟨45, _⟩ => ⟨S16384x1024, .bf16⟩
  | .hbm, ⟨46, _⟩ => ⟨S16384x1024, .f32⟩
  | .hbm, ⟨47, _⟩ => ⟨S16384x1024, .bf16⟩
  | .hbm, ⟨48, _⟩ => ⟨S16384x1024, .f32⟩
  | .hbm, ⟨49, _⟩ => ⟨S16384x1024, .bf16⟩
  | .hbm, ⟨50, _⟩ => ⟨S8x16x1x1024, .f32⟩
  | .hbm, ⟨51, _⟩ => ⟨S8x16x8x1024, .f32⟩
  | .hbm, ⟨52, _⟩ => ⟨S8x128x1024, .f32⟩
  | .hbm, ⟨53, _⟩ => ⟨S8x16x1x1024, .f32⟩
  | .hbm, ⟨54, _⟩ => ⟨S8x16x8x1024, .f32⟩
  | .hbm, ⟨55, _⟩ => ⟨S8x128x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S16384x128, .bf16⟩
  | .local _ .vmem, ⟨13, _⟩ => ⟨S16384x128, .bf16⟩
  | .local _ .vmem, ⟨14, _⟩ => ⟨S16384x128, .f32⟩
  | _, _ => ⟨S16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let c0_i32_46_r0 : BitVec 32 := 0#32
  let arg0 : BitVec 32 := BitVec.ofNat 32 (i 0).val
  let c128_i32 : BitVec 32 := 128#32
  let v0 : BitVec 32 := Scalar.muli arg0 c128_i32
  let v1 : BitVec 32 := v0
  ![0, v1.toNat]
def k0_off2 (i : grid0.Coords) : Fin 2 → Nat :=
  let c0_i32_46_r1 : BitVec 32 := 0#32
  let c512_i32_42 : BitVec 32 := 512#32
  let arg0 : BitVec 32 := BitVec.ofNat 32 (i 0).val
  let c128_i32 : BitVec 32 := 128#32
  let v0 : BitVec 32 := Scalar.muli arg0 c128_i32
  let v1 : BitVec 32 := v0
  let v118 : BitVec 32 := Scalar.addi c512_i32_42 v1
  ![0, v118.toNat]
def k0_mult2 (i : grid0.Coords) : BitVec 32 :=
  let arg1 : BitVec 32 := BitVec.ofNat 32 (i 1).val
  let c8_i32 : BitVec 32 := 8#32
  let v10 : BitVec 32 := Scalar.muli arg1 c8_i32
  v10
def k0_off3 (i : grid0.Coords) : Fin 3 → Nat :=
  let c0_4 : Index := 0#32
  let arg1 : BitVec 32 := BitVec.ofNat 32 (i 1).val
  let c8_i32 : BitVec 32 := 8#32
  let v10 : BitVec 32 := Scalar.muli arg1 c8_i32
  let v11 : BitVec 32 := v10
  let v12 : Index := Scalar.indexCast v11
  let c0_5 : Index := 0#32
  ![0, v12.toNat, 0]
def k0_mult3 (i : grid0.Coords) : BitVec 32 :=
  let arg1 : BitVec 32 := BitVec.ofNat 32 (i 1).val
  let c1024_i32 : BitVec 32 := 1024#32
  let v22 : BitVec 32 := Scalar.muli arg1 c1024_i32
  v22
def k0_off4 (i : grid0.Coords) : Fin 2 → Nat :=
  let arg1 : BitVec 32 := BitVec.ofNat 32 (i 1).val
  let c1024_i32 : BitVec 32 := 1024#32
  let v22 : BitVec 32 := Scalar.muli arg1 c1024_i32
  let v23 : BitVec 32 := v22
  let v26 : Index := Scalar.indexCast v23
  let c0_8 : Index := 0#32
  ![v26.toNat, 0]
def k0_mult4 (i : grid0.Coords) : BitVec 32 :=
  let arg1 : BitVec 32 := BitVec.ofNat 32 (i 1).val
  let c1024_i32 : BitVec 32 := 1024#32
  let v22 : BitVec 32 := Scalar.muli arg1 c1024_i32
  let v23 : BitVec 32 := v22
  let c512_i32 : BitVec 32 := 512#32
  let v62 : BitVec 32 := Scalar.addi v23 c512_i32
  v62
def k0_off5 (i : grid0.Coords) : Fin 2 → Nat :=
  let arg1 : BitVec 32 := BitVec.ofNat 32 (i 1).val
  let c1024_i32 : BitVec 32 := 1024#32
  let v22 : BitVec 32 := Scalar.muli arg1 c1024_i32
  let v23 : BitVec 32 := v22
  let c512_i32 : BitVec 32 := 512#32
  let v62 : BitVec 32 := Scalar.addi v23 c512_i32
  let v63 : BitVec 32 := v62
  let v66 : Index := Scalar.indexCast v63
  let c0_20 : Index := 0#32
  ![v66.toNat, 0]
@[reducible] def k0_t1_loop (i : grid0.Coords) : Scf.Loop 32 :=
  let arg1 : BitVec 32 := BitVec.ofNat 32 (i 1).val
  let c1_i32 : BitVec 32 := 1#32
  let v9 : BitVec 32 := Scalar.addi arg1 c1_i32
  let c16_i32 : BitVec 32 := 16#32
  let v104 : BitVec 32 := Scalar.subi c16_i32 v9
  let c1_i32_33 : BitVec 32 := 1#32
  let v106 : BitVec 32 := Scalar.divsi v104 c1_i32_33
  let v107 : BitVec 32 := Scalar.muli v106 c1_i32_33
  let v108 : BitVec 32 := Scalar.addi v9 v107
  let c1_i32_34 : BitVec 32 := 1#32
  ⟨v9, v108, c1_i32_34⟩
def k0_mult5 (i : grid0.Coords) (k0_t1 : Fin (k0_t1_loop i).trips) : BitVec 32 :=
  let arg1 : BitVec 32 := BitVec.ofNat 32 (i 1).val
  let c1_i32 : BitVec 32 := 1#32
  let v9 : BitVec 32 := Scalar.addi arg1 c1_i32
  let c1_i32_34 : BitVec 32 := 1#32
  let arg14 : BitVec 32 := Scf.iv v9 c1_i32_34 k0_t1
  let c1024_i32_42 : BitVec 32 := 1024#32
  let v118 : BitVec 32 := Scalar.muli arg14 c1024_i32_42
  v118
def k0_mult6 (i : grid0.Coords) (k0_t1 : Fin (k0_t1_loop i).trips) : BitVec 32 :=
  let arg1 : BitVec 32 := BitVec.ofNat 32 (i 1).val
  let c1_i32 : BitVec 32 := 1#32
  let v9 : BitVec 32 := Scalar.addi arg1 c1_i32
  let c1_i32_34 : BitVec 32 := 1#32
  let arg14 : BitVec 32 := Scf.iv v9 c1_i32_34 k0_t1
  let c8_i32_43 : BitVec 32 := 8#32
  let v120 : BitVec 32 := Scalar.muli arg14 c8_i32_43
  v120
def k0_off6 (i : grid0.Coords) (k0_t1 : Fin (k0_t1_loop i).trips) : Fin 3 → Nat :=
  let c0_44 : Index := 0#32
  let arg1 : BitVec 32 := BitVec.ofNat 32 (i 1).val
  let c1_i32 : BitVec 32 := 1#32
  let v9 : BitVec 32 := Scalar.addi arg1 c1_i32
  let c1_i32_34 : BitVec 32 := 1#32
  let arg14 : BitVec 32 := Scf.iv v9 c1_i32_34 k0_t1
  let c8_i32_43 : BitVec 32 := 8#32
  let v120 : BitVec 32 := Scalar.muli arg14 c8_i32_43
  let v121 : BitVec 32 := v120
  let v122 : Index := Scalar.indexCast v121
  let c0_45 : Index := 0#32
  ![0, v122.toNat, 0]
def k0_off7 (i : grid0.Coords) (k0_t1 : Fin (k0_t1_loop i).trips) : Fin 2 → Nat :=
  let arg1 : BitVec 32 := BitVec.ofNat 32 (i 1).val
  let c1_i32 : BitVec 32 := 1#32
  let v9 : BitVec 32 := Scalar.addi arg1 c1_i32
  let c1_i32_34 : BitVec 32 := 1#32
  let arg14 : BitVec 32 := Scf.iv v9 c1_i32_34 k0_t1
  let c1024_i32_42 : BitVec 32 := 1024#32
  let v118 : BitVec 32 := Scalar.muli arg14 c1024_i32_42
  let v119 : BitVec 32 := v118
  let v132 : Index := Scalar.indexCast v119
  let c0_49 : Index := 0#32
  ![v132.toNat, 0]
@[reducible] def k0_t2_loop (i : grid0.Coords) : Scf.Loop 32 :=
  let arg1 : BitVec 32 := BitVec.ofNat 32 (i 1).val
  let c1_i32 : BitVec 32 := 1#32
  let v9 : BitVec 32 := Scalar.addi arg1 c1_i32
  let c16_i32 : BitVec 32 := 16#32
  let v104 : BitVec 32 := Scalar.subi c16_i32 v9
  let c1_i32_33 : BitVec 32 := 1#32
  let v106 : BitVec 32 := Scalar.divsi v104 c1_i32_33
  let v107 : BitVec 32 := Scalar.muli v106 c1_i32_33
  let v108 : BitVec 32 := Scalar.addi v9 v107
  let v105 : BitVec 32 := Scalar.addi v9 v104
  let c1_i32_35 : BitVec 32 := 1#32
  ⟨v108, v105, c1_i32_35⟩
def k0_mult7 (i : grid0.Coords) (k0_t2 : Fin (k0_t2_loop i).trips) : BitVec 32 :=
  let arg1 : BitVec 32 := BitVec.ofNat 32 (i 1).val
  let c1_i32 : BitVec 32 := 1#32
  let v9 : BitVec 32 := Scalar.addi arg1 c1_i32
  let c16_i32 : BitVec 32 := 16#32
  let v104 : BitVec 32 := Scalar.subi c16_i32 v9
  let c1_i32_33 : BitVec 32 := 1#32
  let v106 : BitVec 32 := Scalar.divsi v104 c1_i32_33
  let v107 : BitVec 32 := Scalar.muli v106 c1_i32_33
  let v108 : BitVec 32 := Scalar.addi v9 v107
  let c1_i32_35 : BitVec 32 := 1#32
  let arg14 : BitVec 32 := Scf.iv v108 c1_i32_35 k0_t2
  let c1024_i32_42 : BitVec 32 := 1024#32
  let v118 : BitVec 32 := Scalar.muli arg14 c1024_i32_42
  v118
def k0_mult8 (i : grid0.Coords) (k0_t2 : Fin (k0_t2_loop i).trips) : BitVec 32 :=
  let arg1 : BitVec 32 := BitVec.ofNat 32 (i 1).val
  let c1_i32 : BitVec 32 := 1#32
  let v9 : BitVec 32 := Scalar.addi arg1 c1_i32
  let c16_i32 : BitVec 32 := 16#32
  let v104 : BitVec 32 := Scalar.subi c16_i32 v9
  let c1_i32_33 : BitVec 32 := 1#32
  let v106 : BitVec 32 := Scalar.divsi v104 c1_i32_33
  let v107 : BitVec 32 := Scalar.muli v106 c1_i32_33
  let v108 : BitVec 32 := Scalar.addi v9 v107
  let c1_i32_35 : BitVec 32 := 1#32
  let arg14 : BitVec 32 := Scf.iv v108 c1_i32_35 k0_t2
  let c8_i32_43 : BitVec 32 := 8#32
  let v120 : BitVec 32 := Scalar.muli arg14 c8_i32_43
  v120
def k0_off8 (i : grid0.Coords) (k0_t2 : Fin (k0_t2_loop i).trips) : Fin 3 → Nat :=
  let c0_44 : Index := 0#32
  let arg1 : BitVec 32 := BitVec.ofNat 32 (i 1).val
  let c1_i32 : BitVec 32 := 1#32
  let v9 : BitVec 32 := Scalar.addi arg1 c1_i32
  let c16_i32 : BitVec 32 := 16#32
  let v104 : BitVec 32 := Scalar.subi c16_i32 v9
  let c1_i32_33 : BitVec 32 := 1#32
  let v106 : BitVec 32 := Scalar.divsi v104 c1_i32_33
  let v107 : BitVec 32 := Scalar.muli v106 c1_i32_33
  let v108 : BitVec 32 := Scalar.addi v9 v107
  let c1_i32_35 : BitVec 32 := 1#32
  let arg14 : BitVec 32 := Scf.iv v108 c1_i32_35 k0_t2
  let c8_i32_43 : BitVec 32 := 8#32
  let v120 : BitVec 32 := Scalar.muli arg14 c8_i32_43
  let v121 : BitVec 32 := v120
  let v122 : Index := Scalar.indexCast v121
  let c0_45 : Index := 0#32
  ![0, v122.toNat, 0]
def k0_off9 (i : grid0.Coords) (k0_t2 : Fin (k0_t2_loop i).trips) : Fin 2 → Nat :=
  let arg1 : BitVec 32 := BitVec.ofNat 32 (i 1).val
  let c1_i32 : BitVec 32 := 1#32
  let v9 : BitVec 32 := Scalar.addi arg1 c1_i32
  let c16_i32 : BitVec 32 := 16#32
  let v104 : BitVec 32 := Scalar.subi c16_i32 v9
  let c1_i32_33 : BitVec 32 := 1#32
  let v106 : BitVec 32 := Scalar.divsi v104 c1_i32_33
  let v107 : BitVec 32 := Scalar.muli v106 c1_i32_33
  let v108 : BitVec 32 := Scalar.addi v9 v107
  let c1_i32_35 : BitVec 32 := 1#32
  let arg14 : BitVec 32 := Scf.iv v108 c1_i32_35 k0_t2
  let c1024_i32_42 : BitVec 32 := 1024#32
  let v118 : BitVec 32 := Scalar.muli arg14 c1024_i32_42
  let v119 : BitVec 32 := v118
  let v132 : Index := Scalar.indexCast v119
  let c0_49 : Index := 0#32
  ![v132.toNat, 0]
def k0_cond2 (i : grid0.Coords) : BitVec 1 :=
  let arg1 : BitVec 32 := BitVec.ofNat 32 (i 1).val
  let c15_i32 : BitVec 32 := 15#32
  let v115 : BitVec 1 := Scalar.cmpi .eq arg1 c15_i32
  let v116 : BitVec 32 := Scalar.extui v115
  let c0_i32_41 : BitVec 32 := 0#32
  let v117 : BitVec 1 := Scalar.cmpi .ne v116 c0_i32_41
  v117

def k0_off10 (i : grid0.Coords) : Fin 2 → Nat :=
  let c0_i32_47_r2 : BitVec 32 := 0#32
  let arg0 : BitVec 32 := BitVec.ofNat 32 (i 0).val
  let c128_i32 : BitVec 32 := 128#32
  let v0 : BitVec 32 := Scalar.muli arg0 c128_i32
  let v1 : BitVec 32 := v0
  ![0, v1.toNat]
def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some (((Real.sqrt 96)⁻¹ : ℝ) : EReal)
  | "scale2" => some (((Real.sqrt 96)⁻¹ * (Real.log 2)⁻¹ : ℝ) : EReal)
  | _ => none
-- ==== ReferenceIdeal.lean ====
abbrev S16384x8x128 : Shape := ⟨3, ![16384, 8, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S8x16384x128 : Shape := ⟨3, ![8, 16384, 128]⟩
abbrev S16384x1024 : Shape := ⟨2, ![16384, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16384x8x128, .f32⟩
  | .hbm, ⟨1, _⟩ => ⟨S16384x8x128, .f32⟩
  | .hbm, ⟨2, _⟩ => ⟨S16384x8x128, .f32⟩
  | .hbm, ⟨3, _⟩ => ⟨S16384x8x128, .f32⟩
  | .hbm, ⟨4, _⟩ => ⟨S8x16384x16384, .f32⟩
  | .hbm, ⟨5, _⟩ => ⟨S_, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S16384, .i32⟩
  | .hbm, ⟨10, _⟩ => ⟨S1x16384, .i32⟩
  | .hbm, ⟨11, _⟩ => ⟨S16384x1, .i32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S1x16384x16384, .i1⟩
  | .hbm, ⟨16, _⟩ => ⟨S_, .f32⟩
  | .hbm, ⟨17, _⟩ => ⟨S_, .f32⟩
  | .hbm, ⟨18, _⟩ => ⟨S8x16384x16384, .i1⟩
  | .hbm, ⟨19, _⟩ => ⟨S8x16384x16384, .f32⟩
  | .hbm, ⟨20, _⟩ => ⟨S8x16384x16384, .f32⟩
  | .hbm, ⟨21, _⟩ => ⟨S_, .f32⟩
  | .hbm, ⟨22, _⟩ => ⟨S8x16384x16384, .f32⟩
  | .hbm, ⟨23, _⟩ => ⟨S_, .f32⟩
  | .hbm, ⟨24, _⟩ => ⟨S8x16384, .f32⟩
  | .hbm, ⟨25, _⟩ => ⟨S8x16384x1, .f32⟩
  | .hbm, ⟨26, _⟩ => ⟨S8x16384x16384, .f32⟩
  | .hbm, ⟨27, _⟩ => ⟨S8x16384x16384, .i1⟩
  | .hbm, ⟨28, _⟩ => ⟨S8x16384x16384, .f32⟩
  | .hbm, ⟨29, _⟩ => ⟨S_, .f32⟩
  | .hbm, ⟨30, _⟩ => ⟨S8x16384, .f32⟩
  | .hbm, ⟨31, _⟩ => ⟨S_, .f32⟩
  | .hbm, ⟨32, _⟩ => ⟨S8x16384, .f32⟩
  | .hbm, ⟨33, _⟩ => ⟨S8x16384, .f32⟩
  | .hbm, ⟨34, _⟩ => ⟨S_, .f32⟩
  | .hbm, ⟨35, _⟩ => ⟨S8x16384, .f32⟩
  | .hbm, ⟨36, _⟩ => ⟨S8x16384, .i1⟩
  | .hbm, ⟨37, _⟩ => ⟨S_, .f32⟩
  | .hbm, ⟨38, _⟩ => ⟨S8x16384, .f32⟩
  | .hbm, ⟨39, _⟩ => ⟨S8x16384, .i1⟩
  | .hbm, ⟨40, _⟩ => ⟨S_, .f32⟩
  | .hbm, ⟨41, _⟩ => ⟨S8x16384, .f32⟩
  | .hbm, ⟨42, _⟩ => ⟨S_, .f32⟩
  | .hbm, ⟨43, _⟩ => ⟨S8x16384, .f32⟩
  | .hbm, ⟨44, _⟩ => ⟨S_, .f32⟩
  | .hbm, ⟨45, _⟩ => ⟨S8x16384, .f32⟩
  | .hbm, ⟨46, _⟩ => ⟨S8x16384, .f32⟩
  | .hbm, ⟨47, _⟩ => ⟨S8x16384, .f32⟩
  | .hbm, ⟨48, _⟩ => ⟨S8x16384x1, .f32⟩
  | .hbm, ⟨49, _⟩ => ⟨S8x16384x16384, .f32⟩
  | .hbm, ⟨50, _⟩ => ⟨S8x16384x16384, .f32⟩
  | .hbm, ⟨51, _⟩ => ⟨S8x16384x16384, .f32⟩
  | .hbm, ⟨52, _⟩ => ⟨S_, .f32⟩
  | .hbm, ⟨53, _⟩ => ⟨S8x16384, .f32⟩
  | .hbm, ⟨54, _⟩ => ⟨S8x16384x1, .f32⟩
  | .hbm, ⟨55, _⟩ => ⟨S8x16384x16384, .f32⟩
  | .hbm, ⟨56, _⟩ => ⟨S8x16384x16384, .f32⟩
  | .hbm, ⟨57, _⟩ => ⟨S8x16384x1, .f32⟩
  | .hbm, ⟨58, _⟩ => ⟨S_, .f32⟩
  | .hbm, ⟨59, _⟩ => ⟨S8x16384x1, .f32⟩
  | .hbm, ⟨60, _⟩ => ⟨S8x16384x1, .f32⟩
  | .hbm, ⟨61, _⟩ => ⟨S8x128x16384, .f32⟩
  | .hbm, ⟨62, _⟩ => ⟨S16384x8x128, .f32⟩
  | .hbm, ⟨63, _⟩ => ⟨S8x128x16384, .f32⟩
  | .hbm, ⟨64, _⟩ => ⟨S8x16384x16384, .f32⟩
  | .hbm, ⟨65, _⟩ => ⟨S8x128x16384, .f32⟩
  | .hbm, ⟨66, _⟩ => ⟨S16384x8x128, .f32⟩
  | .hbm, ⟨67, _⟩ => ⟨S8x16384x16384, .f32⟩
  | .hbm, ⟨68, _⟩ => ⟨S8x16384x16384, .f32⟩
  | .hbm, ⟨69, _⟩ => ⟨S8x16384x16384, .f32⟩
  | .hbm, ⟨70, _⟩ => ⟨S_, .f32⟩
  | .hbm, ⟨71, _⟩ => ⟨S8x16384, .f32⟩
  | .hbm, ⟨72, _⟩ => ⟨S8x16384x1, .f32⟩
  | .hbm, ⟨73, _⟩ => ⟨S8x16384x1, .f32⟩
  | .hbm, ⟨74, _⟩ => ⟨S8x16384x16384, .f32⟩
  | .hbm, ⟨75, _⟩ => ⟨S8x16384x16384, .f32⟩
  | .hbm, ⟨76, _⟩ => ⟨S_, .f32⟩
  | .hbm, ⟨77, _⟩ => ⟨S8x16384, .f32⟩
  | .hbm, ⟨78, _⟩ => ⟨S8x16384x16384, .f32⟩
  | .hbm, ⟨79, _⟩ => ⟨S8x16384x16384, .f32⟩
  | .hbm, ⟨80, _⟩ => ⟨S8x16384x16384, .f32⟩
  | .hbm, ⟨81, _⟩ => ⟨S_, .f32⟩
  | .hbm, ⟨82, _⟩ => ⟨S8x16384x16384, .f32⟩
  | .hbm, ⟨83, _⟩ => ⟨S8x16384x16384, .f32⟩
  | .hbm, ⟨84, _⟩ => ⟨S8x16384x16384, .f32⟩
  | .hbm, ⟨85, _⟩ => ⟨S8x16384x16384, .f32⟩
  | .hbm, ⟨86, _⟩ => ⟨S8x16384x128, .f32⟩
  | .hbm, ⟨87, _⟩ => ⟨S16384x8x128, .f32⟩
  | .hbm, ⟨88, _⟩ => ⟨S8x16384x128, .f32⟩
  | .hbm, ⟨89, _⟩ => ⟨S16384x8x128, .f32⟩
  | .hbm, ⟨90, _⟩ => ⟨S16384x1024, .f32⟩
  | .hbm, ⟨91, _⟩ => ⟨S16384x1024, .f32⟩
  | .hbm, ⟨92, _⟩ => ⟨S16384x1024, .f32⟩
  | _, _ => ⟨S16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== KernelGate.lean ====
abbrev S16384x1024 : Shape := ⟨2, ![16384, 1024]⟩
abbrev S16384x2816 : Shape := ⟨2, ![16384, 2816]⟩
abbrev S2816x1024 : Shape := ⟨2, ![2816, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S16384x2816, .bf16⟩
  | .hbm, ⟨3, _⟩ => ⟨S2816x1024, .bf16⟩
  | .hbm, ⟨4, _⟩ => ⟨S16384x2816, .bf16⟩
  | .hbm, ⟨5, _⟩ => ⟨S16384x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceGateIdeal.lean ====
abbrev S16384x1024 : Shape := ⟨2, ![16384, 1024]⟩
abbrev S16384x2816 : Shape := ⟨2, ![16384, 2816]⟩
abbrev S2816x1024 : Shape := ⟨2, ![2816, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S16384x2816, .bf16⟩
  | .hbm, ⟨3, _⟩ => ⟨S2816x1024, .bf16⟩
  | .hbm, ⟨4, _⟩ => ⟨S16384x2816, .f32⟩
  | .hbm, ⟨5, _⟩ => ⟨S16384x2816, .f32⟩
  | .hbm, ⟨6, _⟩ => ⟨S2816x1024, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .bf16⟩
  | .hbm, ⟨30, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== KernelDown.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S16384x2816, .f32⟩
  | .hbm, ⟨3, _⟩ => ⟨S_, .f32⟩
  | .hbm, ⟨4, _⟩ => ⟨S2816x1024, .f32⟩
  | .hbm, ⟨5, _⟩ => ⟨S16384x1024, .f32⟩
  | .hbm, ⟨6, _⟩ => ⟨S1024x2816, .f32⟩
  | .hbm, ⟨7, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUp.lean ====
abbrev S16384x1024 : Shape := ⟨2, ![16384, 1024]⟩
abbrev S16384x2816 : Shape := ⟨2, ![16384, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x2816, .bf16⟩
  | .hbm, ⟨3, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .f32⟩
  | .local _ .vmem, ⟨7, _⟩ => ⟨S1x1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let v6 : BitVec 32 := Scalar.extui v5
  let c0_i32_3 : BitVec 32 := 0#32
  let v7 : BitVec 1 := Scalar.cmpi .slt arg0 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi arg0 c2_i32
  let c0_i32_6 : BitVec 32 := 0#32
  let v17 : BitVec 1 := Scalar.cmpi .ne v16 c0_i32_6
  let v18 : BitVec 1 := Scalar.andi v15 v17
  let v4 : BitVec 32 := Scalar.divsi arg0 c2_i32
  let c1_i32 : BitVec 32 := 1#32
  let v19 : BitVec 32 := Scalar.subi v4 c1_i32
  let v20 : BitVec 32 := Scalar.select v18 v19 v4
  let c0_i32_7 : BitVec 32 := 0#32
  let v21 : BitVec 1 := Scalar.cmpi .eq v20 c0_i32_7
  let v22 : BitVec 32 := Scalar.extui v21
  let c0_i32_8 : BitVec 32 := 0#32
  let v23 : BitVec 1 := Scalar.cmpi .ne v22 c0_i32_8
  v23

def k0_cond3 (i : grid0.Coords) : BitVec 1 :=
  let arg0 : BitVec 32 := BitVec.ofNat 32 (i 0).val
  let c0_i32_10 : BitVec 32 := 0#32
  let v25 : BitVec 1 := Scalar.cmpi .sgt arg0 c0_i32_10
  let v26 : BitVec 32 := Scalar.extui v25
  let c0_i32_11 : BitVec 32 := 0#32
  let v27 : BitVec 1 := Scalar.cmpi .slt arg0 c0_i32_11
  let v28 : BitVec 32 := Scalar.extui v27
  let v29 : BitVec 32 := Scalar.subi v26 v28
  let c2_i32_9 : BitVec 32 := 2#32
  let c0_i32_12 : BitVec 32 := 0#32
  let v30 : BitVec 1 := Scalar.cmpi .sgt c2_i32_9 c0_i32_12
  let v31 : BitVec 32 := Scalar.extui v30
  let c0_i32_13 : BitVec 32 := 0#32
  let v32 : BitVec 1 := Scalar.cmpi .slt c2_i32_9 c0_i32_13
  let v33 : BitVec 32 := Scalar.extui v32
  let v34 : BitVec 32 := Scalar.subi v31 v33
  let v35 : BitVec 1 := Scalar.cmpi .ne v29 v34
  let v36 : BitVec 32 := Scalar.remsi arg0 c2_i32_9
  let c0_i32_14 : BitVec 32 := 0#32
  let v37 : BitVec 1 := Scalar.cmpi .ne v36 c0_i32_14
  let v38 : BitVec 1 := Scalar.andi v35 v37
  let v24 : BitVec 32 := Scalar.divsi arg0 c2_i32_9
  let c1_i32_15 : BitVec 32 := 1#32
  let v39 : BitVec 32 := Scalar.subi v24 c1_i32_15
  let v40 : BitVec 32 := Scalar.select v38 v39 v24
  let c1_i32_16 : BitVec 32 := 1#32
  let v41 : BitVec 1 := Scalar.cmpi .eq v40 c1_i32_16
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg1 c0_i32_5
  let c0_i32_6 : BitVec 32 := 0#32
  let v19 : BitVec 32 := Scalar.subi arg0 c0_i32_6
  let c0_i32_7 : BitVec 32 := 0#32
  let c1_i32_8 : BitVec 32 := 1#32
  let v20 : BitVec 32 := Scalar.maxsi c0_i32_7 v19
  let v21 : BitVec 32 := Scalar.minsi c1_i32_8 v20
  let c0_i32_9 : BitVec 32 := 0#32
  ![v18.toNat, v21.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg1 c0_i32_5
  let c2_i32_6 : BitVec 32 := 2#32
  let v19 : BitVec 32 := Scalar.subi arg0 c2_i32_6
  let c0_i32_7 : BitVec 32 := 0#32
  let c1_i32_8 : BitVec 32 := 1#32
  let v20 : BitVec 32 := Scalar.maxsi c0_i32_7 v19
  let v21 : BitVec 32 := Scalar.minsi c1_i32_8 v20
  let c0_i32_9 : BitVec 32 := 0#32
  ![v18.toNat, v21.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceUpIdeal.lean ====
abbrev S16384x1024 : Shape := ⟨2, ![16384, 1024]⟩
abbrev S16384x2816 : Shape := ⟨2, ![16384, 2816]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x2816, .bf16⟩
  | .hbm, ⟨3, _⟩ => ⟨S16384x1024, .f32⟩
  | .hbm, ⟨4, _⟩ => ⟨S16384x5632, .bf16⟩
  | .hbm, ⟨5, _⟩ => ⟨S16384x5632, .f32⟩
  | .hbm, ⟨6, _⟩ => ⟨S_, .f32⟩
  | .hbm, ⟨7, _⟩ => ⟨S1024x5632, .f32⟩
  | .hbm, ⟨8, _⟩ => ⟨S16384x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelIn.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S512x2816 : Shape := ⟨2, ![512, 2816]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceInIdeal.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S1024x5632, .f32⟩
  | .hbm, ⟨7, _⟩ => ⟨S16384x5632, .bf16⟩
  | .hbm, ⟨8, _⟩ => ⟨S16384x5632, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x5632, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelFwdUp.lean ====
abbrev S16384x1024 : Shape := ⟨2, ![16384, 1024]⟩
abbrev S1024x5632 : Shape := ⟨2, ![1024, 5632]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x2816, .bf16⟩
  | .hbm, ⟨3, _⟩ => ⟨S16384x2816, .bf16⟩
  | .hbm, ⟨4, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFwdUpIdeal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .bf16⟩
  | .hbm, ⟨18, _⟩ => ⟨S16384x2816, .bf16⟩
  | .hbm, ⟨19, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== KernelFwdDown.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceFwdDownIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelAttn.lean ====
abbrev S16384x1024 : Shape := ⟨2, ![16384, 1024]⟩
abbrev S16384x1536 : Shape := ⟨2, ![16384, 1536]⟩
abbrev S8x128x1024 : Shape := ⟨3, ![8, 128, 1024]⟩
abbrev S1024x256 : Shape := ⟨2, ![1024, 256]⟩
abbrev S16384x256 : Shape := ⟨2, ![16384, 256]⟩
abbrev S2x8x1024 : Shape := ⟨3, ![2, 8, 1024]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩
abbrev S128x1024 : Shape := ⟨2, ![128, 1024]⟩
abbrev S8x1024 : Shape := ⟨2, ![8, 1024]⟩
abbrev S1x8x1024 : Shape := ⟨3, ![1, 8, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1536, .bf16⟩
  | .hbm, ⟨4, _⟩ => ⟨S16384x1536, .bf16⟩
  | .hbm, ⟨5, _⟩ => ⟨S8x128x1024, .f32⟩
  | .local _ .vmem, ⟨0, _⟩ => ⟨S1024x256, .bf16⟩
  | .local _ .vmem, ⟨1, _⟩ => ⟨S1024x256, .bf16⟩
  | .local _ .vmem, ⟨2, _⟩ => ⟨S16384x256, .bf16⟩
  | .local _ .vmem, ⟨3, _⟩ => ⟨S16384x256, .bf16⟩
  | .local _ .vmem, ⟨4, _⟩ => ⟨S16384x256, .bf16⟩
  | .local _ .vmem, ⟨5, _⟩ => ⟨S16384x256, .bf16⟩
  | .local _ .vmem, ⟨6, _⟩ => ⟨S1024x256, .bf16⟩
  | .local _ .vmem, ⟨7, _⟩ => ⟨S1024x256, .bf16⟩
  | .local _ .vmem, ⟨8, _⟩ => ⟨S2x8x1024, .f32⟩
  | .local _ .vmem, ⟨9, _⟩ => ⟨S2x8x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_3 : BitVec 32 := 1#32
  ⟨c0_i32, v8, c1_i32_3⟩
def k0_mult1 (i : grid0.Coords) (k0_t1 : Fin (k0_t1_loop i).trips) : BitVec 32 :=
  let c0_i32 : BitVec 32 := 0#32
  let c1_i32_3 : BitVec 32 := 1#32
  let arg8 : BitVec 32 := Scf.iv c0_i32 c1_i32_3 k0_t1
  let c1024_i32_32 : BitVec 32 := 1024#32
  let v99 : BitVec 32 := Scalar.muli arg8 c1024_i32_32
  v99
def k0_off1 (i : grid0.Coords) (k0_t1 : Fin (k0_t1_loop i).trips) : Fin 2 → Nat :=
  let c0_i32 : BitVec 32 := 0#32
  let c1_i32_3 : BitVec 32 := 1#32
  let arg8 : BitVec 32 := Scf.iv c0_i32 c1_i32_3 k0_t1
  let c1024_i32_32 : BitVec 32 := 1024#32
  let v99 : BitVec 32 := Scalar.muli arg8 c1024_i32_32
  let v100 : BitVec 32 := v99
  let v101 : Index := Scalar.indexCast v100
  let c0_33 : Index := 0#32
  ![v101.toNat, 0]
def k0_off2 (i : grid0.Coords) (k0_t1 : Fin (k0_t1_loop i).trips) : Fin 2 → Nat :=
  let c0_i32 : BitVec 32 := 0#32
  let c1_i32_3 : BitVec 32 := 1#32
  let arg8 : BitVec 32 := Scf.iv c0_i32 c1_i32_3 k0_t1
  let c1024_i32_32 : BitVec 32 := 1024#32
  let v99 : BitVec 32 := Scalar.muli arg8 c1024_i32_32
  let v100 : BitVec 32 := v99
  let v123 : Index := Scalar.indexCast v100
  let c128_40 : Index := 128#32
  ![v123.toNat, 128]
@[reducible] def k0_t2_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_4 : BitVec 32 := 1#32
  ⟨v8, v5, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg8 : BitVec 32 := Scf.iv v8 c1_i32_4 k0_t2
  let c1024_i32_32 : BitVec 32 := 1024#32
  let v99 : BitVec 32 := Scalar.muli arg8 c1024_i32_32
  v99
def k0_off3 (i : grid0.Coords) (k0_t2 : Fin (k0_t2_loop i).trips) : Fin 2 → Nat :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg8 : BitVec 32 := Scf.iv v8 c1_i32_4 k0_t2
  let c1024_i32_32 : BitVec 32 := 1024#32
  let v99 : BitVec 32 := Scalar.muli arg8 c1024_i32_32
  let v100 : BitVec 32 := v99
  let v101 : Index := Scalar.indexCast v100
  let c0_33 : Index := 0#32
  ![v101.toNat, 0]
def k0_off4 (i : grid0.Coords) (k0_t2 : Fin (k0_t2_loop i).trips) : Fin 2 → Nat :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg8 : BitVec 32 := Scf.iv v8 c1_i32_4 k0_t2
  let c1024_i32_32 : BitVec 32 := 1024#32
  let v99 : BitVec 32 := Scalar.muli arg8 c1024_i32_32
  let v100 : BitVec 32 := v99
  let v123 : Index := Scalar.indexCast v100
  let c128_40 : Index := 128#32
  ![v123.toNat, 128]
def k0_mult3 (i : grid0.Coords) : BitVec 32 :=
  let arg1 : BitVec 32 := BitVec.ofNat 32 (i 1).val
  let c1024_i32 : BitVec 32 := 1024#32
  let v11 : BitVec 32 := Scalar.muli arg1 c1024_i32
  v11
def k0_off5 (i : grid0.Coords) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  let c0_5 : Index := 0#32
  ![v13.toNat, 0]
def k0_off6 (i : grid0.Coords) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v40 : Index := Scalar.indexCast v12
  let c128_13 : Index := 128#32
  ![v40.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelAttnIdeal.lean ====
variable {F : FTy → Type} [FloatOps F] [Named F]
def κ : String → Option EReal := fun
  | "log2e" => some (((Real.log 2)⁻¹ : ℝ) : EReal)
  | "mask" => some ⊥
  | "scale" => some (((Real.sqrt 96)⁻¹ : ℝ) : EReal)
  | "scale2" => some (((Real.sqrt 96)⁻¹ * (Real.log 2)⁻¹ : ℝ) : EReal)
  | _ => none
-- ==== ReferenceAttnIdeal.lean ====
abbrev S16384x1024 : Shape := ⟨2, ![16384, 1024]⟩
abbrev S16384x1536 : Shape := ⟨2, ![16384, 1536]⟩
abbrev S16384x8x128 : Shape := ⟨3, ![16384, 8, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S8x16x1x1024 : Shape := ⟨4, ![8, 16, 1, 1024]⟩
abbrev S8x16x8x1024 : Shape := ⟨4, ![8, 16, 8, 1024]⟩
abbrev S16384x512 : Shape := ⟨2, ![16384, 512]⟩
abbrev S8x128x1024 : Shape := ⟨3, ![8, 128, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1536, .bf16⟩
  | .hbm, ⟨4, _⟩ => ⟨S16384x1024, .f32⟩
  | .hbm, ⟨5, _⟩ => ⟨S16384x8x128, .f32⟩
  | .hbm, ⟨6, _⟩ => ⟨S16384x1024, .f32⟩
  | .hbm, ⟨7, _⟩ => ⟨S16384x8x128, .f32⟩
  | .hbm, ⟨8, _⟩ => ⟨S16384x1024, .f32⟩
  | .hbm, ⟨9, _⟩ => ⟨S16384x8x128, .f32⟩
  | .hbm, ⟨10, _⟩ => ⟨S8x16384x16384, .f32⟩
  | .hbm, ⟨11, _⟩ => ⟨S_, .f32⟩
  | .hbm, ⟨12, _⟩ => ⟨S_, .f32⟩
  | .hbm, ⟨13, _⟩ => ⟨S8x16384x16384, .f32⟩
  | .hbm, ⟨14, _⟩ => ⟨S8x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S1x16384x16384, .i1⟩
  | .hbm, ⟨22, _⟩ => ⟨S_, .f32⟩
  | .hbm, ⟨23, _⟩ => ⟨S_, .f32⟩
  | .hbm, ⟨24, _⟩ => ⟨S8x16384x16384, .i1⟩
  | .hbm, ⟨25, _⟩ => ⟨S8x16384x16384, .f32⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S8x16384x1, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S_, .f32⟩
  | .hbm, ⟨37, _⟩ => ⟨S8x16384, .f32⟩
  | .hbm, ⟨38, _⟩ => ⟨S8x16384x1, .f32⟩
  | .hbm, ⟨39, _⟩ => ⟨S8x16384x16384, .f32⟩
  | .hbm, ⟨40, _⟩ => ⟨S8x16384x16384, .f32⟩
  | .hbm, ⟨41, _⟩ => ⟨S8x128x16384, .f32⟩
  | .hbm, ⟨42, _⟩ => ⟨S16384x8x128, .f32⟩
  | .hbm, ⟨43, _⟩ => ⟨S8x16384x16384, .f32⟩
  | .hbm, ⟨44, _⟩ => ⟨S_, .f32⟩
  | .hbm, ⟨45, _⟩ => ⟨S8x16384, .f32⟩
  | .hbm, ⟨46, _⟩ => ⟨S8x16384, .f32⟩
  | .hbm, ⟨47, _⟩ => ⟨S8x16x1x1024, .f32⟩
  | .hbm, ⟨48, _⟩ => ⟨S8x16x8x1024, .f32⟩
  | .hbm, ⟨49, _⟩ => ⟨S16384x1024, .f32⟩
  | .hbm, ⟨50, _⟩ => ⟨S16384x1024, .bf16⟩
  | .hbm, ⟨51, _⟩ => ⟨S16384x512, .bf16⟩
  | .hbm, ⟨52, _⟩ => ⟨S16384x1536, .bf16⟩
  | .hbm, ⟨53, _⟩ => ⟨S8x128x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.Loop.lean ====
module

public import proofs.«01_k».proof.Proof.Gen.KernelIdeal.Loops
public import proofs.«01_k».proof.Proof.Gen.KernelIdeal.Frame
public import Idealize.ShloMosaic.Lib.Pipeline.Routed
public import Idealize.ShloMosaic.Lib.LoopRemainder

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UC sig nD τ) ℕ

/-- The three scratch buffers and the three arrays left in HBM. -/
abbrev Mq : Memref sig .tc .vmem S16384x128 .bf16 := Memref.whole cc0_scratch0
abbrev Mdo : Memref sig .tc .vmem S16384x128 .bf16 := Memref.whole cc0_scratch1
abbrev Mdq : Memref sig .tc .vmem S16384x128 .f32 := Memref.whole cc0_scratch2
abbrev Hq : Memref sig .tc .hbm S16384x1024 .bf16 := Memref.whole main_v32
abbrev Hdo : Memref sig .tc .hbm S16384x1536 .bf16 := Memref.whole main_v30
abbrev Hdq : Memref sig .tc .hbm S16384x1024 .f32 := Memref.whole main_v43_0

/-- A pair of accumulated blocks: the gradient of the keys and that of the values. -/
abbrev Carry (F : FTy → Type) [FloatOps F] : Type := FVec F S1024x128 .f32 × FVec F S1024x128 .f32

variable (c : Dev nD) (i : grid0.Coords)
  (a4 : Memref sig .tc .vmem S1x128x1024 .f32) (h4 : a4.IsWhole) (a5 : Memref sig .tc .vmem S1x128x1024 .f32) (h5 : a5.IsWhole)
  (a6 : Memref sig .tc .vmem S1024x128 .bf16) (h6 : a6.IsWhole) (a7 : Memref sig .tc .vmem S1024x128 .bf16) (h7 : a7.IsWhole)
  (a9 : Memref sig .tc .vmem S1024x128 .f32) (h9 : a9.IsWhole) (a10 : Memref sig .tc .vmem S1024x128 .f32) (h10 : a10.IsWhole)
  (v6 v8 : FVec F S1024x128 .bf16) (v9 : BitVec 32)
  (X4 : BufTy.Contents (Elt F) a4.view.ty) (X5 : BufTy.Contents (Elt F) a5.view.ty)
  (Xq : BufTy.Contents (Elt F) Mq.view.ty) (Xdo : BufTy.Contents (Elt F) Mdo.view.ty)

/-- What one trip of the loop over the later query tiles holds: statistics, queries and cotangents read, query gradients accumulated. -/
abbrev Trip (Xdq : BufTy.Contents (Elt F) Mdq.view.ty) : sProp 𝕄 :=
  iprop((a4.view.loc (c : Thread nD τ) ↦[a4.view.set]{fullShare} X4) ∗ (a5.view.loc (c : Thread nD τ) ↦[a5.view.set]{fullShare} X5)
    ∗ (Mq.view.loc (c : Thread nD τ) ↦[Mq.view.set]{fullShare} Xq) ∗ (Mdo.view.loc (c : Thread nD τ) ↦[Mdo.view.set]{fullShare} Xdo)
    ∗ (Mdq.view.loc (c : Thread nD τ) ↦[Mdq.view.set]{fullShare} Xdq))

variable (k : Fin (k0_t1_loop i).trips)

/-- The rows of trip `k`, and the rows of its statistics. -/
abbrev tRows : Rect S16384x128 := Rect.unit (s := S16384x128) (k0_off7 i k) S1024x128.size (k0_off7_inb i k)
abbrev tStat : Rect S1x128x1024 := Rect.unit (s := S1x128x1024) (k0_off6 i k) S1x8x1024.size (k0_off6_inb i k)

/-- The carried gradients after trip `k`. -/
def tripR (acc : Carry F) : Carry F :=
  (k0_pay5 v6 v8 acc.1 (View.readAt (Elt F) a4.view (tStat i k).toLoadRect X4) (View.readAt (Elt F) a5.view (tStat i k).toLoadRect X5)
      (View.readAt (Elt F) Mq.view (tRows i k).toLoadRect Xq) (View.readAt (Elt F) Mdo.view (tRows i k).toLoadRect Xdo),
   k0_pay33 acc.2 (k0_pay4 v6 (View.readAt (Elt F) a4.view (tStat i k).toLoadRect X4)
      (View.readAt (Elt F) Mq.view (tRows i k).toLoadRect Xq) (View.readAt (Elt F) Mdo.view (tRows i k).toLoadRect Xdo)))

/-- The query gradients after trip `k`. -/
def tripQ (Xdq : BufTy.Contents (Elt F) Mdq.view.ty) : BufTy.Contents (Elt F) Mdq.view.ty :=
  Mdq.view.writes (Elt F) Xdq [⟨tRows i k, k0_pay3 v6 v8 (View.readAt (Elt F) a4.view (tStat i k).toLoadRect X4)
      (View.readAt (Elt F) a5.view (tStat i k).toLoadRect X5) (View.readAt (Elt F) Mq.view (tRows i k).toLoadRect Xq)
      (View.readAt (Elt F) Mdo.view (tRows i k).toLoadRect Xdo) (View.readAt (Elt F) Mdq.view (tRows i k).toLoadRect Xdq)⟩]

/-- One trip of the loop. -/
theorem trip (E : Set ℕ) (acc : Carry F) (Xdq : BufTy.Contents (Elt F) Mdq.view.ty) :
    Trip c a4 a5 X4 X5 Xq Xdo Xdq
      ⊢ wp frame (wpE (defs₀ (F := F)) Variants.none (c : Thread nD τ) none) E
          (k0_t1_body (F := F) i Hq (Memref.isWhole_whole _) Hdo (Memref.isWhole_whole _) a4 h4 a5 h5 a6 h6 a7 h7 Hdq (Memref.isWhole_whole _)
            a9 h9 a10 h10 Mq (Memref.isWhole_whole _) Mdo (Memref.isWhole_whole _) Mdq (Memref.isWhole_whole _) cc0_scoped0 cc0_scoped1 cc0_scoped2
            v6 v8 v9 k acc)
          (fun yld => iprop(⌜yld = tripR i a4 a5 v6 v8 X4 X5 Xq Xdo k acc⌝
            ∗ Trip c a4 a5 X4 X5 Xq Xdo (tripQ i a4 a5 v6 v8 X4 X5 Xq Xdo k Xdq))) := by
  unfold k0_t1_body tripR tripQ
  iintro ⟨HR4, HR5, HRq, HRdo, HW⟩
  sl_exec
  sl_step
  sl_close

/-- The carried gradients and the query gradients before trip `n`. -/
def st (init : Carry F) (G : BufTy.Contents (Elt F) Mdq.view.ty) : ℕ → Carry F × BufTy.Contents (Elt F) Mdq.view.ty
  | 0 => (init, G)
  | n + 1 => if h : n < (k0_t1_loop i).trips then
      (tripR i a4 a5 v6 v8 X4 X5 Xq Xdo ⟨n, h⟩ (st init G n).1, tripQ i a4 a5 v6 v8 X4 X5 Xq Xdo ⟨n, h⟩ (st init G n).2)
    else st init G n

theorem st_succ (init : Carry F) (G : BufTy.Contents (Elt F) Mdq.view.ty) :
    st i a4 a5 v6 v8 X4 X5 Xq Xdo init G (k.val + 1)
      = (tripR i a4 a5 v6 v8 X4 X5 Xq Xdo k (st i a4 a5 v6 v8 X4 X5 Xq Xdo init G k.val).1,
         tripQ i a4 a5 v6 v8 X4 X5 Xq Xdo k (st i a4 a5 v6 v8 X4 X5 Xq Xdo init G k.val).2) :=
  dif_pos k.isLt

/-- The same two, the start of the loop apart. -/
abbrev stR (init : Carry F) (G : BufTy.Contents (Elt F) Mdq.view.ty) (n : ℕ) : Carry F :=
  Nat.casesOn (motive := fun _ => Carry F) n init (fun m => (st i a4 a5 v6 v8 X4 X5 Xq Xdo init G (m + 1)).1)
abbrev stQ (init : Carry F) (G : BufTy.Contents (Elt F) Mdq.view.ty) (n : ℕ) : BufTy.Contents (Elt F) Mdq.view.ty :=
  Nat.casesOn (motive := fun _ => BufTy.Contents (Elt F) Mdq.view.ty) n G (fun m => (st i a4 a5 v6 v8 X4 X5 Xq Xdo init G (m + 1)).2)

theorem stR_eq (init : Carry F) (G : BufTy.Contents (Elt F) Mdq.view.ty) (n : ℕ) :
    stR i a4 a5 v6 v8 X4 X5 Xq Xdo init G n = (st i a4 a5 v6 v8 X4 X5 Xq Xdo init G n).1 := by cases n <;> rfl
theorem stQ_eq (init : Carry F) (G : BufTy.Contents (Elt F) Mdq.view.ty) (n : ℕ) :
    stQ i a4 a5 v6 v8 X4 X5 Xq Xdo init G n = (st i a4 a5 v6 v8 X4 X5 Xq Xdo init G n).2 := by cases n <;> rfl

theorem stR_succ (init : Carry F) (G : BufTy.Contents (Elt F) Mdq.view.ty) :
    stR i a4 a5 v6 v8 X4 X5 Xq Xdo init G (k.val + 1) = tripR i a4 a5 v6 v8 X4 X5 Xq Xdo k (st i a4 a5 v6 v8 X4 X5 Xq Xdo init G k.val).1 := by
  rw [stR_eq, st_succ]
theorem stQ_succ (init : Carry F) (G : BufTy.Contents (Elt F) Mdq.view.ty) :
    stQ i a4 a5 v6 v8 X4 X5 Xq Xdo init G (k.val + 1) = tripQ i a4 a5 v6 v8 X4 X5 Xq Xdo k (st i a4 a5 v6 v8 X4 X5 Xq Xdo init G k.val).2 := by
  rw [stQ_eq, st_succ]

/-- The loop's invariant before trip `n`. -/
abbrev inv (init : Carry F) (G : BufTy.Contents (Elt F) Mdq.view.ty) (n : ℕ) (acc : Carry F) : sProp 𝕄 :=
  iprop((a4.view.loc (c : Thread nD τ) ↦[a4.view.set]{fullShare} X4) ∗ (a5.view.loc (c : Thread nD τ) ↦[a5.view.set]{fullShare} X5)
    ∗ (Mq.view.loc (c : Thread nD τ) ↦[Mq.view.set]{fullShare} Xq) ∗ (Mdo.view.loc (c : Thread nD τ) ↦[Mdo.view.set]{fullShare} Xdo)
    ∗ (∃ f, (Mdq.view.loc (c : Thread nD τ) ↦[Mdq.view.set]{fullShare} f) ∗ ⌜f = stQ i a4 a5 v6 v8 X4 X5 Xq Xdo init G n⌝)
    ∗ ⌜acc = stR i a4 a5 v6 v8 X4 X5 Xq Xdo init G n⌝)

set_option warn.classDefReducibility false in
/-- The loop by its invariant. -/
@[sl_loop] def loopInv (E : Set ℕ) (init : Carry F) (G : BufTy.Contents (Elt F) Mdq.view.ty) :
    LoopInvTy_k0_t1 (F := F) Unit ℕ (Pipeline.UC sig nD τ) ℕ Variants.none c none E i Hq (Memref.isWhole_whole _) Hdo (Memref.isWhole_whole _)
      a4 h4 a5 h5 a6 h6 a7 h7 Hdq (Memref.isWhole_whole _) a9 h9 a10 h10 Mq (Memref.isWhole_whole _) Mdo (Memref.isWhole_whole _)
      Mdq (Memref.isWhole_whole _) cc0_scoped0 cc0_scoped1 cc0_scoped2 v6 v8 v9 init where
  inv := inv c i a4 a5 v6 v8 X4 X5 Xq Xdo init G
  step k acc := by
    iintro ⟨HR4, HR5, HRq, HRdo, ⟨%f, HW, %hf⟩, %hacc⟩
    have hf' := hf.trans (stQ_eq i a4 a5 v6 v8 X4 X5 Xq Xdo init G k)
    have hacc' := hacc.trans (stR_eq i a4 a5 v6 v8 X4 X5 Xq Xdo init G k)
    clear hf hacc
    subst hf' hacc'
    iapply (wp_wand_r Idealize.ShloMosaic.frame (wpE (defs₀ (F := F)) Variants.none (c : Thread nD τ) none) E)
    isplitl [HR4 HR5 HRq HRdo HW]
    · iapply (trip c i a4 h4 a5 h5 a6 h6 a7 h7 a9 h9 a10 h10 v6 v8 v9 X4 X5 Xq Xdo k E (st i a4 a5 v6 v8 X4 X5 Xq Xdo init G k).1 (st i a4 a5 v6 v8 X4 X5 Xq Xdo init G k).2)
      isplitl [HR4]; · iexact HR4
      isplitl [HR5]; · iexact HR5
      isplitl [HRq]; · iexact HRq
      isplitl [HRdo]; · iexact HRdo
      iexact HW
    · iintro %yld ⟨%hres, HR4, HR5, HRq, HRdo, HW⟩
      isplitl [HR4]; · iexact HR4
      isplitl [HR5]; · iexact HR5
      isplitl [HRq]; · iexact HRq
      isplitl [HRdo]; · iexact HRdo
      subst hres
      isplitl [HW]
      · iexists _; isplitl [HW]; · iexact HW
        ipureintro; exact (stQ_succ i a4 a5 v6 v8 X4 X5 Xq Xdo k init G).symm
      ipureintro; exact (stR_succ i a4 a5 v6 v8 X4 X5 Xq Xdo k init G).symm

end Cert.KernelIdeal.Hand

end
-- ==== Proof.Body.lean ====
module

public import proofs.«01_k».proof.Proof.Loop

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UC sig nD τ) ℕ

variable (c : Dev nD) (i : grid0.Coords)
  (a4 : Memref sig .tc .vmem S1x128x1024 .f32) (h4 : a4.IsWhole) (a5 : Memref sig .tc .vmem S1x128x1024 .f32) (h5 : a5.IsWhole)
  (a6 : Memref sig .tc .vmem S1024x128 .bf16) (h6 : a6.IsWhole) (a7 : Memref sig .tc .vmem S1024x128 .bf16) (h7 : a7.IsWhole)
  (a9 : Memref sig .tc .vmem S1024x128 .f32) (h9 : a9.IsWhole) (a10 : Memref sig .tc .vmem S1024x128 .f32) (h10 : a10.IsWhole)
  (X4 : BufTy.Contents (Elt F) a4.view.ty) (X5 : BufTy.Contents (Elt F) a5.view.ty)
  (X6 : BufTy.Contents (Elt F) a6.view.ty) (X7 : BufTy.Contents (Elt F) a7.view.ty)
  (Xq : BufTy.Contents (Elt F) Mq.view.ty) (Xdo : BufTy.Contents (Elt F) Mdo.view.ty) (Xdq : BufTy.Contents (Elt F) Mdq.view.ty)

/-- A point of neither the first nor the last key tile. -/
def runMid (h1 : ¬ k0_cond1 i = 1#1) (h2 : ¬ k0_cond2 i = 1#1) :
    Σ' (L9 : List (View.Piece (Elt F) S1024x128 .f32)) (L10 : List (View.Piece (Elt F) S1024x128 .f32)),
    { fdq : BufTy.Contents (Elt F) Mdq.view.ty //
      ∀ (f9 : BufTy.Contents (Elt F) a9.view.ty) (f10 : BufTy.Contents (Elt F) a10.view.ty) (K : PUnit → sProp 𝕄),
        iprop((a4.view.loc (c : Thread nD τ) ↦[a4.view.set]{fullShare} X4) ∗ (a5.view.loc (c : Thread nD τ) ↦[a5.view.set]{fullShare} X5)
          ∗ (a6.view.loc (c : Thread nD τ) ↦[a6.view.set]{fullShare} X6) ∗ (a7.view.loc (c : Thread nD τ) ↦[a7.view.set]{fullShare} X7)
          ∗ (a9.view.loc (c : Thread nD τ) ↦[a9.view.set]{fullShare} f9) ∗ (a10.view.loc (c : Thread nD τ) ↦[a10.view.set]{fullShare} f10)
          ∗ (Mq.view.loc (c : Thread nD τ) ↦[Mq.view.set]{fullShare} Xq) ∗ (Mdo.view.loc (c : Thread nD τ) ↦[Mdo.view.set]{fullShare} Xdo)
          ∗ (Mdq.view.loc (c : Thread nD τ) ↦[Mdq.view.set]{fullShare} Xdq)
          ∗ (iprop((a4.view.loc (c : Thread nD τ) ↦[a4.view.set]{fullShare} X4) ∗ (a5.view.loc (c : Thread nD τ) ↦[a5.view.set]{fullShare} X5)
          ∗ (a6.view.loc (c : Thread nD τ) ↦[a6.view.set]{fullShare} X6) ∗ (a7.view.loc (c : Thread nD τ) ↦[a7.view.set]{fullShare} X7)
          ∗ (a9.view.loc (c : Thread nD τ) ↦[a9.view.set]{fullShare} a9.view.writes (Elt F) f9 L9)
          ∗ (a10.view.loc (c : Thread nD τ) ↦[a10.view.set]{fullShare} a10.view.writes (Elt F) f10 L10)
          ∗ (Mq.view.loc (c : Thread nD τ) ↦[Mq.view.set]{fullShare} Xq) ∗ (Mdo.view.loc (c : Thread nD τ) ↦[Mdo.view.set]{fullShare} Xdo)
          ∗ (Mdq.view.loc (c : Thread nD τ) ↦[Mdq.view.set]{fullShare} fdq)) -∗ K ⟨⟩))
        ⊢ wp frame (wpE (defs₀ (F := F)) Variants.none (c : Thread nD τ) none) Set.univ
          (cc0_l0_even_attn_bwd (F := F) i Hq (Memref.isWhole_whole _) Hdo (Memref.isWhole_whole _) a4 h4 a5 h5 a6 h6 a7 h7 Hdq (Memref.isWhole_whole _)
            a9 h9 a10 h10 Mq (Memref.isWhole_whole _) Mdo (Memref.isWhole_whole _) Mdq (Memref.isWhole_whole _) cc0_scoped0 cc0_scoped1 cc0_scoped2) K } := by
  refine ⟨?_, ?_, ?_, fun f9 f10 K => ?run⟩
  case run =>
    rw [cc0_l0_even_attn_bwd_eq_skeleton]; unfold cc0_l0_even_attn_bwd_skel
    iintro ⟨H4, H5, H6, H7, H9, H10, HRq, HRdo, HW, Hk⟩
    sl_exec
    sl_step
    iapply Hk
    isplitl [H4]; · iexact H4
    isplitl [H5]; · iexact H5
    isplitl [H6]; · iexact H6
    isplitl [H7]; · iexact H7
    isplitl [H9]; · iexact H9
    isplitl [H10]; · iexact H10
    isplitl [HRq]; · iexact HRq
    isplitl [HRdo]; · iexact HRdo
    iexact HW

/-- A point of the first key tile: the head's columns are copied in and the query gradients start from zero. -/
def runFirst (h1 : k0_cond1 i = 1#1) (h2 : ¬ k0_cond2 i = 1#1)
    (Yq : Buf (Elt F) (Hq.view.loc (c : Thread nD τ))) (Ydo : Buf (Elt F) (Hdo.view.loc (c : Thread nD τ))) :
    Σ' (L9 : List (View.Piece (Elt F) S1024x128 .f32)) (L10 : List (View.Piece (Elt F) S1024x128 .f32)),
    { fs : BufTy.Contents (Elt F) Mq.view.ty × BufTy.Contents (Elt F) Mdo.view.ty × BufTy.Contents (Elt F) Mdq.view.ty //
      ∀ (f9 : BufTy.Contents (Elt F) a9.view.ty) (f10 : BufTy.Contents (Elt F) a10.view.ty) (W : Waits sig Unit) (K : PUnit → sProp 𝕄),
        iprop((a4.view.loc (c : Thread nD τ) ↦[a4.view.set]{fullShare} X4)
          ∗ (a5.view.loc (c : Thread nD τ) ↦[a5.view.set]{fullShare} X5)
          ∗ (a6.view.loc (c : Thread nD τ) ↦[a6.view.set]{fullShare} X6)
          ∗ (a7.view.loc (c : Thread nD τ) ↦[a7.view.set]{fullShare} X7)
          ∗ (a9.view.loc (c : Thread nD τ) ↦[a9.view.set]{fullShare} f9)
          ∗ (a10.view.loc (c : Thread nD τ) ↦[a10.view.set]{fullShare} f10)
          ∗ (Mq.view.loc (c : Thread nD τ) ↦[Mq.view.set]{fullShare} Xq)
          ∗ (Mdo.view.loc (c : Thread nD τ) ↦[Mdo.view.set]{fullShare} Xdo)
          ∗ (Mdq.view.loc (c : Thread nD τ) ↦[Mdq.view.set]{fullShare} Xdq)
          ∗ (Hq.view.loc (c : Thread nD τ) ↦{fullShare} Yq)
          ∗ (Hdo.view.loc (c : Thread nD τ) ↦{fullShare} Ydo)
          ∗ semVal ((c : Thread nD τ), SemLoc.dma 12) 0
          ∗ semVal ((c : Thread nD τ), SemLoc.dma 13) 0
          ∗ owes (c : Thread nD τ) 0 W
          ∗ (iprop((a4.view.loc (c : Thread nD τ) ↦[a4.view.set]{fullShare} X4)
            ∗ (a5.view.loc (c : Thread nD τ) ↦[a5.view.set]{fullShare} X5)
            ∗ (a6.view.loc (c : Thread nD τ) ↦[a6.view.set]{fullShare} X6)
            ∗ (a7.view.loc (c : Thread nD τ) ↦[a7.view.set]{fullShare} X7)
            ∗ (a9.view.loc (c : Thread nD τ) ↦[a9.view.set]{fullShare} a9.view.writes (Elt F) f9 L9)
            ∗ (a10.view.loc (c : Thread nD τ) ↦[a10.view.set]{fullShare} a10.view.writes (Elt F) f10 L10)
            ∗ (Mq.view.loc (c : Thread nD τ) ↦[Mq.view.set]{fullShare} fs.1)
            ∗ (Mdo.view.loc (c : Thread nD τ) ↦[Mdo.view.set]{fullShare} fs.2.1)
            ∗ (Mdq.view.loc (c : Thread nD τ) ↦[Mdq.view.set]{fullShare} fs.2.2)
            ∗ (Hq.view.loc (c : Thread nD τ) ↦{fullShare} Yq)
            ∗ (Hdo.view.loc (c : Thread nD τ) ↦{fullShare} Ydo)
            ∗ semVal ((c : Thread nD τ), SemLoc.dma 12) 0
            ∗ semVal ((c : Thread nD τ), SemLoc.dma 13) 0
            ∗ (∃ W', owes (c : Thread nD τ) 0 W')) -∗ K ⟨⟩))
        ⊢ wp frame (wpE (defs₀ (F := F)) Variants.none (c : Thread nD τ) none) Set.univ
          (cc0_l0_even_attn_bwd (F := F) i Hq (Memref.isWhole_whole _) Hdo (Memref.isWhole_whole _) a4 h4 a5 h5 a6 h6 a7 h7 Hdq (Memref.isWhole_whole _)
            a9 h9 a10 h10 Mq (Memref.isWhole_whole _) Mdo (Memref.isWhole_whole _) Mdq (Memref.isWhole_whole _) cc0_scoped0 cc0_scoped1 cc0_scoped2) K } := by
  refine ⟨?_, ?_, ⟨?_, ?_, ?_⟩, fun f9 f10 W K => ?run⟩
  case run =>
    rw [cc0_l0_even_attn_bwd_eq_skeleton]; unfold cc0_l0_even_attn_bwd_skel
    iintro ⟨H4, H5, H6, H7, H9, H10, HRq, HRdo, HW, HYq, HYdo, Hs0, Hs1, HO, Hk⟩
    sl_exec
    sl_step
    iapply Hk
    isplitl [H4]; · iexact H4
    isplitl [H5]; · iexact H5
    isplitl [H6]; · iexact H6
    isplitl [H7]; · iexact H7
    isplitl [H9]; · iexact H9
    isplitl [H10]; · iexact H10
    isplitl [HRq]; · iexact HRq
    isplitl [HRdo]; · iexact HRdo
    isplitl [HW]; · iexact HW
    isplitl [HYq]; · iexact HYq
    isplitl [HYdo]; · iexact HYdo
    isplitl [Hs0]; · iexact Hs0
    isplitl [Hs1]; · iexact Hs1
    iexists _; iexact HO

/-- A point of the last key tile: the head's query gradients are scaled and copied out. -/
def runLast (h1 : ¬ k0_cond1 i = 1#1) (h2 : k0_cond2 i = 1#1) (Ydq : Buf (Elt F) (Hdq.view.loc (c : Thread nD τ))) :
    Σ' (L9 : List (View.Piece (Elt F) S1024x128 .f32)) (L10 : List (View.Piece (Elt F) S1024x128 .f32)),
    { fs : BufTy.Contents (Elt F) Mdq.view.ty × Buf (Elt F) (Hdq.view.loc (c : Thread nD τ)) //
      ∀ (f9 : BufTy.Contents (Elt F) a9.view.ty) (f10 : BufTy.Contents (Elt F) a10.view.ty) (W : Waits sig Unit) (K : PUnit → sProp 𝕄),
        iprop((a4.view.loc (c : Thread nD τ) ↦[a4.view.set]{fullShare} X4)
          ∗ (a5.view.loc (c : Thread nD τ) ↦[a5.view.set]{fullShare} X5)
          ∗ (a6.view.loc (c : Thread nD τ) ↦[a6.view.set]{fullShare} X6)
          ∗ (a7.view.loc (c : Thread nD τ) ↦[a7.view.set]{fullShare} X7)
          ∗ (a9.view.loc (c : Thread nD τ) ↦[a9.view.set]{fullShare} f9)
          ∗ (a10.view.loc (c : Thread nD τ) ↦[a10.view.set]{fullShare} f10)
          ∗ (Mq.view.loc (c : Thread nD τ) ↦[Mq.view.set]{fullShare} Xq)
          ∗ (Mdo.view.loc (c : Thread nD τ) ↦[Mdo.view.set]{fullShare} Xdo)
          ∗ (Mdq.view.loc (c : Thread nD τ) ↦[Mdq.view.set]{fullShare} Xdq)
          ∗ (Hdq.view.loc (c : Thread nD τ) ↦{fullShare} Ydq)
          ∗ semVal ((c : Thread nD τ), SemLoc.dma 14) 0
          ∗ owes (c : Thread nD τ) 0 W
          ∗ (iprop((a4.view.loc (c : Thread nD τ) ↦[a4.view.set]{fullShare} X4)
            ∗ (a5.view.loc (c : Thread nD τ) ↦[a5.view.set]{fullShare} X5)
            ∗ (a6.view.loc (c : Thread nD τ) ↦[a6.view.set]{fullShare} X6)
            ∗ (a7.view.loc (c : Thread nD τ) ↦[a7.view.set]{fullShare} X7)
            ∗ (a9.view.loc (c : Thread nD τ) ↦[a9.view.set]{fullShare} a9.view.writes (Elt F) f9 L9)
            ∗ (a10.view.loc (c : Thread nD τ) ↦[a10.view.set]{fullShare} a10.view.writes (Elt F) f10 L10)
            ∗ (Mq.view.loc (c : Thread nD τ) ↦[Mq.view.set]{fullShare} Xq)
            ∗ (Mdo.view.loc (c : Thread nD τ) ↦[Mdo.view.set]{fullShare} Xdo)
            ∗ (Mdq.view.loc (c : Thread nD τ) ↦[Mdq.view.set]{fullShare} fs.1)
            ∗ (Hdq.view.loc (c : Thread nD τ) ↦{fullShare} fs.2)
            ∗ semVal ((c : Thread nD τ), SemLoc.dma 14) 0
            ∗ (∃ W', owes (c : Thread nD τ) 0 W')) -∗ K ⟨⟩))
        ⊢ wp frame (wpE (defs₀ (F := F)) Variants.none (c : Thread nD τ) none) Set.univ
          (cc0_l0_even_attn_bwd (F := F) i Hq (Memref.isWhole_whole _) Hdo (Memref.isWhole_whole _) a4 h4 a5 h5 a6 h6 a7 h7 Hdq (Memref.isWhole_whole _)
            a9 h9 a10 h10 Mq (Memref.isWhole_whole _) Mdo (Memref.isWhole_whole _) Mdq (Memref.isWhole_whole _) cc0_scoped0 cc0_scoped1 cc0_scoped2) K } := by
  refine ⟨?_, ?_, ⟨?_, ?_⟩, fun f9 f10 W K => ?run⟩
  case run =>
    rw [cc0_l0_even_attn_bwd_eq_skeleton]; unfold cc0_l0_even_attn_bwd_skel
    iintro ⟨H4, H5, H6, H7, H9, H10, HRq, HRdo, HW, HY, Hs, HO, Hk⟩
    sl_exec
    sl_step
    iapply Hk
    isplitl [H4]; · iexact H4
    isplitl [H5]; · iexact H5
    isplitl [H6]; · iexact H6
    isplitl [H7]; · iexact H7
    isplitl [H9]; · iexact H9
    isplitl [H10]; · iexact H10
    isplitl [HRq]; · iexact HRq
    isplitl [HRdo]; · iexact HRdo
    isplitl [HW]; · iexact HW
    isplitl [HY]; · iexact HY
    isplitl [Hs]; · iexact Hs
    iexists _; iexact HO

end Cert.KernelIdeal.Hand

end
-- ==== Proof.Spec.lean ====
module

public import proofs.«01_k».proof.Proof.Body
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL.Sem
open VecWindow (window put)

variable {F : FTy → Type} [FloatOps F] [Named F]

/-! What a grid point computes, as functions of the blocks it reads: `x4` the head's log-sums, `x5` its deltas, `x6`
the keys, `x7` the values, `xq` and `xdo` the head's queries and cotangents, `y` the query gradients so far. -/

variable (i : grid0.Coords) (v6 v8 : FVec F S1024x128 .bf16) (x4 x5 : Vec F S1x128x1024 .f32) (x6 x7 : Vec F S1024x128 .bf16)
  (xq xdo : Vec F S16384x128 .bf16) (y : Vec F S16384x128 .f32)

/-- The statistics of a trip's query tile, and its rows. -/
def statK (x : Vec F S1x128x1024 .f32) (k : Fin (k0_t1_loop i).trips) : Vec F S1x8x1024 .f32 := window x (k0_off6 i k) S1x8x1024.size (k0_off6_inb i k)
def rowsK {e : EltTy} (x : Vec F S16384x128 e) (k : Fin (k0_t1_loop i).trips) : Vec F S1024x128 e := window x (k0_off7 i k) S1024x128.size (k0_off7_inb i k)
/-- The statistics of the diagonal tile, and the rows of its two halves. -/
def statD (x : Vec F S1x128x1024 .f32) : Vec F S1x8x1024 .f32 := window x (k0_off3 i) S1x8x1024.size (k0_off3_inb i)
def rowsA {e : EltTy} (x : Vec F S16384x128 e) : Vec F S512x128 e := window x (k0_off4 i) S512x128.size (k0_off4_inb i)
def rowsB {e : EltTy} (x : Vec F S16384x128 e) : Vec F S512x128 e := window x (k0_off5 i) S512x128.size (k0_off5_inb i)

/-- One trip, by values. -/
def tripRV (k : Fin (k0_t1_loop i).trips) (acc : Carry F) : Carry F :=
  (k0_pay5 v6 v8 acc.1 (statK i x4 k) (statK i x5 k) (rowsK i xq k) (rowsK i xdo k),
   k0_pay33 acc.2 (k0_pay4 v6 (statK i x4 k) (rowsK i xq k) (rowsK i xdo k)))
def tripQV (k : Fin (k0_t1_loop i).trips) (y : Vec F S16384x128 .f32) : Vec F S16384x128 .f32 :=
  put y (k0_off7 i k) S1024x128.size (k0_pay3 v6 v8 (statK i x4 k) (statK i x5 k) (rowsK i xq k) (rowsK i xdo k) (rowsK i y k))

/-- The loop before trip `n`, by values. -/
def stV (init : Carry F) (G : Vec F S16384x128 .f32) : ℕ → Carry F × Vec F S16384x128 .f32
  | 0 => (init, G)
  | n + 1 => if h : n < (k0_t1_loop i).trips then
      (tripRV i v6 v8 x4 x5 xq xdo ⟨n, h⟩ (stV init G n).1, tripQV i v6 v8 x4 x5 xq xdo ⟨n, h⟩ (stV init G n).2)
    else stV init G n

/-- The masked constant. -/
def maskC : F .f32 := Named.named κ "mask" 0xF149F2CA#32

/-- The diagonal tile's gradients of keys and values. -/
def diag0 : Carry F :=
  (k0_pay31 (k0_pay13 x7) (k0_pay23 (k0_pay13 x7) (k0_pay16 (statD i x4)) (k0_pay17 (statD i x5)) (rowsA i xq) (rowsA i xdo) (k0_pay18 x6 (rowsA i xq)) k0_pay19 maskC)
      (k0_pay25 (k0_pay15 (statD i x5))) (rowsB i xq) (rowsB i xdo) (k0_pay26 (k0_pay12 x6) (k0_pay14 (statD i x4)) (rowsB i xq)),
   k0_pay32 (k0_pay24 (k0_pay16 (statD i x4)) (rowsA i xdo) (k0_pay18 x6 (rowsA i xq)) k0_pay19 maskC) (rowsB i xdo)
      (k0_pay26 (k0_pay12 x6) (k0_pay14 (statD i x4)) (rowsB i xq)))

/-- The query gradients after the diagonal tile: its first half, then its second. -/
def diagQ : Vec F S16384x128 .f32 :=
  put (put y (k0_off4 i) S512x128.size (k0_pay22 (k0_pay12 x6) (k0_pay13 x7) (k0_pay16 (statD i x4)) (k0_pay17 (statD i x5)) (rowsA i xdo)
      (k0_pay18 x6 (rowsA i xq)) k0_pay19 maskC (rowsA i y)))
    (k0_off5 i) S512x128.size (k0_pay29 (k0_pay12 x6) (k0_pay13 x7) (k0_pay25 (k0_pay15 (statD i x5))) (rowsB i xdo)
      (k0_pay26 (k0_pay12 x6) (k0_pay14 (statD i x4)) (rowsB i xq)) (rowsB i y))

/-- What the point leaves: the carried gradients and the query gradients. -/
def fin : Carry F × Vec F S16384x128 .f32 :=
  stV i (k0_pay12 x6) (k0_pay13 x7) x4 x5 xq xdo (diag0 i x4 x5 x6 x7 xq xdo) (diagQ i x4 x5 x6 x7 xq xdo y) (k0_t1_loop i).trips

/-- The head's columns of the queries, and of the cotangents. -/
def colQ (h1 : k0_cond1 i = 1#1) (Y : Vec F S16384x1024 .bf16) : Vec F S16384x128 .bf16 := window Y (k0_off1 i) S16384x128.size (k0_off1_inb i h1)
def colDo (h1 : k0_cond1 i = 1#1) (Y : Vec F S16384x1536 .bf16) : Vec F S16384x128 .bf16 := window Y (k0_off2 i) S16384x128.size (k0_off2_inb i h1)

/-! ## The runs in these terms -/

variable (c : Dev nD)
  (a4 : Memref sig .tc .vmem S1x128x1024 .f32) (h4 : a4.IsWhole) (a5 : Memref sig .tc .vmem S1x128x1024 .f32) (h5 : a5.IsWhole)
  (a6 : Memref sig .tc .vmem S1024x128 .bf16) (h6 : a6.IsWhole) (a7 : Memref sig .tc .vmem S1024x128 .bf16) (h7 : a7.IsWhole)
  (a9 : Memref sig .tc .vmem S1024x128 .f32) (h9 : a9.IsWhole) (a10 : Memref sig .tc .vmem S1024x128 .f32) (h10 : a10.IsWhole)

theorem read_loc (m : Memref sig .tc .vmem S16384x128 .f32) (f : m.view.ty.Contents (Elt F)) {off size : Fin 2 → ℕ} (inb : ∀ a, off a + size a ≤ S16384x128.size a) :
    m.view.readAt (Elt F) (Rect.unit (s := S16384x128) off size inb).toLoadRect f = window (m.view.read (Elt F) f) off size inb :=
  View.readAt_unit _ _ _ rfl _

/-- A store into the accumulator. -/
theorem writes_cons (f : BufTy.Contents (Elt F) Mdq.view.ty) {off size : Fin 2 → ℕ} (inb : ∀ a, off a + size a ≤ S16384x128.size a)
    (w : (Rect.unit (s := S16384x128) off size inb).shape.Idx → Elt F .f32) (L : List (View.Piece (Elt F) S16384x128 .f32)) :
    Mdq.view.writes (Elt F) f (⟨Rect.unit (s := S16384x128) off size inb, w⟩ :: L) = put (s := S16384x128) (Mdq.view.writes (Elt F) f L) off size w :=
  View.read_writes_cons_put Mdq.view f inb w L rfl

/-- A store of the whole of a buffer. -/
theorem writes_whole_eq (b : Ref sig .tc) (f : b.ty.Contents (Elt F)) (w : b.ty.shape.Idx → Elt F b.ty.elt) :
    (Memref.whole b).view.writes (Elt F) f [⟨Rect.whole _, w⟩] = w :=
  View.read_writes_whole (Memref.whole b).view f w
theorem writes_full_eq (b : Ref sig .tc) (f : b.ty.Contents (Elt F)) {off : Fin b.ty.shape.rank → ℕ} (inb : ∀ a, off a + b.ty.shape.size a ≤ b.ty.shape.size a)
    (w : b.ty.shape.Idx → Elt F b.ty.elt) (L) :
    (Memref.whole b).view.writes (Elt F) f (⟨Rect.unit off b.ty.shape.size inb, w⟩ :: L) = w :=
  View.read_writes_full (Memref.whole b).view f inb w L

/-- A window of a buffer read, and put over. -/
theorem slice_read (b : Ref sig .tc) (f : b.ty.Contents (Elt F)) {off size : Fin b.ty.shape.rank → ℕ} (inb : ∀ a, off a + size a ≤ b.ty.shape.size a) :
    ((Memref.whole b).slice (Rect.unit off size inb) (fun _ => rfl)).view.read (Elt F) f = window f off size inb := rfl
theorem apply_read (b : Ref sig .tc) (f : b.ty.Contents (Elt F)) : ReadAs.same.apply ((Memref.whole b).view.read (Elt F) f) = f := rfl
theorem slice_write (b : Ref sig .tc) (f : b.ty.Contents (Elt F)) {off size : Fin b.ty.shape.rank → ℕ} (inb : ∀ a, off a + size a ≤ b.ty.shape.size a)
    (w : (Rect.unit off size inb).shape.Idx → Elt F b.ty.elt) :
    ((Memref.whole b).slice (Rect.unit off size inb) (fun _ => rfl)).view.write (Elt F) f w Finset.univ = put f off size w :=
  View.read_writes_cons_put (Memref.whole b).view f inb w [] rfl

theorem st_rep (init : Carry F) (G : Vec F S16384x128 .f32) (n : ℕ) :
    st i a4 a5 v6 v8 (a4.view.rep x4) (a5.view.rep x5) xq xdo init G n = stV i v6 v8 x4 x5 xq xdo init G n := by
  induction n with
  | zero => rfl
  | succ n ih =>
    unfold st stV
    rw [ih]
    by_cases h : n < (k0_t1_loop i).trips
    · rw [dif_pos h, dif_pos h]
      unfold tripR tripQ tripRV tripQV
      rw [writes_cons, View.readAt_rep_unit a4.view x4 _ rfl (k0_off6_inb i _), View.readAt_rep_unit a5.view x5 _ rfl (k0_off6_inb i _)]
      rfl
    · rw [dif_neg h, dif_neg h]

/-- The point's outcome with the reads spelled as the run leaves them. -/
def finX (X4 : BufTy.Contents (Elt F) a4.view.ty) (X5 : BufTy.Contents (Elt F) a5.view.ty) (X6 : BufTy.Contents (Elt F) a6.view.ty)
    (X7 : BufTy.Contents (Elt F) a7.view.ty) (y : Vec F S16384x128 .f32) : Carry F × Vec F S16384x128 .f32 :=
  st i a4 a5 (k0_pay12 (a6.view.readAt (Elt F) (Rect.unit (s := S1024x128) ![0, 0] S1024x128.size inb_S1024x128_S1024x128_0_0).toLoadRect X6))
    (k0_pay13 (a7.view.readAt (Elt F) (Rect.unit (s := S1024x128) ![0, 0] S1024x128.size inb_S1024x128_S1024x128_0_0).toLoadRect X7)) X4 X5 xq xdo
    (diag0 i (a4.view.read (Elt F) X4) (a5.view.read (Elt F) X5)
      (a6.view.readAt (Elt F) (Rect.unit (s := S1024x128) ![0, 0] S1024x128.size inb_S1024x128_S1024x128_0_0).toLoadRect X6)
      (a7.view.readAt (Elt F) (Rect.unit (s := S1024x128) ![0, 0] S1024x128.size inb_S1024x128_S1024x128_0_0).toLoadRect X7) xq xdo)
    (diagQ i (a4.view.read (Elt F) X4) (a5.view.read (Elt F) X5)
      (a6.view.readAt (Elt F) (Rect.unit (s := S1024x128) ![0, 0] S1024x128.size inb_S1024x128_S1024x128_0_0).toLoadRect X6)
      (a7.view.readAt (Elt F) (Rect.unit (s := S1024x128) ![0, 0] S1024x128.size inb_S1024x128_S1024x128_0_0).toLoadRect X7) xq xdo y)
    (k0_t1_loop i).trips

theorem finX_rep : finX i xq xdo a4 a5 a6 a7 (a4.view.rep x4) (a5.view.rep x5) (a6.view.rep x6) (a7.view.rep x7) y = fin i x4 x5 x6 x7 xq xdo y := by
  unfold finX fin
  rw [View.readAt_rep_full, View.readAt_rep_full, View.read_rep, View.read_rep, st_rep]

section Mid
variable (X4 : BufTy.Contents (Elt F) a4.view.ty) (X5 : BufTy.Contents (Elt F) a5.view.ty)
  (X6 : BufTy.Contents (Elt F) a6.view.ty) (X7 : BufTy.Contents (Elt F) a7.view.ty)

/-- The second half's diagonal read of the accumulator, taken before the first half's store. -/
theorem mid_Q (h1 : ¬ k0_cond1 i = 1#1) (h2 : ¬ k0_cond2 i = 1#1) :
    (runMid c i a4 h4 a5 h5 a6 h6 a7 h7 a9 h9 a10 h10 X4 X5 X6 X7 xq xdo y h1 h2).2.2.1 = (finX i xq xdo a4 a5 a6 a7 X4 X5 X6 X7 y).2 := by
  refine Eq.trans ?_ (stQ_eq ..)
  unfold runMid diagQ
  dsimp only
  rw [writes_cons, writes_cons]
  rfl

theorem mid_K (h1 : ¬ k0_cond1 i = 1#1) (h2 : ¬ k0_cond2 i = 1#1) :
    (runMid c i a4 h4 a5 h5 a6 h6 a7 h7 a9 h9 a10 h10 X4 X5 X6 X7 xq xdo y h1 h2).1
      = [⟨Rect.unit (s := S1024x128) ![0, 0] S1024x128.size inb_S1024x128_S1024x128_0_0, k0_pay35 (finX i xq xdo a4 a5 a6 a7 X4 X5 X6 X7 y).1.1⟩] := by
  unfold finX
  rw [← stR_eq]
  unfold runMid diagQ
  dsimp only
  rw [writes_cons, writes_cons]
  rfl

theorem mid_V (h1 : ¬ k0_cond1 i = 1#1) (h2 : ¬ k0_cond2 i = 1#1) :
    (runMid c i a4 h4 a5 h5 a6 h6 a7 h7 a9 h9 a10 h10 X4 X5 X6 X7 xq xdo y h1 h2).2.1
      = [⟨Rect.unit (s := S1024x128) ![0, 0] S1024x128.size inb_S1024x128_S1024x128_0_0, (finX i xq xdo a4 a5 a6 a7 X4 X5 X6 X7 y).1.2⟩] := by
  unfold finX
  rw [← stR_eq]
  unfold runMid diagQ
  dsimp only
  rw [writes_cons, writes_cons]
  rfl
end Mid

section Last
variable (X4 : BufTy.Contents (Elt F) a4.view.ty) (X5 : BufTy.Contents (Elt F) a5.view.ty)
  (X6 : BufTy.Contents (Elt F) a6.view.ty) (X7 : BufTy.Contents (Elt F) a7.view.ty)
  (h1 : ¬ k0_cond1 i = 1#1) (h2 : k0_cond2 i = 1#1) (Ydq : Vec F S16384x1024 .f32)

theorem last_K :
    (runLast c i a4 h4 a5 h5 a6 h6 a7 h7 a9 h9 a10 h10 X4 X5 X6 X7 xq xdo y h1 h2 Ydq).1
      = [⟨Rect.unit (s := S1024x128) ![0, 0] S1024x128.size inb_S1024x128_S1024x128_0_0, k0_pay35 (finX i xq xdo a4 a5 a6 a7 X4 X5 X6 X7 y).1.1⟩] := by
  unfold finX
  rw [← stR_eq]
  unfold runLast diagQ
  dsimp only
  rw [writes_cons, writes_cons]
  rfl

theorem last_V :
    (runLast c i a4 h4 a5 h5 a6 h6 a7 h7 a9 h9 a10 h10 X4 X5 X6 X7 xq xdo y h1 h2 Ydq).2.1
      = [⟨Rect.unit (s := S1024x128) ![0, 0] S1024x128.size inb_S1024x128_S1024x128_0_0, (finX i xq xdo a4 a5 a6 a7 X4 X5 X6 X7 y).1.2⟩] := by
  unfold finX
  rw [← stR_eq]
  unfold runLast diagQ
  dsimp only
  rw [writes_cons, writes_cons]
  rfl

theorem last_v118 : runLast.sl.v118 i a4 a5 a6 a7 X4 X5 X6 X7 xq xdo y = (finX i xq xdo a4 a5 a6 a7 X4 X5 X6 X7 y).2 := by
  unfold finX
  rw [← stQ_eq]
  unfold runLast.sl.v118 diagQ
  refine (View.readAt_full Mdq.view _ _).trans ?_
  rw [writes_cons, writes_cons]
  rfl

theorem last_Q :
    (runLast c i a4 h4 a5 h5 a6 h6 a7 h7 a9 h9 a10 h10 X4 X5 X6 X7 xq xdo y h1 h2 Ydq).2.2.1.1 = k0_pay36 (finX i xq xdo a4 a5 a6 a7 X4 X5 X6 X7 y).2 := by
  refine Eq.trans ?_ (congrArg (k0_pay36 (F := F)) (last_v118 i xq xdo y a4 a5 a6 a7 X4 X5 X6 X7))
  unfold runLast
  dsimp only
  exact writes_full_eq (F := F) cc0_scratch2 _ _ _ _

theorem last_7 : runLast.sl.dma7 i a4 a5 a6 a7 X4 X5 X6 X7 xq xdo y = k0_pay36 (finX i xq xdo a4 a5 a6 a7 X4 X5 X6 X7 y).2 := by
  refine Eq.trans ?_ (congrArg (k0_pay36 (F := F)) (last_v118 i xq xdo y a4 a5 a6 a7 X4 X5 X6 X7))
  unfold runLast.sl.dma7 runLast.sl.HW_1
  refine (apply_read (F := F) cc0_scratch2 _).trans ?_
  exact writes_full_eq (F := F) cc0_scratch2 _ _ _ _

theorem last_H :
    (runLast c i a4 h4 a5 h5 a6 h6 a7 h7 a9 h9 a10 h10 X4 X5 X6 X7 xq xdo y h1 h2 Ydq).2.2.1.2
      = put (s := S16384x1024) Ydq (k0_off10 i) S16384x128.size (k0_pay36 (finX i xq xdo a4 a5 a6 a7 X4 X5 X6 X7 y).2) := by
  rw [← last_7 i xq xdo y a4 a5 a6 a7 X4 X5 X6 X7]
  unfold runLast
  dsimp only
  exact slice_write (F := F) main_v43_0 Ydq (k0_off10_inb i h2) _
end Last

section First
variable (X4 : BufTy.Contents (Elt F) a4.view.ty) (X5 : BufTy.Contents (Elt F) a5.view.ty)
  (X6 : BufTy.Contents (Elt F) a6.view.ty) (X7 : BufTy.Contents (Elt F) a7.view.ty)
  (h1 : k0_cond1 i = 1#1) (h2 : ¬ k0_cond2 i = 1#1) (Yq : Vec F S16384x1024 .bf16) (Ydo : Vec F S16384x1536 .bf16)

theorem first_q : Mq.view.writes (Elt F) Mq.view.junk [⟨Rect.whole S16384x128, runFirst.sl.dma0 c i h1 Yq⟩] = colQ i h1 Yq := by
  refine (writes_whole_eq cc0_scratch0 _ _).trans ?_
  unfold runFirst.sl.dma0 colQ
  exact slice_read main_v32 Yq (k0_off1_inb i h1)
theorem first_do : Mdo.view.writes (Elt F) Mdo.view.junk [⟨Rect.whole S16384x128, runFirst.sl.dma0_1 c i h1 Ydo⟩] = colDo i h1 Ydo := by
  refine (writes_whole_eq cc0_scratch1 _ _).trans ?_
  unfold runFirst.sl.dma0_1 colDo
  exact slice_read main_v30 Ydo (k0_off2_inb i h1)

theorem first_Mq : (runFirst c i a4 h4 a5 h5 a6 h6 a7 h7 a9 h9 a10 h10 X4 X5 X6 X7 xq xdo y h1 h2 Yq Ydo).2.2.1.1 = colQ i h1 Yq := by
  unfold runFirst
  dsimp only
  exact first_q i c h1 Yq
theorem first_Mdo : (runFirst c i a4 h4 a5 h5 a6 h6 a7 h7 a9 h9 a10 h10 X4 X5 X6 X7 xq xdo y h1 h2 Yq Ydo).2.2.1.2.1 = colDo i h1 Ydo := by
  unfold runFirst
  dsimp only
  exact first_do i c h1 Ydo

theorem first_0 : Mdq.view.writes (Elt F) Mdq.view.junk runFirst.sl.HW_1 = k0_pay11 (F := F) := by
  unfold runFirst.sl.HW_1
  exact writes_full_eq (F := F) cc0_scratch2 _ _ _ _

theorem first_G :
    Mdq.view.writes (Elt F) Mdq.view.junk
      (⟨Rect.unit (s := S16384x128) (k0_off5 i) S512x128.size (k0_off5_inb i),
          k0_pay29 (runFirst.sl.r a6 X6) (runFirst.sl.r_1 a7 X7) (runFirst.sl.r_11 i a5 X5)
            (runFirst.sl.r_13 c i h1 Ydo) (runFirst.sl.r_14 c i a4 a6 X4 X6 h1 Yq)
            (View.readAt (Elt F) Mdq.view (Rect.unit (s := S16384x128) (k0_off5 i) S512x128.size (k0_off5_inb i)).toLoadRect
              (Mdq.view.writes (Elt F) Mdq.view.junk (runFirst.sl.HW_2 c i a4 a5 a6 a7 X4 X5 X6 X7 h1 Yq Ydo)))⟩ ::
        runFirst.sl.HW_2 c i a4 a5 a6 a7 X4 X5 X6 X7 h1 Yq Ydo)
    = diagQ i (a4.view.read (Elt F) X4) (a5.view.read (Elt F) X5)
      (a6.view.readAt (Elt F) (Rect.unit (s := S1024x128) ![0, 0] S1024x128.size inb_S1024x128_S1024x128_0_0).toLoadRect X6)
      (a7.view.readAt (Elt F) (Rect.unit (s := S1024x128) ![0, 0] S1024x128.size inb_S1024x128_S1024x128_0_0).toLoadRect X7)
      (colQ i h1 Yq) (colDo i h1 Ydo) (k0_pay11 (F := F)) := by
  unfold runFirst.sl.HW_2
  rw [writes_cons, writes_cons, first_0]
  unfold runFirst.sl.r_14 runFirst.sl.r_13 runFirst.sl.r_7 runFirst.sl.r_8
  rw [first_q, first_do]
  have hd : View.readAt (Elt F) Mdq.view (Rect.unit (s := S16384x128) (k0_off5 i) S512x128.size (k0_off5_inb i)).toLoadRect
      (put (s := S16384x128) (k0_pay11 (F := F)) (k0_off4 i) S512x128.size
        (k0_pay22 (runFirst.sl.r a6 X6) (runFirst.sl.r_1 a7 X7) (runFirst.sl.r_4 i a4 X4) (runFirst.sl.r_5 i a5 X5)
          (View.readAt (Elt F) Mdo.view (Rect.unit (s := S16384x128) (k0_off4 i) S512x128.size (k0_off4_inb i)).toLoadRect (colDo i h1 Ydo))
          (k0_pay18 (View.readAt (Elt F) a6.view (Rect.unit (s := S1024x128) ![0, 0] S1024x128.size inb_S1024x128_S1024x128_0_0).toLoadRect X6)
            (View.readAt (Elt F) Mq.view (Rect.unit (s := S16384x128) (k0_off4 i) S512x128.size (k0_off4_inb i)).toLoadRect (colQ i h1 Yq)))
          k0_pay19 runFirst.sl.cst_12
          (View.readAt (Elt F) Mdq.view (Rect.unit (s := S16384x128) (k0_off4 i) S512x128.size (k0_off4_inb i)).toLoadRect (k0_pay11 (F := F)))))
      = rowsB i (k0_pay11 (F := F)) := by
    refine (View.readAt_unit Mdq.view _ _ rfl (k0_off5_inb i)).trans ?_
    refine VecWindow.window_put_of_disjoint (s := S16384x128) _ _ _ _ _ (k0_off5_inb i) _ 0 (Or.inr ?_)
    rw [k0_off4_eq, k0_off5_eq]
    exact le_refl _
  rw [hd]
  rfl

theorem first_init :
    ((k0_pay31 (runFirst.sl.r_1 a7 X7) (runFirst.sl.r_9 c i a4 a5 a6 a7 X4 X5 X6 X7 h1 Yq Ydo)
        (runFirst.sl.r_11 i a5 X5) (runFirst.sl.r_12 c i h1 Yq) (runFirst.sl.r_13 c i h1 Ydo)
        (runFirst.sl.r_14 c i a4 a6 X4 X6 h1 Yq),
      k0_pay32 (runFirst.sl.r_10 c i a4 a6 X4 X6 h1 Yq Ydo) (runFirst.sl.r_13 c i h1 Ydo)
        (runFirst.sl.r_14 c i a4 a6 X4 X6 h1 Yq)) : Carry F)
    = diag0 i (a4.view.read (Elt F) X4) (a5.view.read (Elt F) X5)
      (a6.view.readAt (Elt F) (Rect.unit (s := S1024x128) ![0, 0] S1024x128.size inb_S1024x128_S1024x128_0_0).toLoadRect X6)
      (a7.view.readAt (Elt F) (Rect.unit (s := S1024x128) ![0, 0] S1024x128.size inb_S1024x128_S1024x128_0_0).toLoadRect X7)
      (colQ i h1 Yq) (colDo i h1 Ydo) := by
  unfold runFirst.sl.r_9 runFirst.sl.r_10 runFirst.sl.r_12 runFirst.sl.r_14 runFirst.sl.r_13 runFirst.sl.r_7 runFirst.sl.r_8 runFirst.sl.r_6
  rw [first_q, first_do]
  rfl

theorem first_Q : (runFirst c i a4 h4 a5 h5 a6 h6 a7 h7 a9 h9 a10 h10 X4 X5 X6 X7 xq xdo y h1 h2 Yq Ydo).2.2.1.2.2
    = (finX i (colQ i h1 Yq) (colDo i h1 Ydo) a4 a5 a6 a7 X4 X5 X6 X7 (k0_pay11 (F := F))).2 := by
  refine Eq.trans ?_ (stQ_eq ..)
  unfold runFirst
  dsimp only
  rw [first_G, first_q, first_do, first_init]
  rfl

theorem first_K : (runFirst c i a4 h4 a5 h5 a6 h6 a7 h7 a9 h9 a10 h10 X4 X5 X6 X7 xq xdo y h1 h2 Yq Ydo).1
      = [⟨Rect.unit (s := S1024x128) ![0, 0] S1024x128.size inb_S1024x128_S1024x128_0_0,
          k0_pay35 (finX i (colQ i h1 Yq) (colDo i h1 Ydo) a4 a5 a6 a7 X4 X5 X6 X7 (k0_pay11 (F := F))).1.1⟩] := by
  unfold finX
  rw [← stR_eq]
  unfold runFirst
  dsimp only
  rw [first_G, first_q, first_do, first_init]
  rfl

theorem first_V : (runFirst c i a4 h4 a5 h5 a6 h6 a7 h7 a9 h9 a10 h10 X4 X5 X6 X7 xq xdo y h1 h2 Yq Ydo).2.1
      = [⟨Rect.unit (s := S1024x128) ![0, 0] S1024x128.size inb_S1024x128_S1024x128_0_0,
          (finX i (colQ i h1 Yq) (colDo i h1 Ydo) a4 a5 a6 a7 X4 X5 X6 X7 (k0_pay11 (F := F))).1.2⟩] := by
  unfold finX
  rw [← stR_eq]
  unfold runFirst
  dsimp only
  rw [first_G, first_q, first_do, first_init]
  rfl

end First

end Cert.KernelIdeal.Hand

end

end
-- ==== Proof.Point.lean ====
module

public import proofs.«01_k».proof.Proof.Spec

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (Pipeline.UC sig nD τ) ℕ

/-- The scratch: a head's queries, its cotangents, its query gradients so far. -/
abbrev Scr (F : FTy → Type) : Type := Vec F S16384x128 .bf16 × Vec F S16384x128 .bf16 × Vec F S16384x128 .f32

variable (i : grid0.Coords) (x4 x5 : Vec F S1x128x1024 .f32) (x6 x7 : Vec F S1024x128 .bf16)
  (Vq : Vec F S16384x1024 .bf16) (Vdo : Vec F S16384x1536 .bf16) (s : Scr F) (H : Vec F S16384x1024 .f32)

/-- What a point computes from: at a head's first key tile the head's columns and zero, later what the scratch holds. -/
def starts : Scr F := if h : k0_cond1 i = 1#1 then (colQ i h Vq, colDo i h Vdo, k0_pay11) else s
/-- What it computes. -/
def outcome : Carry F × Vec F S16384x128 .f32 :=
  fin i x4 x5 x6 x7 (starts i Vq Vdo s).1 (starts i Vq Vdo s).2.1 (starts i Vq Vdo s).2.2
/-- The query gradients it leaves in the scratch: at a head's last key tile, scaled. -/
def leavesQ : Vec F S16384x128 .f32 :=
  if k0_cond2 i = 1#1 then k0_pay36 (outcome i x4 x5 x6 x7 Vq Vdo s).2 else (outcome i x4 x5 x6 x7 Vq Vdo s).2
/-- The scratch and the result array it leaves. -/
def leaves : Scr F := ((starts i Vq Vdo s).1, (starts i Vq Vdo s).2.1, leavesQ i x4 x5 x6 x7 Vq Vdo s)
def leavesH : Vec F S16384x1024 .f32 :=
  if k0_cond2 i = 1#1 then put (s := S16384x1024) H (k0_off10 i) S16384x128.size (leavesQ i x4 x5 x6 x7 Vq Vdo s) else H

theorem cond_excl : ∀ i : grid0.Coords, k0_cond1 i = 1#1 → ¬ k0_cond2 i = 1#1 := by decide +kernel

variable (c : Dev nD)
  (a4 : Memref sig .tc .vmem S1x128x1024 .f32) (h4 : a4.IsWhole) (a5 : Memref sig .tc .vmem S1x128x1024 .f32) (h5 : a5.IsWhole)
  (a6 : Memref sig .tc .vmem S1024x128 .bf16) (h6 : a6.IsWhole) (a7 : Memref sig .tc .vmem S1024x128 .bf16) (h7 : a7.IsWhole)
  (a9 : Memref sig .tc .vmem S1024x128 .f32) (h9 : a9.IsWhole) (a10 : Memref sig .tc .vmem S1024x128 .f32) (h10 : a10.IsWhole)

/-- What a point holds. -/
abbrev Holds (d9 d10 : Vec F S1024x128 .f32) (s : Scr F) (H : Vec F S16384x1024 .f32) : sProp 𝕄 :=
  iprop(owns (c : Thread nD τ) a4 fullShare x4 ∗ owns (c : Thread nD τ) a5 fullShare x5
    ∗ owns (c : Thread nD τ) a6 fullShare x6 ∗ owns (c : Thread nD τ) a7 fullShare x7
    ∗ owns (c : Thread nD τ) a9 fullShare d9 ∗ owns (c : Thread nD τ) a10 fullShare d10
    ∗ (Mq.view.loc (c : Thread nD τ) ↦[Mq.view.set]{fullShare} s.1) ∗ (Mdo.view.loc (c : Thread nD τ) ↦[Mdo.view.set]{fullShare} s.2.1)
    ∗ (Mdq.view.loc (c : Thread nD τ) ↦[Mdq.view.set]{fullShare} s.2.2)
    ∗ (Hq.view.loc (c : Thread nD τ) ↦{fullShare} Vq) ∗ (Hdo.view.loc (c : Thread nD τ) ↦{fullShare} Vdo)
    ∗ (Hdq.view.loc (c : Thread nD τ) ↦{fullShare} H)
    ∗ semVal ((c : Thread nD τ), SemLoc.dma 12) 0 ∗ semVal ((c : Thread nD τ), SemLoc.dma 13) 0 ∗ semVal ((c : Thread nD τ), SemLoc.dma 14) 0
    ∗ (∃ W', owes (c : Thread nD τ) 0 W'))

theorem owns_of_writes (m : Memref sig .tc .vmem S1024x128 .f32) (f : BufTy.Contents (Elt F) m.view.ty) (L : List (View.Piece (Elt F) S1024x128 .f32))
    (w : Vec F S1024x128 .f32) (hL : L = [⟨Rect.unit (s := S1024x128) ![0, 0] S1024x128.size inb_S1024x128_S1024x128_0_0, w⟩]) :
    (m.view.loc (c : Thread nD τ) ↦[m.view.set]{fullShare} m.view.writes (Elt F) f L : sProp 𝕄) ⊢ owns (c : Thread nD τ) m fullShare w := by
  subst hL
  unfold owns
  iintro H
  iexists _; isplitr
  swap; · iexact H
  ipureintro; exact View.read_writes_full _ _ _ _ _

theorem rep_of_owns {S : Shape} {e : EltTy} (m : Memref sig .tc .vmem S e) (x : Vec F S e) :
    (owns (c : Thread nD τ) m fullShare x : sProp 𝕄) ⊢ (m.view.loc (c : Thread nD τ) ↦[m.view.set]{fullShare} m.view.rep x) := by
  unfold owns
  iintro ⟨%f, %hf, H⟩
  iapply (pointsTo_rep_of_read (c : Thread nD τ) m f fullShare x hf)
  iexact H
theorem owns_of_rep {S : Shape} {e : EltTy} (m : Memref sig .tc .vmem S e) (x : Vec F S e) :
    (m.view.loc (c : Thread nD τ) ↦[m.view.set]{fullShare} m.view.rep x : sProp 𝕄) ⊢ owns (c : Thread nD τ) m fullShare x := by
  unfold owns
  iintro H
  iexists _; isplitr
  swap; · iexact H
  ipureintro; exact View.read_rep _ _

theorem some_of_owns {S : Shape} {e : EltTy} (m : Memref sig .tc .vmem S e) (x : Vec F S e) :
    (owns (c : Thread nD τ) m fullShare x : sProp 𝕄) ⊢ iprop(∃ f, m.view.loc (c : Thread nD τ) ↦[m.view.set]{fullShare} f) := by
  unfold owns
  iintro ⟨%f, -, H⟩
  iexists f; iexact H

set_option maxHeartbeats 4000000 in
theorem point (d9 d10 : Vec F S1024x128 .f32) (K : PUnit → sProp 𝕄) :
    iprop(Holds x4 x5 x6 x7 Vq Vdo c a4 a5 a6 a7 a9 a10 d9 d10 s H
      ∗ (Holds x4 x5 x6 x7 Vq Vdo c a4 a5 a6 a7 a9 a10 (k0_pay35 (outcome i x4 x5 x6 x7 Vq Vdo s).1.1) (outcome i x4 x5 x6 x7 Vq Vdo s).1.2
          (leaves i x4 x5 x6 x7 Vq Vdo s) (leavesH i x4 x5 x6 x7 Vq Vdo s H) -∗ K ⟨⟩))
    ⊢ wp frame (wpE (defs₀ (F := F)) Variants.none (c : Thread nD τ) none) Set.univ
          (cc0_l0_even_attn_bwd (F := F) i Hq (Memref.isWhole_whole _) Hdo (Memref.isWhole_whole _) a4 h4 a5 h5 a6 h6 a7 h7 Hdq (Memref.isWhole_whole _)
            a9 h9 a10 h10 Mq (Memref.isWhole_whole _) Mdo (Memref.isWhole_whole _) Mdq (Memref.isWhole_whole _) cc0_scoped0 cc0_scoped1 cc0_scoped2) K := by
  iintro ⟨⟨H4, H5, H6, H7, H9, H10, HMq, HMdo, HMdq, HHq, HHdo, HHdq, Hs0, Hs1, Hs2, ⟨%W, HO⟩⟩, Hk⟩
  ihave H4 := (rep_of_owns c a4 x4) $$ H4
  ihave H5 := (rep_of_owns c a5 x5) $$ H5
  ihave H6 := (rep_of_owns c a6 x6) $$ H6
  ihave H7 := (rep_of_owns c a7 x7) $$ H7
  icases (some_of_owns c a9 d9) $$ H9 with ⟨%f9, H9⟩
  icases (some_of_owns c a10 d10) $$ H10 with ⟨%f10, H10⟩
  by_cases h1 : k0_cond1 i = 1#1
  · have h2 := cond_excl i h1
    have es : starts i Vq Vdo s = (colQ i h1 Vq, colDo i h1 Vdo, k0_pay11) := dif_pos h1
    have ef : finX i (colQ i h1 Vq) (colDo i h1 Vdo) a4 a5 a6 a7 (a4.view.rep x4) (a5.view.rep x5) (a6.view.rep x6) (a7.view.rep x7) (k0_pay11 (F := F))
        = outcome i x4 x5 x6 x7 Vq Vdo s := by
      unfold outcome; rw [es, finX_rep]
    have eQ := (first_Q i s.1 s.2.1 s.2.2 c a4 h4 a5 h5 a6 h6 a7 h7 a9 h9 a10 h10 (a4.view.rep x4) (a5.view.rep x5) (a6.view.rep x6) (a7.view.rep x7) h1 h2 Vq Vdo).trans (congrArg Prod.snd ef)
    have e1 := first_Mq i s.1 s.2.1 s.2.2 c a4 h4 a5 h5 a6 h6 a7 h7 a9 h9 a10 h10 (a4.view.rep x4) (a5.view.rep x5) (a6.view.rep x6) (a7.view.rep x7) h1 h2 Vq Vdo
    have e2 := first_Mdo i s.1 s.2.1 s.2.2 c a4 h4 a5 h5 a6 h6 a7 h7 a9 h9 a10 h10 (a4.view.rep x4) (a5.view.rep x5) (a6.view.rep x6) (a7.view.rep x7) h1 h2 Vq Vdo
    have eK := first_K i s.1 s.2.1 s.2.2 c a4 h4 a5 h5 a6 h6 a7 h7 a9 h9 a10 h10 (a4.view.rep x4) (a5.view.rep x5) (a6.view.rep x6) (a7.view.rep x7) h1 h2 Vq Vdo
    have eV := first_V i s.1 s.2.1 s.2.2 c a4 h4 a5 h5 a6 h6 a7 h7 a9 h9 a10 h10 (a4.view.rep x4) (a5.view.rep x5) (a6.view.rep x6) (a7.view.rep x7) h1 h2 Vq Vdo
    rw [ef] at eK eV
    have eL : leaves i x4 x5 x6 x7 Vq Vdo s = (colQ i h1 Vq, colDo i h1 Vdo, (outcome i x4 x5 x6 x7 Vq Vdo s).2) := by
      unfold leaves leavesQ; rw [es, if_neg h2]
    have eH : leavesH i x4 x5 x6 x7 Vq Vdo s H = H := if_neg h2
    generalize runFirst c i a4 h4 a5 h5 a6 h6 a7 h7 a9 h9 a10 h10 (a4.view.rep x4) (a5.view.rep x5) (a6.view.rep x6) (a7.view.rep x7) s.1 s.2.1 s.2.2 h1 h2 Vq Vdo = R at eQ e1 e2 eK eV
    obtain ⟨L9, L10, ⟨fa, fb, fc⟩, hr⟩ := R
    replace eQ : fc = _ := eQ
    replace e1 : fa = _ := e1
    replace e2 : fb = _ := e2
    replace eK : L9 = _ := eK
    replace eV : L10 = _ := eV
    subst fa fb fc L9 L10
    iapply (hr f9 f10 W K)
    isplitl [H4]; · iexact H4
    isplitl [H5]; · iexact H5
    isplitl [H6]; · iexact H6
    isplitl [H7]; · iexact H7
    isplitl [H9]; · iexact H9
    isplitl [H10]; · iexact H10
    isplitl [HMq]; · iexact HMq
    isplitl [HMdo]; · iexact HMdo
    isplitl [HMdq]; · iexact HMdq
    isplitl [HHq]; · iexact HHq
    isplitl [HHdo]; · iexact HHdo
    isplitl [Hs0]; · iexact Hs0
    isplitl [Hs1]; · iexact Hs1
    isplitl [HO]; · iexact HO
    iintro ⟨H4, H5, H6, H7, H9, H10, HMq, HMdo, HMdq, HHq, HHdo, Hs0, Hs1, HO⟩
    iapply Hk
    rw [eL, eH]
    isplitl [H4]; · iapply (owns_of_rep c a4 x4); iexact H4
    isplitl [H5]; · iapply (owns_of_rep c a5 x5); iexact H5
    isplitl [H6]; · iapply (owns_of_rep c a6 x6); iexact H6
    isplitl [H7]; · iapply (owns_of_rep c a7 x7); iexact H7
    isplitl [H9]; · iapply (owns_of_writes c a9 f9 _ _ rfl); iexact H9
    isplitl [H10]; · iapply (owns_of_writes c a10 f10 _ _ rfl); iexact H10
    isplitl [HMq]; · iexact HMq
    isplitl [HMdo]; · iexact HMdo
    isplitl [HMdq]; · iexact HMdq
    isplitl [HHq]; · iexact HHq
    isplitl [HHdo]; · iexact HHdo
    isplitl [HHdq]; · iexact HHdq
    isplitl [Hs0]; · iexact Hs0
    isplitl [Hs1]; · iexact Hs1
    isplitl [Hs2]; · iexact Hs2
    iexact HO
  · have es : starts i Vq Vdo s = s := dif_neg h1
    have ef : finX i s.1 s.2.1 a4 a5 a6 a7 (a4.view.rep x4) (a5.view.rep x5) (a6.view.rep x6) (a7.view.rep x7) s.2.2
        = outcome i x4 x5 x6 x7 Vq Vdo s := by
      unfold outcome; rw [es, finX_rep]
    by_cases h2 : k0_cond2 i = 1#1
    · have eQ := (last_Q i s.1 s.2.1 s.2.2 c a4 h4 a5 h5 a6 h6 a7 h7 a9 h9 a10 h10 (a4.view.rep x4) (a5.view.rep x5) (a6.view.rep x6) (a7.view.rep x7) h1 h2 H)
      have eR := (last_H i s.1 s.2.1 s.2.2 c a4 h4 a5 h5 a6 h6 a7 h7 a9 h9 a10 h10 (a4.view.rep x4) (a5.view.rep x5) (a6.view.rep x6) (a7.view.rep x7) h1 h2 H)
      have eK := last_K i s.1 s.2.1 s.2.2 c a4 h4 a5 h5 a6 h6 a7 h7 a9 h9 a10 h10 (a4.view.rep x4) (a5.view.rep x5) (a6.view.rep x6) (a7.view.rep x7) h1 h2 H
      have eV := last_V i s.1 s.2.1 s.2.2 c a4 h4 a5 h5 a6 h6 a7 h7 a9 h9 a10 h10 (a4.view.rep x4) (a5.view.rep x5) (a6.view.rep x6) (a7.view.rep x7) h1 h2 H
      rw [ef] at eQ eR eK eV
      have eL : leaves i x4 x5 x6 x7 Vq Vdo s = (s.1, s.2.1, k0_pay36 (outcome i x4 x5 x6 x7 Vq Vdo s).2) := by
        unfold leaves leavesQ; rw [es, if_pos h2]
      have eH : leavesH i x4 x5 x6 x7 Vq Vdo s H = put (s := S16384x1024) H (k0_off10 i) S16384x128.size (k0_pay36 (outcome i x4 x5 x6 x7 Vq Vdo s).2) := by
        unfold leavesH leavesQ; rw [if_pos h2, if_pos h2]
      generalize runLast c i a4 h4 a5 h5 a6 h6 a7 h7 a9 h9 a10 h10 (a4.view.rep x4) (a5.view.rep x5) (a6.view.rep x6) (a7.view.rep x7) s.1 s.2.1 s.2.2 h1 h2 H = R at eQ eR eK eV
      obtain ⟨L9, L10, ⟨fa, fb⟩, hr⟩ := R
      replace eQ : fa = _ := eQ
      replace eR : fb = _ := eR
      replace eK : L9 = _ := eK
      replace eV : L10 = _ := eV
      subst fa fb L9 L10
      iapply (hr f9 f10 W K)
      isplitl [H4]; · iexact H4
      isplitl [H5]; · iexact H5
      isplitl [H6]; · iexact H6
      isplitl [H7]; · iexact H7
      isplitl [H9]; · iexact H9
      isplitl [H10]; · iexact H10
      isplitl [HMq]; · iexact HMq
      isplitl [HMdo]; · iexact HMdo
      isplitl [HMdq]; · iexact HMdq
      isplitl [HHdq]; · iexact HHdq
      isplitl [Hs2]; · iexact Hs2
      isplitl [HO]; · iexact HO
      iintro ⟨H4, H5, H6, H7, H9, H10, HMq, HMdo, HMdq, HHdq, Hs2, HO⟩
      iapply Hk
      rw [eL, eH]
      isplitl [H4]; · iapply (owns_of_rep c a4 x4); iexact H4
      isplitl [H5]; · iapply (owns_of_rep c a5 x5); iexact H5
      isplitl [H6]; · iapply (owns_of_rep c a6 x6); iexact H6
      isplitl [H7]; · iapply (owns_of_rep c a7 x7); iexact H7
      isplitl [H9]; · iapply (owns_of_writes c a9 f9 _ _ rfl); iexact H9
      isplitl [H10]; · iapply (owns_of_writes c a10 f10 _ _ rfl); iexact H10
      isplitl [HMq]; · iexact HMq
      isplitl [HMdo]; · iexact HMdo
      isplitl [HMdq]; · iexact HMdq
      isplitl [HHq]; · iexact HHq
      isplitl [HHdo]; · iexact HHdo
      isplitl [HHdq]; · iexact HHdq
      isplitl [Hs0]; · iexact Hs0
      isplitl [Hs1]; · iexact Hs1
      isplitl [Hs2]; · iexact Hs2
      iexact HO
    · have eQ := (mid_Q i s.1 s.2.1 s.2.2 c a4 h4 a5 h5 a6 h6 a7 h7 a9 h9 a10 h10 (a4.view.rep x4) (a5.view.rep x5) (a6.view.rep x6) (a7.view.rep x7) h1 h2)
      have eK := mid_K i s.1 s.2.1 s.2.2 c a4 h4 a5 h5 a6 h6 a7 h7 a9 h9 a10 h10 (a4.view.rep x4) (a5.view.rep x5) (a6.view.rep x6) (a7.view.rep x7) h1 h2
      have eV := mid_V i s.1 s.2.1 s.2.2 c a4 h4 a5 h5 a6 h6 a7 h7 a9 h9 a10 h10 (a4.view.rep x4) (a5.view.rep x5) (a6.view.rep x6) (a7.view.rep x7) h1 h2
      rw [ef] at eQ eK eV
      have eL : leaves i x4 x5 x6 x7 Vq Vdo s = (s.1, s.2.1, (outcome i x4 x5 x6 x7 Vq Vdo s).2) := by
        unfold leaves leavesQ; rw [es, if_neg h2]
      have eH : leavesH i x4 x5 x6 x7 Vq Vdo s H = H := if_neg h2
      generalize runMid c i a4 h4 a5 h5 a6 h6 a7 h7 a9 h9 a10 h10 (a4.view.rep x4) (a5.view.rep x5) (a6.view.rep x6) (a7.view.rep x7) s.1 s.2.1 s.2.2 h1 h2 = R at eQ eK eV
      obtain ⟨L9, L10, fa, hr⟩ := R
      replace eQ : fa = _ := eQ
      replace eK : L9 = _ := eK
      replace eV : L10 = _ := eV
      subst fa L9 L10
      iapply (hr f9 f10 K)
      isplitl [H4]; · iexact H4
      isplitl [H5]; · iexact H5
      isplitl [H6]; · iexact H6
      isplitl [H7]; · iexact H7
      isplitl [H9]; · iexact H9
      isplitl [H10]; · iexact H10
      isplitl [HMq]; · iexact HMq
      isplitl [HMdo]; · iexact HMdo
      isplitl [HMdq]; · iexact HMdq
      iintro ⟨H4, H5, H6, H7, H9, H10, HMq, HMdo, HMdq⟩
      iapply Hk
      rw [eL, eH]
      isplitl [H4]; · iapply (owns_of_rep c a4 x4); iexact H4
      isplitl [H5]; · iapply (owns_of_rep c a5 x5); iexact H5
      isplitl [H6]; · iapply (owns_of_rep c a6 x6); iexact H6
      isplitl [H7]; · iapply (owns_of_rep c a7 x7); iexact H7
      isplitl [H9]; · iapply (owns_of_writes c a9 f9 _ _ rfl); iexact H9
      isplitl [H10]; · iapply (owns_of_writes c a10 f10 _ _ rfl); iexact H10
      isplitl [HMq]; · iexact HMq
      isplitl [HMdo]; · iexact HMdo
      isplitl [HMdq]; · iexact HMdq
      isplitl [HHq]; · iexact HHq
      isplitl [HHdo]; · iexact HHdo
      isplitl [HHdq]; · iexact HHdq
      isplitl [Hs0]; · iexact Hs0
      isplitl [Hs1]; · iexact Hs1
      isplitl [Hs2]; · iexact Hs2
      iexists _; iexact HO

end Cert.KernelIdeal.Hand

end

end
-- ==== Proof.Run.lean ====
module

public import proofs.«01_k».proof.Proof.Point
public import Idealize.ShloMosaic.Lib.Pipeline.Routed

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open VecWindow (window put)

variable {F : FTy → Type} [FloatOps F] [Named F]

local notation "𝕄" => MT nD τ sig Unit (Elt F) ℕ (Pipeline.UC sig nD τ) ℕ

variable (m : (ℓ : Loc nD τ sig) → Buf (Elt F) ℓ) (ρ : Dev nD → PrngReg)

/-! ## What each point finds and leaves -/

/-- The blocks of the statistics, keys and values at a point, and the two arrays left in HBM. -/
abbrev B4 (c : Dev nD) (t : Fin cfg0.N) : Vec F S1x128x1024 .f32 := iblk m c 0 t
abbrev B5 (c : Dev nD) (t : Fin cfg0.N) : Vec F S1x128x1024 .f32 := iblk m c 1 t
abbrev B6 (c : Dev nD) (t : Fin cfg0.N) : Vec F S1024x128 .bf16 := iblk m c 2 t
abbrev B7 (c : Dev nD) (t : Fin cfg0.N) : Vec F S1024x128 .bf16 := iblk m c 3 t
abbrev AQ (c : Dev nD) : Vec F S16384x1024 .bf16 := V m c main_v32
abbrev ADo (c : Dev nD) : Vec F S16384x1536 .bf16 := V m c main_v30

/-- The scratch and the query gradients' array before point `n`. -/
def trk (c : Dev nD) : ℕ → Scr F × Vec F S16384x1024 .f32
  | 0 => ((View.junk Mq.view, View.junk Mdo.view, View.junk Mdq.view), V m c main_v43_0)
  | n + 1 => if h : n < cfg0.N then
      (leaves (grid0.coords ⟨n, h⟩) (B4 m c ⟨n, h⟩) (B5 m c ⟨n, h⟩) (B6 m c ⟨n, h⟩) (B7 m c ⟨n, h⟩) (AQ m c) (ADo m c) (trk c n).1,
       leavesH (grid0.coords ⟨n, h⟩) (B4 m c ⟨n, h⟩) (B5 m c ⟨n, h⟩) (B6 m c ⟨n, h⟩) (B7 m c ⟨n, h⟩) (AQ m c) (ADo m c) (trk c n).1 (trk c n).2)
    else trk c n

/-- What point `t` computes. -/
def outAt (c : Dev nD) (t : Fin cfg0.N) : Carry F × Vec F S16384x128 .f32 :=
  outcome (grid0.coords t) (B4 m c t) (B5 m c t) (B6 m c t) (B7 m c t) (AQ m c) (ADo m c) (trk m c t.val).1

theorem trk_succ (c : Dev nD) (t : Fin cfg0.N) : trk m c (t.val + 1)
    = (leaves (grid0.coords t) (B4 m c t) (B5 m c t) (B6 m c t) (B7 m c t) (AQ m c) (ADo m c) (trk m c t.val).1,
       leavesH (grid0.coords t) (B4 m c t) (B5 m c t) (B6 m c t) (B7 m c t) (AQ m c) (ADo m c) (trk m c t.val).1 (trk m c t.val).2) := by
  rw [trk, dif_pos t.isLt]

theorem cond1_of : ∀ t : Fin grid0.N, t.val % 16 = 0 → k0_cond1 (grid0.coords t) = 1#1 := by decide +kernel

/-- At a head's first key tile the scratch found is not read. -/
theorem starts_eq (i : grid0.Coords) (Vq : Vec F S16384x1024 .bf16) (Vdo : Vec F S16384x1536 .bf16) (s s' : Scr F) (h : k0_cond1 i = 1#1) :
    starts i Vq Vdo s = starts i Vq Vdo s' := by
  unfold starts; rw [dif_pos h, dif_pos h]
theorem starts_found (c : Dev nD) (t : Fin cfg0.N) (s : Scr F) (h : t.val % 16 ≠ 0 → s = (trk m c t.val).1) :
    starts (grid0.coords t) (AQ m c) (ADo m c) s = starts (grid0.coords t) (AQ m c) (ADo m c) (trk m c t.val).1 := by
  by_cases hm : t.val % 16 = 0
  · exact starts_eq _ _ _ _ _ (cond1_of t hm)
  · rw [h hm]
theorem outcome_found (c : Dev nD) (t : Fin cfg0.N) (s : Scr F) (h : t.val % 16 ≠ 0 → s = (trk m c t.val).1) :
    outcome (grid0.coords t) (B4 m c t) (B5 m c t) (B6 m c t) (B7 m c t) (AQ m c) (ADo m c) s = outAt m c t := by
  unfold outAt outcome; rw [starts_found m c t s h]
theorem leaves_found (c : Dev nD) (t : Fin cfg0.N) (s : Scr F) (h : t.val % 16 ≠ 0 → s = (trk m c t.val).1) :
    leaves (grid0.coords t) (B4 m c t) (B5 m c t) (B6 m c t) (B7 m c t) (AQ m c) (ADo m c) s = (trk m c (t.val + 1)).1 := by
  rw [trk_succ]; dsimp only; unfold leaves leavesQ; rw [outcome_found m c t s h, outcome_found m c t _ fun _ => rfl, starts_found m c t s h]
theorem leavesH_found (c : Dev nD) (t : Fin cfg0.N) (s : Scr F) (h : t.val % 16 ≠ 0 → s = (trk m c t.val).1) :
    leavesH (grid0.coords t) (B4 m c t) (B5 m c t) (B6 m c t) (B7 m c t) (AQ m c) (ADo m c) s (trk m c t.val).2 = (trk m c (t.val + 1)).2 := by
  rw [trk_succ]; dsimp only; unfold leavesH leavesQ; rw [outcome_found m c t s h, outcome_found m c t _ fun _ => rfl]

/-! ## The proof data -/

/-- Before point `n`: the scratch at what the points so far left (anything at a head's first), the two arrays read
    and the one written in HBM, the transfers' semaphores at zero, the generator's register. -/
def Inv (c : Dev nD) (n : ℕ) : sProp 𝕄 :=
  iprop(∃ s : Scr F, ⌜n % 16 ≠ 0 → s = (trk m c n).1⌝
    ∗ (Mq.view.loc (c : Thread nD τ) ↦[Mq.view.set]{fullShare} s.1) ∗ (Mdo.view.loc (c : Thread nD τ) ↦[Mdo.view.set]{fullShare} s.2.1)
    ∗ (Mdq.view.loc (c : Thread nD τ) ↦[Mdq.view.set]{fullShare} s.2.2)
    ∗ (Hq.view.loc (c : Thread nD τ) ↦{fullShare} AQ m c) ∗ (Hdo.view.loc (c : Thread nD τ) ↦{fullShare} ADo m c)
    ∗ (Hdq.view.loc (c : Thread nD τ) ↦{fullShare} (trk m c n).2)
    ∗ semVal ((c : Thread nD τ), SemLoc.dma 12) 0 ∗ semVal ((c : Thread nD τ), SemLoc.dma 13) 0 ∗ semVal ((c : Thread nD τ), SemLoc.dma 14) 0
    ∗ (∃ r, prngReg c r))

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay35 (outAt m c t).1.1
    | ⟨5, _⟩ => (outAt m c t).1.2
  Φ t := Inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay35 (outAt m c t).1.1 := by dsimp only [dats]
theorem after_5 (c : Dev nD) (t : Fin cfg0.N) : (dats m 0 c).after 5 t = (outAt m c t).1.2 := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body's obligation -/

abbrev g0 (t : Fin cfg0.N) : Memref sig .tc .vmem S1x128x1024 .f32 := win0_0.stage (cfg0.slots t 0)
abbrev g1 (t : Fin cfg0.N) : Memref sig .tc .vmem S1x128x1024 .f32 := win0_1.stage (cfg0.slots t 1)
abbrev g2 (t : Fin cfg0.N) : Memref sig .tc .vmem S1024x128 .bf16 := win0_2.stage (cfg0.slots t 2)
abbrev g3 (t : Fin cfg0.N) : Memref sig .tc .vmem S1024x128 .bf16 := win0_3.stage (cfg0.slots t 3)
abbrev g4 (t : Fin cfg0.N) : Memref sig .tc .vmem S1024x128 .f32 := win0_4.stage (cfg0.slots t 4)
abbrev g5 (t : Fin cfg0.N) : Memref sig .tc .vmem S1024x128 .f32 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (g0 t) fullShare ((dats m 0 c).before 0 t d))
    ∗ (∃ d, owns (c : Thread nD τ) (g1 t) fullShare ((dats m 0 c).before 1 t d))
    ∗ (∃ d, owns (c : Thread nD τ) (g2 t) fullShare ((dats m 0 c).before 2 t d))
    ∗ (∃ d, owns (c : Thread nD τ) (g3 t) fullShare ((dats m 0 c).before 3 t d))
    ∗ (∃ d, owns (c : Thread nD τ) (g4 t) fullShare ((dats m 0 c).before 4 t d))
    ∗ (∃ d, owns (c : Thread nD τ) (g5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (g0 t) fullShare ((dats m 0 c).after 0 t)
    ∗ owns (c : Thread nD τ) (g1 t) fullShare ((dats m 0 c).after 1 t)
    ∗ owns (c : Thread nD τ) (g2 t) fullShare ((dats m 0 c).after 2 t)
    ∗ owns (c : Thread nD τ) (g3 t) fullShare ((dats m 0 c).after 3 t)
    ∗ owns (c : Thread nD τ) (g4 t) fullShare ((dats m 0 c).after 4 t)
    ∗ owns (c : Thread nD τ) (g5 t) fullShare ((dats m 0 c).after 5 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Inv m c t.val from rfl, show (dats m 0 c).Φ t.succ = Inv m c (t.val + 1) from rfl]
  simp only [before_0, before_1, before_2, before_3]
  rw [after_0, after_1, after_2, after_3, after_4, after_5]
  unfold Dat.owesAt Pipeline.owesWithin
  rw [show (dats m 0 c).owed t.castSucc = 0 from rfl, show (dats m 0 c).owed t.succ = 0 from rfl]
  unfold Inv
  iintro ⟨⟨%s, %hs, HMq, HMdo, HMdq, HHq, HHdo, HHdq, Hs0, Hs1, Hs2, Hp⟩, ⟨%W, -, HW⟩, ⟨%d0, H4⟩, ⟨%d1, H5⟩, ⟨%d2, H6⟩, ⟨%d3, H7⟩, ⟨%d4, H9⟩, ⟨%d5, H10⟩⟩
  iapply (point (grid0.coords t) (B4 m c t) (B5 m c t) (B6 m c t) (B7 m c t) (AQ m c) (ADo m c) s (trk m c t.val).2 c
    (g0 t) (hstage0_0 ((cfg0.slots t 0).cast nbuf0_0)) (g1 t) (hstage0_1 ((cfg0.slots t 1).cast nbuf0_1))
    (g2 t) (hstage0_2 ((cfg0.slots t 2).cast nbuf0_2)) (g3 t) (hstage0_3 ((cfg0.slots t 3).cast nbuf0_3))
    (g4 t) (hstage0_4 ((cfg0.slots t 4).cast nbuf0_4)) (g5 t) (hstage0_5 ((cfg0.slots t 5).cast nbuf0_5))
    ((dats m 0 c).before 4 t d4) ((dats m 0 c).before 5 t d5))
  rw [outcome_found m c t s hs, leaves_found m c t s hs, leavesH_found m c t s hs]
  isplitl [HMq HMdo HMdq HHq HHdo HHdq Hs0 Hs1 Hs2 HW H4 H5 H6 H7 H9 H10]
  · isplitl [H4]; · iexact H4
    isplitl [H5]; · iexact H5
    isplitl [H6]; · iexact H6
    isplitl [H7]; · iexact H7
    isplitl [H9]; · iexact H9
    isplitl [H10]; · iexact H10
    isplitl [HMq]; · iexact HMq
    isplitl [HMdo]; · iexact HMdo
    isplitl [HMdq]; · iexact HMdq
    isplitl [HHq]; · iexact HHq
    isplitl [HHdo]; · iexact HHdo
    isplitl [HHdq]; · iexact HHdq
    isplitl [Hs0]; · iexact Hs0
    isplitl [Hs1]; · iexact Hs1
    isplitl [Hs2]; · iexact Hs2
    iexists _; iexact HW
  iintro ⟨H4, H5, H6, H7, H9, H10, HMq, HMdo, HMdq, HHq, HHdo, HHdq, Hs0, Hs1, Hs2, ⟨%W', HW'⟩⟩
  isplitl [HMq HMdo HMdq HHq HHdo HHdq Hs0 Hs1 Hs2 Hp]
  · iexists (trk m c (t.val + 1)).1
    isplitr
    · ipureintro; exact fun _ => rfl
    isplitl [HMq]; · iexact HMq
    isplitl [HMdo]; · iexact HMdo
    isplitl [HMdq]; · iexact HMdq
    isplitl [HHq]; · iexact HHq
    isplitl [HHdo]; · iexact HHdo
    isplitl [HHdq]; · iexact HHdq
    isplitl [Hs0]; · iexact Hs0
    isplitl [Hs1]; · iexact Hs1
    isplitl [Hs2]; · iexact Hs2
    iexact Hp
  isplitl [HW']
  · iexists W'; isplitr; · ipureintro; exact fun _ _ => Or.inl trivial
    iexact HW'
  isplitl [H4]; · iexact H4
  isplitl [H5]; · iexact H5
  isplitl [H6]; · iexact H6
  isplitl [H7]; · iexact H7
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

abbrev osem0 : Fin 3 → SemLoc sig := fun j => (![SemLoc.dma 12, SemLoc.dma 13, SemLoc.dma 14] : Fin 3 → SemLoc sig) j
theorem ownSemFacts0 : Pipeline.OwnSemFacts spec0 osem0 := by decide

theorem ownSems0_eq (c : Dev nD) : (Pipeline.ownSems0 osem0 c : sProp 𝕄)
    = iprop(semVal ((c : Thread nD τ), SemLoc.dma 12) 0 ∗ semVal ((c : Thread nD τ), SemLoc.dma 13) 0 ∗ semVal ((c : Thread nD τ), SemLoc.dma 14) 0) := by
  rw [Pipeline.ownSems0_eq_of_list c osem0 [0, 1, 2] (by decide) (by decide)]; rfl

/-- The arrays the body moves itself: the queries, the cotangents, the query gradients. -/
def R0 : Finset (Ref sig .tc) := {main_v30, main_v32, main_v43_0}
theorem R0_sub : R0 ⊆ Pipeline.restRefs sig spec0 := by decide

/-- What the run leaves in them. -/
def Y (c : Dev nD) (b : Ref sig .tc) : Buf (Elt F) ((c.tc : Thread nD τ).loc b) :=
  if h : b = main_v43_0 then h ▸ (trk m c 128).2 else V m c b

theorem routed_eq (c : Dev nD) (W : (b : Ref sig .tc) → Buf (Elt F) ((c.tc : Thread nD τ).loc b)) :
    (Pipeline.routed R0 c W : sProp 𝕄) = iprop((((c.tc : Thread nD τ).loc main_v30) ↦{fullShare} W main_v30)
      ∗ (((c.tc : Thread nD τ).loc main_v32) ↦{fullShare} W main_v32) ∗ (((c.tc : Thread nD τ).loc main_v43_0) ↦{fullShare} W main_v43_0)) := by
  unfold Pipeline.routed
  rw [BI.bigSep_eq_bigSepL_of_eq [main_v30, main_v32, main_v43_0] (by decide) (by decide)]; rfl

/-- A buffer held whole, in the words the body's run uses. -/
theorem whole_pts (c : Dev nD) (b : Ref sig .tc) (f : Buf (Elt F) ((c : Thread nD τ).loc b)) :
    ((((c : Thread nD τ).loc b) ↦{fullShare} f) : sProp 𝕄)
      = ((Memref.whole b).view.loc (c : Thread nD τ) ↦[(Memref.whole b).view.set]{fullShare} f) := by
  rw [View.set_whole]

theorem inv_in (c : Dev nD) : Pipeline.Ends spec0 osem0 R0 c (V m c) ⊢ Inv m c 0 := by
  unfold Pipeline.Ends Inv
  rw [routed_eq, ownSems0_eq, scopedRest0_eq]
  iintro ⟨⟨HHdo, HHq, HHdq⟩, ⟨Hs0, Hs1, Hs2⟩, ⟨⟨%f0, HMq⟩, ⟨%f1, HMdo⟩, ⟨%f2, HMdq⟩⟩, Hp⟩
  iexists ((f0, f1, f2) : Scr F)
  isplitr
  · ipureintro; exact fun h => absurd rfl h
  ihave HMq := (Entails.of_eq (whole_pts c cc0_scratch0 f0)) $$ HMq
  ihave HMdo := (Entails.of_eq (whole_pts c cc0_scratch1 f1)) $$ HMdo
  ihave HMdq := (Entails.of_eq (whole_pts c cc0_scratch2 f2)) $$ HMdq
  isplitl [HMq]; · iexact HMq
  isplitl [HMdo]; · iexact HMdo
  isplitl [HMdq]; · iexact HMdq
  isplitl [HHq]; · iexact HHq
  isplitl [HHdo]; · iexact HHdo
  isplitl [HHdq]; · iexact HHdq
  isplitl [Hs0]; · iexact Hs0
  isplitl [Hs1]; · iexact Hs1
  isplitl [Hs2]; · iexact Hs2
  iexact Hp

theorem Y_dq (c : Dev nD) : Y m c main_v43_0 = (trk m c 128).2 := by unfold Y; rw [dif_pos rfl]
theorem Y_q (c : Dev nD) : Y m c main_v32 = AQ m c := by unfold Y; rw [dif_neg (by decide)]
theorem Y_do (c : Dev nD) : Y m c main_v30 = ADo m c := by unfold Y; rw [dif_neg (by decide)]

theorem inv_out (c : Dev nD) : Inv m c 128 ⊢ Pipeline.Ends spec0 osem0 R0 c (Y m c) := by
  unfold Pipeline.Ends Inv
  rw [routed_eq, ownSems0_eq, scopedRest0_eq, Y_dq, Y_q, Y_do]
  iintro ⟨%s, -, HMq, HMdo, HMdq, HHq, HHdo, HHdq, Hs0, Hs1, Hs2, Hp⟩
  isplitl [HHq HHdo HHdq]
  · isplitl [HHdo]; · iexact HHdo
    isplitl [HHq]; · iexact HHq
    iexact HHdq
  isplitl [Hs0 Hs1 Hs2]
  · isplitl [Hs0]; · iexact Hs0
    isplitl [Hs1]; · iexact Hs1
    iexact Hs2
  isplitr [Hp]
  · isplitl [HMq]
    · iexists s.1
      rw [whole_pts]; iexact HMq
    isplitl [HMdo]
    · iexists s.2.1
      rw [whole_pts]; iexact HMdo
    iexists s.2.2
    rw [whole_pts]; iexact HMdq
  iexact Hp

set_option maxHeartbeats 800000 in
/-- @main up to the call, at this proof's algebra. -/
theorem main_to_call (𝒱₀ : Variants) : Pipeline.HMain (Ix := Unit) (Name := ℕ) (U := Pipeline.UC sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- What a run ends with: the arguments as they were, the three results, every counter at zero. -/
def Ended (r : PUnit × MemSt nD τ sig (Elt F)) : Prop :=
  (∀ c : Dev nD,
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.mem ((c.tc : Thread nD τ).loc main_v43_0) = (trk m c 128).2
    ∧ r.2.mem ((c.tc : Thread nD τ).loc main_v43_1) = (dats m 0 c).arrAt 4 cfg0.N
    ∧ r.2.mem ((c.tc : Thread nD τ).loc main_v43_2) = (dats m 0 c).arrAt 5 cfg0.N)
  ∧ r.2.sem = fun _ => 0

theorem ended_of (r : PUnit × MemSt nD τ sig (Elt F))
    (h : Pipeline.RoutedPost cfgs (dats m) 0 R0 (V m) (Y m) r ∧ r.2.sem = (fun _ => 0)) : Ended m r :=
  ⟨fun c => ⟨⟨((h.1 c).2.2 main_arg0 (Finset.mem_sdiff.mpr ⟨Pipeline.mem_restRefs_of main_arg0 (by decide) (by decide), by decide⟩)).trans (V_main_arg0 m c),
      ((h.1 c).2.2 main_arg1 (Finset.mem_sdiff.mpr ⟨Pipeline.mem_restRefs_of main_arg1 (by decide) (by decide), by decide⟩)).trans (V_main_arg1 m c),
      ((h.1 c).2.2 main_arg2 (Finset.mem_sdiff.mpr ⟨Pipeline.mem_restRefs_of main_arg2 (by decide) (by decide), by decide⟩)).trans (V_main_arg2 m c),
      ((h.1 c).2.2 main_arg3 (Finset.mem_sdiff.mpr ⟨Pipeline.mem_restRefs_of main_arg3 (by decide) (by decide), by decide⟩)).trans (V_main_arg3 m c)⟩,
    ((h.1 c).2.1 main_v43_0 (by decide)).trans (Y_dq m c), (h.1 c).1 4, (h.1 c).1 5⟩, h.2⟩

set_option backward.isDefEq.respectTransparency.types false in
theorem run : θ_run defs (onTc (τ := τ) (main (F := F))) (s₀ m ρ) (Ended m) :=
  Pipeline.θ_run_frame_routed (Q' := Ended m) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := main_to_call m Variants.none) (hA := A_eq m) (R := R0) (hR := R0_sub) (Y := Y m)
    (hin := fun c => inv_in m c) (hout := fun c => inv_out m c) (hQ' := ended_of m)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run m ρ)

end Cert.KernelIdeal.Hand

end

end
-- ==== Proof.Pay.lean ====
module

public import proofs.«01_k».proof.Proof.Spec
public import Idealize.ShloMosaic.Lib.Pointwise

@[expose] public section

set_option maxRecDepth 16384

noncomputable section

namespace Cert.KernelIdeal.Hand

open Cert.KernelIdeal Cert.KernelIdeal.Gen Idealize.ShloMosaic

/-! The values of the tile computations, over the reals. -/

/-- The array `v` holds the reals `f`. -/
def Is {m n : ℕ} {φ : FTy} (v : FVec Ideal ⟨2, ![m, n]⟩ φ) (f : ℕ → ℕ → ℝ) : Prop :=
  ∀ (a : Fin m) (b : Fin n), v (ix2 a b) = ((f a.val b.val : ℝ) : EReal)

/-- Row 0 of the statistics block `v` holds the reals `f`. -/
def Row (v : FVec Ideal S1x8x1024 .f32) (f : ℕ → ℝ) : Prop :=
  ∀ b : Fin 1024, v (ix3 0 0 b) = ((f b.val : ℝ) : EReal)

theorem Is.congr {m n : ℕ} {φ : FTy} {v : FVec Ideal ⟨2, ![m, n]⟩ φ} {f g : ℕ → ℕ → ℝ} (h : Is v f)
    (e : ∀ a b, a < m → b < n → f a b = g a b) : Is v g := fun a b => by rw [h a b, e _ _ a.isLt b.isLt]

def l2e : ℝ := (Real.log 2)⁻¹
def scl : ℝ := (Real.sqrt 96)⁻¹

/-- The probability of the score `s` in a row of log-sum `l`. -/
def ex (s l : ℝ) : ℝ := Real.rpow 2 (s * (scl * l2e) - l * l2e)

theorem coe_sum {ι : Type} (s : Finset ι) (f : ι → ℝ) : ((∑ x ∈ s, f x : ℝ) : EReal) = ∑ x ∈ s, ((f x : ℝ) : EReal) := by
  classical
  induction s using Finset.induction_on with
  | empty => simp
  | insert a s ha ih => rw [Finset.sum_insert ha, Finset.sum_insert ha, EReal.coe_add, ih]

theorem named_scale2 (b : BitVec 32) : Named.named (F := Ideal) (φ := .f32) κ "scale2" b = ((scl * l2e : ℝ) : EReal) :=
  IdealRules.named_const.ideal_named_scalar _ _ _ _ rfl
theorem named_log2e (b : BitVec 32) : Named.named (F := Ideal) (φ := .f32) κ "log2e" b = ((l2e : ℝ) : EReal) :=
  IdealRules.named_const.ideal_named_scalar _ _ _ _ rfl
theorem named_scale (b : BitVec 32) : Named.named (F := Ideal) (φ := .f32) κ "scale" b = ((scl : ℝ) : EReal) :=
  IdealRules.named_const.ideal_named_scalar _ _ _ _ rfl
theorem named_mask (b : BitVec 32) : Named.named (F := Ideal) (φ := .f32) κ "mask" b = (⊥ : EReal) :=
  IdealRules.named_const.ideal_named_scalar _ _ _ _ rfl
theorem maskC_eq : maskC (F := Ideal) = (⊥ : EReal) := named_mask _

theorem exp2_def (x : EReal) : FloatOps.exp2 (F := Ideal) (φ := .f32) x = Ideal.exp2 x := rfl

theorem l2e_pos : 0 < l2e := inv_pos.mpr (Real.log_pos (by norm_num))
theorem scl_pos : 0 < scl := inv_pos.mpr (Real.sqrt_pos.mpr (by norm_num))

/-- A masked score has probability 0. -/
theorem exp2_mask (x : ℝ) : Ideal.exp2 ((⊥ : EReal) * ((scl * l2e : ℝ) : EReal) - ((x : ℝ) : EReal)) = 0 := by
  rw [EReal.bot_mul_coe_of_pos (mul_pos scl_pos l2e_pos), EReal.bot_sub]; rfl

theorem ex_eq (s l : ℝ) : Ideal.exp2 ((s : EReal) * ((scl * l2e : ℝ) : EReal) - (l : EReal) * (l2e : EReal)) = ((ex s l : ℝ) : EReal) := by
  rw [← EReal.coe_mul, ← EReal.coe_mul, ← EReal.coe_sub]; rfl

/-- A score against a row's log-sum, and a cotangent product against its delta. -/
def sc (K Q : ℕ → ℕ → ℝ) (a b : ℕ) : ℝ := ∑ d : Fin 128, K a d * Q b d

theorem sum_sc (K Q : ℕ → ℕ → ℝ) (a b : ℕ) : (∑ d : Fin 128, ((K a d : ℝ) : EReal) * ((Q b d : ℝ) : EReal)) = ((sc K Q a b : ℝ) : EReal) := by
  unfold sc; rw [coe_sum]; exact Finset.sum_congr rfl fun d _ => (EReal.coe_mul _ _).symm

variable {v6 v8 v133 v135 x6 x7 : FVec Ideal S1024x128 .bf16} {v123 v129 : FVec Ideal S1x8x1024 .f32} {K V Q C : ℕ → ℕ → ℝ} {l dl : ℕ → ℝ}

theorem pay1_is (hK : Is v6 K) (hQ : Is v133 Q) (hl : Row v123 l) : Is (k0_pay1 v6 v123 v133) fun a b => ex (sc K Q a b) (l b) := by
  intro a b
  pointwise [k0_pay1]
  simp only [named_scale2, named_log2e, exp2_def, fun d => hK a d, fun d => hQ b d, hl b, sum_sc, ex_eq]

theorem pay2_is (hK : Is v6 K) (hV : Is v8 V) (hQ : Is v133 Q) (hC : Is v135 C) (hl : Row v123 l) (hd : Row v129 dl) :
    Is (k0_pay2 v6 v8 v123 v129 v133 v135) fun a b => ex (sc K Q a b) (l b) * (sc V C a b - dl b) := by
  intro a b
  pointwise [k0_pay2]
  rw [pay1_is hK hQ hl a b]
  simp only [fun d => hV a d, fun d => hC b d, hd b, sum_sc]
  rw [← EReal.coe_sub, ← EReal.coe_mul]

theorem sum_mul_is (n : ℕ) (f g : ℕ → ℝ) : (∑ k : Fin n, ((f k : ℝ) : EReal) * ((g k : ℝ) : EReal)) = ((∑ k : Fin n, f k * g k : ℝ) : EReal) := by
  rw [coe_sum]; exact Finset.sum_congr rfl fun d _ => (EReal.coe_mul _ _).symm

theorem pay3_is {y : FVec Ideal S1024x128 .f32} {Y G : ℕ → ℕ → ℝ} (hK : Is v6 K) (hy : Is y Y) (hG : Is (k0_pay2 v6 v8 v123 v129 v133 v135) G) :
    Is (k0_pay3 v6 v8 v123 v129 v133 v135 y) fun b d => Y b d + ∑ a : Fin 1024, G a b * K a d := by
  intro b d
  pointwise [k0_pay3]
  simp only [fun a => hG a b, fun a => hK a d, hy b d]
  rw [sum_mul_is 1024 (fun a => G a b) (fun a => K a d), ← EReal.coe_add]

theorem pay4_is {P : ℕ → ℕ → ℝ} (hC : Is v135 C) (hP : Is (k0_pay1 v6 v123 v133) P) :
    Is (k0_pay4 v6 v123 v133 v135) fun a d => ∑ b : Fin 1024, P a b * C b d := by
  intro a d
  pointwise [k0_pay4]
  simp only [fun b => hP a b, fun b => hC b d]
  rw [sum_mul_is 1024 (fun b => P a b) (fun b => C b d)]

theorem pay5_is {acc : FVec Ideal S1024x128 .f32} {A G : ℕ → ℕ → ℝ} (hA : Is acc A) (hQ : Is v133 Q) (hG : Is (k0_pay2 v6 v8 v123 v129 v133 v135) G) :
    Is (k0_pay5 v6 v8 acc v123 v129 v133 v135) fun a d => A a d + ∑ b : Fin 1024, G a b * Q b d := by
  intro a d
  pointwise [k0_pay5]
  simp only [fun b => hG a b, fun b => hQ b d, hA a d]
  rw [sum_mul_is 1024 (fun b => G a b) (fun b => Q b d), ← EReal.coe_add]

theorem pay33_is {x y : FVec Ideal S1024x128 .f32} {X Y : ℕ → ℕ → ℝ} (hx : Is x X) (hy : Is y Y) : Is (k0_pay33 x y) fun a d => X a d + Y a d := by
  intro a d
  pointwise [k0_pay33]
  rw [hx a d, hy a d, ← EReal.coe_add]

theorem pay35_is {x : FVec Ideal S1024x128 .f32} {X : ℕ → ℕ → ℝ} (hx : Is x X) : Is (k0_pay35 x) fun a d => X a d * scl := by
  intro a d
  pointwise [k0_pay35]
  rw [hx a d, named_scale, ← EReal.coe_mul]

theorem pay36_is {x : FVec Ideal S16384x128 .f32} {X : ℕ → ℕ → ℝ} (hx : Is x X) : Is (k0_pay36 x) fun a d => X a d * scl := by
  intro a d
  pointwise [k0_pay36]
  rw [hx a d, named_scale, ← EReal.coe_mul]

theorem pay11_is : Is (k0_pay11 (F := Ideal)) fun _ _ => 0 := by
  intro a d
  pointwise [k0_pay11]
  simp

theorem pay12_is (h : Is x6 K) : Is (k0_pay12 x6) K := by
  intro a d
  pointwise [k0_pay12]
  exact h a d
theorem pay13_is (h : Is x6 K) : Is (k0_pay13 x6) K := by
  intro a d
  pointwise [k0_pay13]
  exact h a d

/-! The diagonal tile. -/

/-- The one-row vector `v` holds the reals `f`. -/
def Row1 {n : ℕ} (v : FVec Ideal ⟨2, ![1, n]⟩ .f32) (f : ℕ → ℝ) : Prop :=
  ∀ b : Fin n, v (ix2 0 b) = ((f b.val : ℝ) : EReal)

theorem pay14_is (hl : Row v123 l) : Row1 (k0_pay14 v123) fun b => l b * l2e := by
  intro b
  pointwise [k0_pay14]
  rw [named_log2e, hl b, ← EReal.coe_mul]
theorem pay15_is (hd : Row v129 dl) : Row1 (k0_pay15 v129) dl := by
  intro b
  pointwise [k0_pay15]
  rw [hd b]
theorem pay16_is (hl : Row v123 l) : Row1 (k0_pay16 v123) fun b => l b * l2e := by
  intro b
  pointwise [k0_pay16]
  rw [pay14_is hl ⟨b.val, _⟩]
theorem pay17_is (hd : Row v129 dl) : Row1 (k0_pay17 v129) dl := by
  intro b
  pointwise [k0_pay17]
  rw [pay15_is hd ⟨b.val, _⟩]
theorem pay25_is (hd : Row v129 dl) : Row1 (k0_pay25 (k0_pay15 v129)) fun b => dl (512 + b) := by
  intro b
  pointwise [k0_pay25]
  rw [pay15_is hd ⟨512 + b.val, _⟩]

theorem pay18_is {v27 : FVec Ideal S512x128 .bf16} (hK : Is x6 K) (hQ : Is v27 Q) : Is (k0_pay18 x6 v27) (sc K Q) := by
  intro a b
  pointwise [k0_pay18]
  simp only [fun d => pay12_is hK ⟨a.val, by omega⟩ d, fun d => hQ b d, sum_sc]

theorem sle_ofNat (a b c : ℕ) (ha : a < 2 ^ 30) (hb : b < 2 ^ 30) (hc : c < 2 ^ 30) :
    IntOp.cmpi .sle (BitVec.ofNat 32 a) (IntOp.addi (BitVec.ofNat 32 b) (BitVec.ofNat 32 c)) = BitVec.ofBool (decide (a ≤ b + c)) := by
  have e : IntOp.addi (BitVec.ofNat 32 b) (BitVec.ofNat 32 c) = BitVec.ofNat 32 (b + c) := by
    show BitVec.ofNat 32 b + BitVec.ofNat 32 c = _
    exact (BitVec.ofNat_add b c).symm
  have t : ∀ n, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  rw [e]
  show BitVec.ofBool (BitVec.sle _ _) = _
  rw [BitVec.sle_eq_decide, t a (by omega), t (b + c) (by omega)]
  congr 1
  simp only [Nat.cast_le]

theorem pay19_is (a b : Fin 512) : k0_pay19 (ix2 a b) = BitVec.ofBool (decide (a.val ≤ b.val)) := by
  pointwise [k0_pay19]
  exact sle_ofNat a b 0 (by omega) (by omega) (by omega)

theorem select_exp2 (c : Prop) [Decidable c] (s x : ℝ) :
    Ideal.exp2 (Scalar.select (BitVec.ofBool (decide c)) (s : EReal) (⊥ : EReal) * ((scl * l2e : ℝ) : EReal) - ((x * l2e : ℝ) : EReal))
      = ((if c then ex s x else 0 : ℝ) : EReal) := by
  by_cases h : c
  · rw [if_pos h, decide_eq_true h, EReal.coe_mul x, ← ex_eq]; rfl
  · rw [if_neg h, decide_eq_false h]
    exact exp2_mask _

theorem pay20_is {v27 : FVec Ideal S512x128 .bf16} (hK : Is x6 K) (hQ : Is v27 Q) (hl : Row v123 l) :
    Is (k0_pay20 (k0_pay16 v123) (k0_pay18 x6 v27) k0_pay19 maskC) fun a b => if a ≤ b then ex (sc K Q a b) (l b) else 0 := by
  intro a b
  pointwise [k0_pay20]
  rw [pay16_is hl b, pay18_is hK hQ a b, pay19_is a b, maskC_eq, named_scale2, exp2_def]
  exact select_exp2 _ _ _

theorem pay21_is {v27 v29 : FVec Ideal S512x128 .bf16} (hK : Is x6 K) (hV : Is x7 V) (hQ : Is v27 Q) (hC : Is v29 C) (hl : Row v123 l) (hd : Row v129 dl) :
    Is (k0_pay21 (k0_pay13 x7) (k0_pay16 v123) (k0_pay17 v129) v29 (k0_pay18 x6 v27) k0_pay19 maskC)
      fun a b => (if a ≤ b then ex (sc K Q a b) (l b) else 0) * (sc V C a b - dl b) := by
  intro a b
  pointwise [k0_pay21]
  rw [pay20_is hK hQ hl a b, pay17_is hd b]
  simp only [fun d => pay13_is hV ⟨a.val, by omega⟩ d, fun d => hC b d, sum_sc]
  rw [← EReal.coe_sub, ← EReal.coe_mul]

section
variable {v8 : FVec Ideal S1024x128 .bf16} {v24 v25 : FVec Ideal S1x512 .f32} {v27 v29 : FVec Ideal S512x128 .bf16} {v31 : FVec Ideal S512x512 .f32}
  {v36 : IVec S512x512 1} {cst : Ideal .f32} {G P : ℕ → ℕ → ℝ}

theorem pay22_is {y : FVec Ideal S512x128 .f32} {Y : ℕ → ℕ → ℝ} (hK : Is v6 K) (hy : Is y Y) (hG : Is (k0_pay21 v8 v24 v25 v29 v31 v36 cst) G) :
    Is (k0_pay22 v6 v8 v24 v25 v29 v31 v36 cst y) fun b d => Y b d + ∑ a : Fin 512, G a b * K a d := by
  intro b d
  pointwise [k0_pay22]
  simp only [fun a => hG a b, fun a : Fin 512 => hK ⟨a.val, by omega⟩ d, hy b d]
  rw [sum_mul_is 512 (fun a => G a b) (fun a => K a d), ← EReal.coe_add]

theorem pay23_is (hQ : Is v27 Q) (hG : Is (k0_pay21 v8 v24 v25 v29 v31 v36 cst) G) :
    Is (k0_pay23 v8 v24 v25 v27 v29 v31 v36 cst) fun a d => ∑ b : Fin 512, G a b * Q b d := by
  intro a d
  pointwise [k0_pay23]
  simp only [fun b => hG a b, fun b => hQ b d]
  rw [sum_mul_is 512 (fun b => G a b) (fun b => Q b d)]

theorem pay24_is (hC : Is v29 C) (hP : Is (k0_pay20 v24 v31 v36 cst) P) :
    Is (k0_pay24 v24 v29 v31 v36 cst) fun a d => ∑ b : Fin 512, P a b * C b d := by
  intro a d
  pointwise [k0_pay24]
  simp only [fun b => hP a b, fun b => hC b d]
  rw [sum_mul_is 512 (fun b => P a b) (fun b => C b d)]
end

theorem pay27_is {v67 : FVec Ideal S512x128 .bf16} (hK : Is x6 K) (hQ : Is v67 Q) (hl : Row v123 l) :
    Is (k0_pay27 (k0_pay26 (k0_pay12 x6) (k0_pay14 v123) v67)) fun a b => if a ≤ b + 512 then ex (sc K Q a b) (l (512 + b)) else 0 := by
  intro a b
  pointwise [k0_pay27, k0_pay26]
  rw [pay14_is hl ⟨512 + b.val, _⟩, exp2_def, named_scale2, named_mask, sle_ofNat a b 512 (by omega) (by omega) (by omega)]
  simp only [fun d => pay12_is hK a d, fun d => hQ b d, sum_sc]
  exact select_exp2 (a.val ≤ b.val + 512) _ _

theorem pay28_is {v67 v69 : FVec Ideal S512x128 .bf16} (hK : Is x6 K) (hV : Is x7 V) (hQ : Is v67 Q) (hC : Is v69 C) (hl : Row v123 l) (hd : Row v129 dl) :
    Is (k0_pay28 (k0_pay13 x7) (k0_pay25 (k0_pay15 v129)) v69 (k0_pay26 (k0_pay12 x6) (k0_pay14 v123) v67))
      fun a b => (if a ≤ b + 512 then ex (sc K Q a b) (l (512 + b)) else 0) * (sc V C a b - dl (512 + b)) := by
  intro a b
  pointwise [k0_pay28]
  rw [pay27_is hK hQ hl a b, pay25_is hd b]
  simp only [fun d => pay13_is hV a d, fun d => hC b d, sum_sc]
  rw [← EReal.coe_sub, ← EReal.coe_mul]

section
variable {v8 : FVec Ideal S1024x128 .bf16} {v65 : FVec Ideal S1x512 .f32} {v67 v69 : FVec Ideal S512x128 .bf16} {v81 : FVec Ideal S1024x512 .f32} {G P : ℕ → ℕ → ℝ}

theorem pay29_is {y : FVec Ideal S512x128 .f32} {Y : ℕ → ℕ → ℝ} (hK : Is v6 K) (hy : Is y Y) (hG : Is (k0_pay28 v8 v65 v69 v81) G) :
    Is (k0_pay29 v6 v8 v65 v69 v81 y) fun b d => Y b d + ∑ a : Fin 1024, G a b * K a d := by
  intro b d
  pointwise [k0_pay29]
  simp only [fun a => hG a b, fun a => hK a d, hy b d]
  rw [sum_mul_is 1024 (fun a => G a b) (fun a => K a d), ← EReal.coe_add]

theorem cat_is {v59 : FVec Ideal S512x128 .f32} {A : ℕ → ℕ → ℝ} (hA : Is v59 A) :
    Is (concatenate S1024x128 0 [⟨S512x128, v59⟩, ⟨S512x128, k0_pay30 (F := Ideal)⟩] concatenates_S512x128_S512x128_S1024x128_d0)
      fun a d => if a < 512 then A a d else 0 := by
  intro a d
  pointwise [k0_pay30]
  split
  · rename_i h
    rw [hA ⟨a.val, h⟩ d]
  · rfl

theorem pay31_is {v59 : FVec Ideal S512x128 .f32} {A : ℕ → ℕ → ℝ} (hA : Is v59 A) (hQ : Is v67 Q) (hG : Is (k0_pay28 v8 v65 v69 v81) G) :
    Is (k0_pay31 v8 v59 v65 v67 v69 v81) fun a d => (∑ b : Fin 512, G a b * Q b d) + if a < 512 then A a d else 0 := by
  intro a d
  have h := cat_is hA a d
  unfold k0_pay31
  rw [addf_apply, h]
  pointwise
  simp only [fun b => hG a b, fun b => hQ b d]
  rw [sum_mul_is 512 (fun b => G a b) (fun b => Q b d), ← EReal.coe_add]

theorem pay32_is {v61 : FVec Ideal S512x128 .f32} {A : ℕ → ℕ → ℝ} (hA : Is v61 A) (hC : Is v69 C) (hP : Is (k0_pay27 v81) P) :
    Is (k0_pay32 v61 v69 v81) fun a d => (∑ b : Fin 512, P a b * C b d) + if a < 512 then A a d else 0 := by
  intro a d
  have h := cat_is hA a d
  unfold k0_pay32
  rw [addf_apply, h]
  pointwise
  simp only [fun b => hP a b, fun b => hC b d]
  rw [sum_mul_is 512 (fun b => P a b) (fun b => C b d), ← EReal.coe_add]
end

end Cert.KernelIdeal.Hand
-- ==== Proof.Tile.lean ====
module

public import proofs.«01_k».proof.Proof.Pay

@[expose] public section

set_option maxRecDepth 16384

noncomputable section

namespace Cert.KernelIdeal.Hand

open Cert.KernelIdeal Cert.KernelIdeal.Gen Idealize.ShloMosaic
open VecWindow (window put)

/-! What a grid point computes, over the reals. -/

/-- A window of rows. -/
theorem rows_is {m n m' : ℕ} {φ : FTy} {x : FVec Ideal ⟨2, ![m, n]⟩ φ} {f : ℕ → ℕ → ℝ} (hx : Is x f) (off : Fin 2 → ℕ) (o : ℕ)
    (ho : off = ![o, 0]) (inb : ∀ a, off a + (⟨2, ![m', n]⟩ : Shape).size a ≤ (⟨2, ![m, n]⟩ : Shape).size a) :
    Is (m := m') (n := n) (φ := φ) (window (s := ⟨2, ![m, n]⟩) x off (⟨2, ![m', n]⟩ : Shape).size inb) fun a d => f (o + a) d := by
  subst ho
  intro a d
  have h0 : o + m' ≤ m := inb 0
  have e : (Rect.unit (s := ⟨2, ![m, n]⟩) ![o, 0] (⟨2, ![m', n]⟩ : Shape).size inb).emb (ix2 a d) = ix2 ⟨o + a.val, by omega⟩ d := by
    funext x
    match x with
    | ⟨0, _⟩ => exact Fin.ext (show o + 1 * a.val = o + a.val by omega)
    | ⟨1, _⟩ => exact Fin.ext (show 0 + 1 * d.val = d.val by omega)
  show x ((Rect.unit (s := ⟨2, ![m, n]⟩) ![o, 0] (⟨2, ![m', n]⟩ : Shape).size inb).emb (ix2 a d)) = _
  rw [e]
  exact hx _ _

/-- A window of columns. -/
theorem cols_is {m n n' : ℕ} {φ : FTy} {x : FVec Ideal ⟨2, ![m, n]⟩ φ} {f : ℕ → ℕ → ℝ} (hx : Is x f) (off : Fin 2 → ℕ) (o : ℕ)
    (ho : off = ![0, o]) (inb : ∀ a, off a + (⟨2, ![m, n']⟩ : Shape).size a ≤ (⟨2, ![m, n]⟩ : Shape).size a) :
    Is (m := m) (n := n') (φ := φ) (window (s := ⟨2, ![m, n]⟩) x off (⟨2, ![m, n']⟩ : Shape).size inb) fun a d => f a (o + d) := by
  subst ho
  intro a d
  have h0 : o + n' ≤ n := inb 1
  have e : (Rect.unit (s := ⟨2, ![m, n]⟩) ![0, o] (⟨2, ![m, n']⟩ : Shape).size inb).emb (ix2 a d) = ix2 a ⟨o + d.val, by omega⟩ := by
    funext x
    match x with
    | ⟨0, _⟩ => exact Fin.ext (show 0 + 1 * a.val = a.val by omega)
    | ⟨1, _⟩ => exact Fin.ext (show o + 1 * d.val = o + d.val by omega)
  show x ((Rect.unit (s := ⟨2, ![m, n]⟩) ![0, o] (⟨2, ![m, n']⟩ : Shape).size inb).emb (ix2 a d)) = _
  rw [e]
  exact hx _ _

/-- A window put over rows. -/
theorem put_is {m n m' : ℕ} {x : FVec Ideal ⟨2, ![m, n]⟩ .f32} {w : FVec Ideal ⟨2, ![m', n]⟩ .f32} {f g : ℕ → ℕ → ℝ} (hx : Is x f) (hw : Is w g)
    (off : Fin 2 → ℕ) (o : ℕ) (ho : off = ![o, 0]) :
    Is (m := m) (n := n) (φ := .f32) (put (s := ⟨2, ![m, n]⟩) x off (⟨2, ![m', n]⟩ : Shape).size w)
      fun a d => if o ≤ a ∧ a < o + m' then g (a - o) d else f a d := by
  subst ho
  intro a d
  unfold put
  by_cases h : o ≤ a.val ∧ a.val < o + m'
  · have h' : ∀ x : Fin 2, (![o, 0] : Fin 2 → ℕ) x ≤ ((ix2 a d) x).val ∧ ((ix2 a d) x).val < (![o, 0] : Fin 2 → ℕ) x + (⟨2, ![m', n]⟩ : Shape).size x := fun x =>
      match x with
      | ⟨0, _⟩ => h
      | ⟨1, _⟩ => ⟨Nat.zero_le _, (Nat.zero_add n).symm ▸ d.isLt⟩
    dsimp only
    rw [dif_pos h', if_pos h]
    have e : (Rect.unitLocal (s := ⟨2, ![m, n]⟩) (off := ![o, 0]) (size := (⟨2, ![m', n]⟩ : Shape).size) (ix2 a d) h') = ix2 (n0 := m') ⟨a.val - o, by omega⟩ d := by
      funext x
      match x with
      | ⟨0, _⟩ => rfl
      | ⟨1, _⟩ => exact Fin.ext (show d.val - 0 = d.val by omega)
    rw [e]
    exact hw _ _
  · dsimp only
    rw [if_neg h, dif_neg fun hh => h (hh 0)]
    exact hx a d

/-- The statistics of a head: row 0 of tile `t` holds the values of positions from `1024 t`. -/
def Stat (x : FVec Ideal S1x128x1024 .f32) (f : ℕ → ℝ) : Prop :=
  ∀ (t : Fin 16) (b : Fin 1024), x (ix3 0 ⟨8 * t.val, by omega⟩ b) = ((f (1024 * t.val + b.val) : ℝ) : EReal)

theorem stat_row {x : FVec Ideal S1x128x1024 .f32} {f : ℕ → ℝ} (hx : Stat x f) (off : Fin 3 → ℕ) (t : ℕ) (ht : t < 16) (ho : off = ![0, 8 * t, 0])
    (inb : ∀ a, off a + S1x8x1024.size a ≤ S1x128x1024.size a) :
    Row (window (s := S1x128x1024) x off S1x8x1024.size inb) fun b => f (1024 * t + b) := by
  subst ho
  intro b
  have e : (Rect.unit (s := S1x128x1024) ![0, 8 * t, 0] S1x8x1024.size inb).emb (ix3 0 0 b) = ix3 0 ⟨8 * t, by omega⟩ b := by
    funext x
    match x with
    | ⟨0, _⟩ => rfl
    | ⟨1, _⟩ => exact Fin.ext (show 8 * t + 1 * 0 = 8 * t by omega)
    | ⟨2, _⟩ => exact Fin.ext (show 0 + 1 * b.val = b.val by omega)
  show x ((Rect.unit (s := S1x128x1024) ![0, 8 * t, 0] S1x8x1024.size inb).emb (ix3 0 0 b)) = _
  rw [e]
  exact hx ⟨t, ht⟩ b

/-! ## The head's gradients over the reals -/

variable (q k v c : ℕ → ℕ → ℝ) (l dl : ℕ → ℝ)

/-- The probability of key `j` in row `i`, and the gradient of its score. -/
def W (j i : ℕ) : ℝ := if j ≤ i then ex (sc k q j i) (l i) else 0
def G (j i : ℕ) : ℝ := W q k l j i * (sc v c j i - dl i)

theorem W_of_lt {j i : ℕ} (h : i < j) : W q k l j i = 0 := if_neg (by omega)
theorem G_of_lt {j i : ℕ} (h : i < j) : G q k v c l dl j i = 0 := by unfold G; rw [W_of_lt q k l h, zero_mul]

variable (i : grid0.Coords) {x4 x5 : FVec Ideal S1x128x1024 .f32} {x6 x7 : FVec Ideal S1024x128 .bf16} {xq xdo : FVec Ideal S16384x128 .bf16}
  {y : FVec Ideal S16384x128 .f32} {Y : ℕ → ℕ → ℝ}

theorem trips_eq : ∀ i : grid0.Coords, (k0_t1_loop i).trips = 15 - (i 1).val := by decide +kernel
theorem i1_lt (i : grid0.Coords) : (i 1).val < 16 := (i 1).isLt

/-- What the point's blocks hold. -/
structure Blocks : Prop where
  h4 : Stat x4 l
  h5 : Stat x5 dl
  h6 : Is x6 fun a d => k (1024 * (i 1).val + a) d
  h7 : Is x7 fun a d => v (1024 * (i 1).val + a) d
  hq : Is xq q
  hc : Is xdo c

variable {q k v c l dl i}
variable (B : Blocks q k v c l dl i (x4 := x4) (x5 := x5) (x6 := x6) (x7 := x7) (xq := xq) (xdo := xdo))
include B

theorem Blocks.r4 (n : Fin (k0_t1_loop i).trips) : Row (statK (F := Ideal) i x4 n) fun b => l (1024 * (i 1).val + 1024 * n.val + 1024 + b) := by
  have h1 := trips_eq i; have h2 := i1_lt i
  have h := stat_row B.h4 (k0_off6 i n) ((i 1).val + n.val + 1) (by omega) (by rw [k0_off6_eq]; congr 2; omega) (k0_off6_inb i n)
  intro b; dsimp only; rw [show 1024 * (i 1).val + 1024 * n.val + 1024 + b.val = 1024 * ((i 1).val + n.val + 1) + b.val by omega]; exact h b
theorem Blocks.r5 (n : Fin (k0_t1_loop i).trips) : Row (statK (F := Ideal) i x5 n) fun b => dl (1024 * (i 1).val + 1024 * n.val + 1024 + b) := by
  have h1 := trips_eq i; have h2 := i1_lt i
  have h := stat_row B.h5 (k0_off6 i n) ((i 1).val + n.val + 1) (by omega) (by rw [k0_off6_eq]; congr 2; omega) (k0_off6_inb i n)
  intro b; dsimp only; rw [show 1024 * (i 1).val + 1024 * n.val + 1024 + b.val = 1024 * ((i 1).val + n.val + 1) + b.val by omega]; exact h b
theorem Blocks.d4 : Row (statD (F := Ideal) i x4) fun b => l (1024 * (i 1).val + b) :=
  stat_row B.h4 (k0_off3 i) (i 1).val (i1_lt i) (k0_off3_eq i) (k0_off3_inb i)
theorem Blocks.d5 : Row (statD (F := Ideal) i x5) fun b => dl (1024 * (i 1).val + b) :=
  stat_row B.h5 (k0_off3 i) (i 1).val (i1_lt i) (k0_off3_eq i) (k0_off3_inb i)

theorem Blocks.q7 (n : Fin (k0_t1_loop i).trips) : Is (φ := .bf16) (rowsK (F := Ideal) (e := .bf16) i xq n) fun b d => q (1024 * (i 1).val + 1024 * n.val + 1024 + b) d :=
  rows_is B.hq _ _ (k0_off7_eq i n) _
theorem Blocks.c7 (n : Fin (k0_t1_loop i).trips) : Is (φ := .bf16) (rowsK (F := Ideal) (e := .bf16) i xdo n) fun b d => c (1024 * (i 1).val + 1024 * n.val + 1024 + b) d :=
  rows_is B.hc _ _ (k0_off7_eq i n) _

/-- The blocks of a trip. -/
theorem Blocks.pay1 (n : Fin (k0_t1_loop i).trips) : Is (k0_pay1 (k0_pay12 x6) (statK (F := Ideal) i x4 n) (rowsK (F := Ideal) (e := .bf16) i xq n))
    fun a b => W q k l (1024 * (i 1).val + a) (1024 * (i 1).val + 1024 * n.val + 1024 + b) :=
  (pay1_is (pay12_is B.h6) (B.q7 n) (B.r4 n)).congr fun a b ha hb => by unfold W; rw [if_pos (by omega)]; rfl
theorem Blocks.pay2 (n : Fin (k0_t1_loop i).trips) : Is (k0_pay2 (k0_pay12 x6) (k0_pay13 x7) (statK (F := Ideal) i x4 n) (statK (F := Ideal) i x5 n) (rowsK (F := Ideal) (e := .bf16) i xq n) (rowsK (F := Ideal) (e := .bf16) i xdo n))
    fun a b => G q k v c l dl (1024 * (i 1).val + a) (1024 * (i 1).val + 1024 * n.val + 1024 + b) :=
  (pay2_is (pay12_is B.h6) (pay13_is B.h7) (B.q7 n) (B.c7 n) (B.r4 n) (B.r5 n)).congr fun a b ha hb => by unfold G W; rw [if_pos (by omega)]; rfl

/-- The blocks of the diagonal tile. -/
theorem Blocks.qA : Is (φ := .bf16) (rowsA (F := Ideal) (e := .bf16) i xq) fun b d => q (1024 * (i 1).val + b) d := rows_is B.hq _ _ (k0_off4_eq i) _
theorem Blocks.cA : Is (φ := .bf16) (rowsA (F := Ideal) (e := .bf16) i xdo) fun b d => c (1024 * (i 1).val + b) d := rows_is B.hc _ _ (k0_off4_eq i) _
theorem Blocks.qB : Is (φ := .bf16) (rowsB (F := Ideal) (e := .bf16) i xq) fun b d => q (1024 * (i 1).val + 512 + b) d := rows_is B.hq _ _ (k0_off5_eq i) _
theorem Blocks.cB : Is (φ := .bf16) (rowsB (F := Ideal) (e := .bf16) i xdo) fun b d => c (1024 * (i 1).val + 512 + b) d := rows_is B.hc _ _ (k0_off5_eq i) _
theorem Blocks.pay20 : Is (k0_pay20 (k0_pay16 (statD (F := Ideal) i x4)) (k0_pay18 x6 (rowsA (F := Ideal) (e := .bf16) i xq)) k0_pay19 maskC)
    fun a b => W q k l (1024 * (i 1).val + a) (1024 * (i 1).val + b) :=
  (pay20_is B.h6 B.qA B.d4).congr fun a b ha hb => by
    unfold W
    by_cases h : a ≤ b
    · rw [if_pos h, if_pos (by omega)]; rfl
    · rw [if_neg h, if_neg (by omega)]
theorem Blocks.pay21 : Is (k0_pay21 (k0_pay13 x7) (k0_pay16 (statD (F := Ideal) i x4)) (k0_pay17 (statD (F := Ideal) i x5)) (rowsA (F := Ideal) (e := .bf16) i xdo) (k0_pay18 x6 (rowsA (F := Ideal) (e := .bf16) i xq)) k0_pay19 maskC)
    fun a b => G q k v c l dl (1024 * (i 1).val + a) (1024 * (i 1).val + b) :=
  (pay21_is B.h6 B.h7 B.qA B.cA B.d4 B.d5).congr fun a b ha hb => by
    unfold G W
    by_cases h : a ≤ b
    · rw [if_pos h, if_pos (by omega)]; rfl
    · rw [if_neg h, if_neg (by omega), zero_mul, zero_mul]
theorem Blocks.pay27 : Is (k0_pay27 (k0_pay26 (k0_pay12 x6) (k0_pay14 (statD (F := Ideal) i x4)) (rowsB (F := Ideal) (e := .bf16) i xq)))
    fun a b => W q k l (1024 * (i 1).val + a) (1024 * (i 1).val + 512 + b) :=
  (pay27_is B.h6 B.qB B.d4).congr fun a b ha hb => by
    dsimp only; unfold W
    rw [← Nat.add_assoc]
    by_cases h : a ≤ b + 512
    · rw [if_pos h, if_pos (by omega)]; rfl
    · rw [if_neg h, if_neg (by omega)]
theorem Blocks.pay28 : Is (k0_pay28 (k0_pay13 x7) (k0_pay25 (k0_pay15 (statD (F := Ideal) i x5))) (rowsB (F := Ideal) (e := .bf16) i xdo) (k0_pay26 (k0_pay12 x6) (k0_pay14 (statD (F := Ideal) i x4)) (rowsB (F := Ideal) (e := .bf16) i xq)))
    fun a b => G q k v c l dl (1024 * (i 1).val + a) (1024 * (i 1).val + 512 + b) :=
  (pay28_is B.h6 B.h7 B.qB B.cB B.d4 B.d5).congr fun a b ha hb => by
    dsimp only; unfold G W
    rw [← Nat.add_assoc]
    by_cases h : a ≤ b + 512
    · rw [if_pos h, if_pos (by omega)]; rfl
    · rw [if_neg h, if_neg (by omega), zero_mul, zero_mul]

omit B in
/-- The diagonal tile's sums over its two halves make one sum. -/
theorem halves (A D : ℕ → ℝ) (o a : ℕ) (ha : a < 1024) (hA : ∀ b, b < a → A (o + b) = 0) :
    ((∑ b : Fin 512, A (o + 512 + b) * D (o + 512 + b)) + if a < 512 then ∑ b : Fin 512, A (o + b) * D (o + b) else 0)
      = ∑ x ∈ Finset.range 1024, A (o + x) * D (o + x) := by
  rw [show (1024 : ℕ) = 512 + 512 from rfl, Finset.sum_range_add, Finset.sum_range (n := 512), Finset.sum_range (n := 512), add_comm]
  refine congrArg₂ _ ?_ (Finset.sum_congr rfl fun b _ => by rw [Nat.add_assoc])
  split
  · rfl
  · exact (Finset.sum_eq_zero fun b _ => by rw [hA b (by omega), zero_mul]).symm

theorem Blocks.diag1 : Is (φ := .f32) (diag0 (F := Ideal) i x4 x5 x6 x7 xq xdo).1 fun a d =>
    ∑ x ∈ Finset.range 1024, G q k v c l dl (1024 * (i 1).val + a) (1024 * (i 1).val + x) * q (1024 * (i 1).val + x) d :=
  (pay31_is (pay23_is B.qA B.pay21) B.qB B.pay28).congr fun a d ha hd =>
    halves (fun x => G q k v c l dl (1024 * (i 1).val + a) x) (fun x => q x d) _ a ha fun b hb => G_of_lt _ _ _ _ _ _ (by omega)
theorem Blocks.diag2 : Is (φ := .f32) (diag0 (F := Ideal) i x4 x5 x6 x7 xq xdo).2 fun a d =>
    ∑ x ∈ Finset.range 1024, W q k l (1024 * (i 1).val + a) (1024 * (i 1).val + x) * c (1024 * (i 1).val + x) d :=
  (pay32_is (pay24_is B.cA B.pay20) B.cB B.pay27).congr fun a d ha hd =>
    halves (fun x => W q k l (1024 * (i 1).val + a) x) (fun x => c x d) _ a ha fun b hb => W_of_lt _ _ _ (by omega)

omit B in
/-- A key tile's part of a row's query gradient. -/
def part (q k v c : ℕ → ℕ → ℝ) (l dl : ℕ → ℝ) (o r d : ℕ) : ℝ := ∑ a ∈ Finset.range 1024, G q k v c l dl (o + a) r * k (o + a) d

theorem Blocks.diagQ_is (hy : Is y Y) : Is (φ := .f32) (diagQ (F := Ideal) i x4 x5 x6 x7 xq xdo y) fun r d =>
    if 1024 * (i 1).val ≤ r ∧ r < 1024 * (i 1).val + 1024 then Y r d + part q k v c l dl (1024 * (i 1).val) r d else Y r d := by
  have yA : Is (φ := .f32) (rowsA (F := Ideal) (e := .f32) i y) fun b d => Y (1024 * (i 1).val + b) d := rows_is hy _ _ (k0_off4_eq i) _
  have yB : Is (φ := .f32) (rowsB (F := Ideal) (e := .f32) i y) fun b d => Y (1024 * (i 1).val + 512 + b) d := rows_is hy _ _ (k0_off5_eq i) _
  refine (put_is (put_is hy (pay22_is (pay12_is B.h6) yA B.pay21) _ _ (k0_off4_eq i)) (pay29_is (pay12_is B.h6) yB B.pay28) _ _ (k0_off5_eq i)).congr
    fun r d hr hd => ?_
  unfold part
  generalize 1024 * (i 1).val = o
  by_cases h5 : o + 512 ≤ r ∧ r < o + 512 + 512
  · rw [if_pos h5, if_pos (by omega), Finset.sum_range, show o + 512 + (r - (o + 512)) = r by omega]
  · rw [if_neg h5]
    by_cases h4 : o ≤ r ∧ r < o + 512
    · rw [if_pos h4, if_pos (by omega), show o + (r - o) = r by omega, show 1024 = 512 + 512 from rfl, Finset.sum_range_add, Finset.sum_range]
      rw [Finset.sum_eq_zero (s := Finset.range 512) fun a ha => by rw [G_of_lt _ _ _ _ _ _ (by omega), zero_mul], add_zero]
    · rw [if_neg h4, if_neg (by omega)]

omit B in
/-- A sum grows by a tile. -/
theorem grow (f : ℕ → ℝ) (o N o' N' : ℕ) (h : o' = o + N) (h' : N' = N + 1024) :
    (∑ x ∈ Finset.range N, f (o + x)) + (∑ b : Fin 1024, f (o' + b)) = ∑ x ∈ Finset.range N', f (o + x) := by
  subst h h'
  rw [Finset.sum_range_add, Finset.sum_range (n := 1024)]
  exact congrArg _ (Finset.sum_congr rfl fun b _ => by rw [Nat.add_assoc])

/-- The sums after `n` trips. -/
theorem Blocks.stV_is (hy : Is y Y) (n : ℕ) (hn : n ≤ (k0_t1_loop i).trips) :
    let S := stV (F := Ideal) i (k0_pay12 x6) (k0_pay13 x7) x4 x5 xq xdo (diag0 (F := Ideal) i x4 x5 x6 x7 xq xdo) (diagQ (F := Ideal) i x4 x5 x6 x7 xq xdo y) n
    Is (φ := .f32) S.1.1 (fun a d => ∑ x ∈ Finset.range (1024 + 1024 * n), G q k v c l dl (1024 * (i 1).val + a) (1024 * (i 1).val + x) * q (1024 * (i 1).val + x) d)
    ∧ Is (φ := .f32) S.1.2 (fun a d => ∑ x ∈ Finset.range (1024 + 1024 * n), W q k l (1024 * (i 1).val + a) (1024 * (i 1).val + x) * c (1024 * (i 1).val + x) d)
    ∧ Is (φ := .f32) S.2 (fun r d => if 1024 * (i 1).val ≤ r ∧ r < 1024 * (i 1).val + (1024 + 1024 * n) then Y r d + part q k v c l dl (1024 * (i 1).val) r d else Y r d) := by
  induction n with
  | zero => exact ⟨B.diag1, B.diag2, B.diagQ_is hy⟩
  | succ n ih =>
    have hlt : n < (k0_t1_loop i).trips := by omega
    obtain ⟨h1, h2, h3⟩ := ih (by omega)
    have h3' : Is (φ := .f32) (rowsK (F := Ideal) (e := .f32) i _ ⟨n, hlt⟩) _ := rows_is h3 _ _ (k0_off7_eq i ⟨n, hlt⟩) (k0_off7_inb i ⟨n, hlt⟩)
    unfold stV
    rw [dif_pos hlt]
    refine ⟨(pay5_is h1 (B.q7 ⟨n, hlt⟩) (B.pay2 ⟨n, hlt⟩)).congr fun a d ha hd => ?_,
      (pay33_is h2 (pay4_is (B.c7 ⟨n, hlt⟩) (B.pay1 ⟨n, hlt⟩))).congr fun a d ha hd => ?_,
      (put_is h3 (pay3_is (pay12_is B.h6) h3' (B.pay2 ⟨n, hlt⟩)) _ _ (k0_off7_eq i ⟨n, hlt⟩)).congr fun r d hr hd => ?_⟩
    · exact grow (fun x => G q k v c l dl (1024 * (i 1).val + a) x * q x d) _ _ _ _ (by dsimp only; omega) (by omega)
    · exact grow (fun x => W q k l (1024 * (i 1).val + a) x * c x d) _ _ _ _ (by dsimp only; omega) (by omega)
    · dsimp only
      generalize 1024 * (i 1).val = o
      by_cases h : o + 1024 * n + 1024 ≤ r ∧ r < o + 1024 * n + 1024 + 1024
      · rw [if_pos h, show o + 1024 * n + 1024 + (r - (o + 1024 * n + 1024)) = r by omega, if_neg (by omega), if_pos (by omega)]
        unfold part
        rw [Finset.sum_range]
      · rw [if_neg h]
        by_cases h' : o ≤ r ∧ r < o + (1024 + 1024 * n)
        · rw [if_pos h', if_pos (by omega)]
        · rw [if_neg h', if_neg (by omega)]

omit B in
/-- Sums from the tile's first row on are sums over every row. -/
theorem full (A D : ℕ → ℝ) (o : ℕ) (ho : o ≤ 16384) (hA : ∀ x, x < o → A x = 0) :
    ∑ x ∈ Finset.range (16384 - o), A (o + x) * D (o + x) = ∑ x ∈ Finset.range 16384, A x * D x := by
  conv_rhs => rw [show 16384 = o + (16384 - o) by omega, Finset.sum_range_add]
  rw [Finset.sum_eq_zero (s := Finset.range o) fun x hx => by rw [hA x (Finset.mem_range.mp hx), zero_mul], zero_add]

/-- What the point leaves. -/
theorem Blocks.fin_is (hy : Is y Y) :
    Is (φ := .f32) (fin (F := Ideal) i x4 x5 x6 x7 xq xdo y).1.1 (fun a d => ∑ x ∈ Finset.range 16384, G q k v c l dl (1024 * (i 1).val + a) x * q x d)
    ∧ Is (φ := .f32) (fin (F := Ideal) i x4 x5 x6 x7 xq xdo y).1.2 (fun a d => ∑ x ∈ Finset.range 16384, W q k l (1024 * (i 1).val + a) x * c x d)
    ∧ Is (φ := .f32) (fin (F := Ideal) i x4 x5 x6 x7 xq xdo y).2 (fun r d => Y r d + part q k v c l dl (1024 * (i 1).val) r d) := by
  obtain ⟨h1, h2, h3⟩ := B.stV_is hy (k0_t1_loop i).trips le_rfl
  have ht := trips_eq i
  have hi := i1_lt i
  have e : 1024 + 1024 * (k0_t1_loop i).trips = 16384 - 1024 * (i 1).val := by omega
  rw [e] at h1 h2 h3
  refine ⟨h1.congr fun a d ha hd => ?_, h2.congr fun a d ha hd => ?_, h3.congr fun r d hr hd => ?_⟩
  · exact full (fun x => G q k v c l dl (1024 * (i 1).val + a) x) (fun x => q x d) _ (by omega) fun x hx => G_of_lt _ _ _ _ _ _ (by omega)
  · exact full (fun x => W q k l (1024 * (i 1).val + a) x) (fun x => c x d) _ (by omega) fun x hx => W_of_lt _ _ _ (by omega)
  · dsimp only
    by_cases h : 1024 * (i 1).val ≤ r
    · rw [if_pos (by omega)]
    · rw [if_neg (by omega)]
      unfold part
      rw [Finset.sum_eq_zero fun a _ => by rw [G_of_lt _ _ _ _ _ _ (by omega), zero_mul], add_zero]

end Cert.KernelIdeal.Hand
-- ==== Proof.Rows.lean ====
module

public import proofs.«01_k».proof.Proof.Tile

@[expose] public section

set_option maxRecDepth 16384

noncomputable section

namespace Cert.KernelIdeal.Hand

open Cert.KernelIdeal Cert.KernelIdeal.Gen Idealize.ShloMosaic

/-! The softmax of a row of scores, over the reals. -/

/-- A head's columns. -/
def lanes (x : ℕ → ℕ → ℝ) (g : ℕ) : ℕ → ℕ → ℝ := fun a d => x a (128 * g + d)

/-- Row `i` of scores, the keys after `i` left out. -/
def masked (f : ℕ → ℝ) (i : ℕ) (j : Fin 16384) : EReal := if j.val ≤ i then ((f j.val : ℝ) : EReal) else ⊥

/-- The row's largest score. -/
def top (f : ℕ → ℝ) (i : ℕ) : ℝ := (Finset.univ.fold max (⊥ : EReal) (masked f i)).toReal

theorem top_eq (f : ℕ → ℝ) (i : ℕ) : Finset.univ.fold max (⊥ : EReal) (masked f i) = ((top f i : ℝ) : EReal) := by
  refine (EReal.coe_toReal ?_ ?_).symm
  · refine ne_of_lt ((Finset.fold_max_lt _).mpr ⟨bot_lt_top, fun j _ => ?_⟩)
    unfold masked
    split
    · exact EReal.coe_lt_top _
    · exact bot_lt_top
  · refine ne_of_gt (lt_of_lt_of_le (EReal.bot_lt_coe (f 0)) (Finset.le_fold_max _ |>.mpr (Or.inr ⟨0, Finset.mem_univ _, ?_⟩)))
    unfold masked
    rw [if_pos (show (0 : Fin 16384).val ≤ i from Nat.zero_le i)]
    exact le_rfl

/-- The row's exponentials and their sum. -/
def expo (f : ℕ → ℝ) (i j : ℕ) : ℝ := if j ≤ i then Real.exp (f j - top f i) else 0
def tot (f : ℕ → ℝ) (i : ℕ) : ℝ := ∑ j : Fin 16384, expo f i j.val

theorem expo_nonneg (f : ℕ → ℝ) (i j : ℕ) : 0 ≤ expo f i j := by
  unfold expo; split
  · exact (Real.exp_pos _).le
  · exact le_rfl
theorem tot_pos (f : ℕ → ℝ) (i : ℕ) : 0 < tot f i := by
  refine Finset.sum_pos' (fun j _ => expo_nonneg f i j.val) ⟨0, Finset.mem_univ _, ?_⟩
  unfold expo
  rw [if_pos (show (0 : Fin 16384).val ≤ i from Nat.zero_le i)]
  exact Real.exp_pos _

theorem exp_masked (f : ℕ → ℝ) (i : ℕ) (j : Fin 16384) : Ideal.exp (masked f i j - ((top f i : ℝ) : EReal)) = ((expo f i j.val : ℝ) : EReal) := by
  unfold masked expo
  split
  · rw [← EReal.coe_sub]; rfl
  · rw [EReal.bot_sub]; rfl

/-- The scores of a head's row. -/
def score (q k : ℕ → ℕ → ℝ) (g i j : ℕ) : ℝ := sc (lanes k g) (lanes q g) j i * scl

/-- Its log-sum, and its probabilities. -/
def lse (q k : ℕ → ℕ → ℝ) (g i : ℕ) : ℝ := top (score q k g i) i + Real.log (tot (score q k g i) i)
def prob (q k : ℕ → ℕ → ℝ) (g i j : ℕ) : ℝ := expo (score q k g i) i j / tot (score q k g i) i

theorem rpow_l2e (x : ℝ) : Real.rpow 2 (x * l2e) = Real.exp x := by
  have h : Real.log 2 ≠ 0 := (Real.log_pos (by norm_num)).ne'
  show (2 : ℝ) ^ (x * l2e) = _
  rw [Real.rpow_def_of_pos (by norm_num)]
  congr 1
  unfold l2e
  field_simp

theorem W_eq (q k : ℕ → ℕ → ℝ) (g i j : ℕ) : W (lanes q g) (lanes k g) (lse q k g) j i = prob q k g i j := by
  unfold W prob expo ex lse
  split
  · rw [show sc (lanes k g) (lanes q g) j i * (scl * l2e) - (top (score q k g i) i + Real.log (tot (score q k g i) i)) * l2e
      = ((score q k g i j - top (score q k g i) i) - Real.log (tot (score q k g i) i)) * l2e by unfold score; ring, rpow_l2e, Real.exp_sub,
      Real.exp_log (tot_pos _ _)]
  · rw [zero_div]

/-- A row's delta. -/
def delta (q k v ct : ℕ → ℕ → ℝ) (g i : ℕ) : ℝ := ∑ d : Fin 128, (∑ j : Fin 16384, prob q k g i j.val * lanes v g j.val d) * lanes ct g i d

theorem delta_eq (q k v ct : ℕ → ℕ → ℝ) (g i : ℕ) : delta q k v ct g i = ∑ j : Fin 16384, prob q k g i j.val * sc (lanes v g) (lanes ct g) j.val i := by
  unfold delta sc
  simp only [Finset.sum_mul, Finset.mul_sum]
  rw [Finset.sum_comm]
  exact Finset.sum_congr rfl fun j _ => Finset.sum_congr rfl fun d _ => by ring

end Cert.KernelIdeal.Hand
-- ==== Proof.Host.lean ====
module

public import proofs.«01_k».proof.Proof.Rows
public import Idealize.ShloMosaic.Lib.Pointwise

@[expose] public section

set_option maxRecDepth 16384

noncomputable section

namespace Cert.KernelIdeal.Hand

open Cert.KernelIdeal Cert.KernelIdeal.Gen Idealize.ShloMosaic

/-! What the lines before the call compute. -/

abbrev A3 := FVec Ideal S16384x8x128 .f32

/-- An argument's numbers: rows are positions, columns the heads' lanes one head after the other. -/
def Is3 (x : A3) (f : ℕ → ℕ → ℝ) : Prop := ∀ (a : Fin 16384) (g : Fin 8) (d : Fin 128), x (ix3 a g d) = ((lanes f g.val a.val d.val : ℝ) : EReal)

/-- Row `i`, column `j`: is key `j` before or at row `i`. -/
def hMask : IVec S16384x16384 1 :=
  cmpi .sle (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))
/-- The scores, masked. -/
def hS (x0 x1 : A3) : FVec Ideal S8x16384x16384 .f32 :=
  select (broadcastInDim S8x16384x16384 ![0, 1, 2] bcast_S1x16384x16384_S8x16384x16384_0_1_2 (broadcastInDim S1x16384x16384 ![1, 2] bcast_S16384x16384_S1x16384x16384_1_2 hMask))
    (Host.divf (Host.dotGeneral dot_S16384x8x128_S16384x8x128_S8x16384x16384_2_2_0_0_1_1 none x0 x1)
      (broadcastInDim S8x16384x16384 ![] bcast_S_S8x16384x16384 (Host.sqrt (constant S_ .f32 0x42C00000#32))))
    (broadcastInDim S8x16384x16384 ![] bcast_S_S8x16384x16384 (constant S_ .f32 0xFF800000#32))
def hM (s : FVec Ideal S8x16384x16384 .f32) : FVec Ideal S8x16384x1 .f32 :=
  broadcastInDim S8x16384x1 ![0, 1] bcast_S8x16384_S8x16384x1_0_1 (Host.reduce FloatOps.maximumf s (constant S_ .f32 0xFF800000#32) reducesTo_S8x16384x16384_S8x16384_d2 h_S_)
def hE (s : FVec Ideal S8x16384x16384 .f32) (mx : FVec Ideal S8x16384x1 .f32) : FVec Ideal S8x16384x16384 .f32 :=
  Host.exp (subf s (broadcastInDim S8x16384x16384 ![0, 1, 2] bcast_S8x16384x1_S8x16384x16384_0_1_2 mx))
def hL (e : FVec Ideal S8x16384x16384 .f32) : FVec Ideal S8x16384x1 .f32 :=
  broadcastInDim S8x16384x1 ![0, 1] bcast_S8x16384_S8x16384x1_0_1 (Host.reduceAdd e (constant S_ .f32 0x00000000#32) reducesTo_S8x16384x16384_S8x16384_d2 h_S_)
def hLse (mx l : FVec Ideal S8x16384x1 .f32) : FVec Ideal S8x16384x1 .f32 := addf mx (Host.log l)
def hP (e : FVec Ideal S8x16384x16384 .f32) (l : FVec Ideal S8x16384x1 .f32) : FVec Ideal S8x16384x16384 .f32 :=
  Host.divf e (broadcastInDim S8x16384x16384 ![0, 1, 2] bcast_S8x16384x1_S8x16384x16384_0_1_2 l)
def hD (p : FVec Ideal S8x16384x16384 .f32) (x2 x3 : A3) : FVec Ideal S8x16384 .f32 :=
  Host.reduceAdd (mulf (Host.dotGeneral dot_S8x16384x16384_S16384x8x128_S8x16384x128_2_0_1_2_0_1 none p x2) (transpose S8x16384x128 [1, 0, 2] x3 transposes_S16384x8x128_S8x16384x128_1_0_2))
    (constant S_ .f32 0x00000000#32) reducesTo_S8x16384x128_S8x16384_d2 h_S_

variable {x0 x1 x2 x3 : A3} {q k v ct : ℕ → ℕ → ℝ}

theorem ofBits_96 : Ideal.ofBits .f32 0x42C00000#32 = ((96 : ℝ) : EReal) := by
  simp [Ideal.ofBits, Ideal.ieee, -EReal.coe_mul]; norm_num
theorem ofBits_ninf : Ideal.ofBits .f32 0xFF800000#32 = ⊥ := by
  simp [Ideal.ofBits, Ideal.ieee]
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]
theorem sqrt_96 : Ideal.sqrt ((96 : ℝ) : EReal) = ((Real.sqrt 96 : ℝ) : EReal) := by
  show (if (96 : ℝ) < 0 then (⊥ : EReal) else _) = _
  rw [if_neg (by norm_num)]
theorem log_real (a : ℝ) (ha : 0 < a) : Ideal.log (a : EReal) = ((Real.log a : ℝ) : EReal) := by
  show (if a ≤ 0 then (⊥ : EReal) else _) = _
  rw [if_neg (by linarith)]
theorem sqrt96_ne : Real.sqrt 96 ≠ 0 := (Real.sqrt_pos.mpr (by norm_num)).ne'

theorem sle_is (i j : Fin 16384) : IntOp.cmpi CmpIPredicate.sle (BitVec.ofNat 32 j.val) (BitVec.ofNat 32 i.val) = BitVec.ofBool (decide (j.val ≤ i.val)) := by
  show BitVec.ofBool (BitVec.sle _ _) = _
  congr 1
  rw [BitVec.sle, BitVec.toInt_eq_toNat_of_lt, BitVec.toInt_eq_toNat_of_lt, BitVec.toNat_ofNat, BitVec.toNat_ofNat]
  all_goals have := i.isLt; have := j.isLt
  · rw [Nat.mod_eq_of_lt (by omega), Nat.mod_eq_of_lt (by omega)]; simp
  · rw [BitVec.toNat_ofNat, Nat.mod_eq_of_lt (by omega)]; omega
  · rw [BitVec.toNat_ofNat, Nat.mod_eq_of_lt (by omega)]; omega

/-- A masked score as printed. -/
theorem masked_is (f : ℕ → ℝ) (i j : Fin 16384) :
    Scalar.select (IntOp.cmpi CmpIPredicate.sle (BitVec.ofNat 32 j.val) (BitVec.ofNat 32 i.val)) ((f j.val : ℝ) : EReal) (⊥ : EReal) = masked f i.val j := by
  rw [sle_is]
  unfold masked
  by_cases h : j.val ≤ i.val
  · rw [if_pos h, decide_eq_true h]; rfl
  · rw [if_neg h, decide_eq_false h]; rfl

/-- A score as printed. -/
theorem score_is (h0 : Is3 x0 q) (h1 : Is3 x1 k) (g : Fin 8) (i j : Fin 16384) :
    Ideal.div (∑ d, x0 (ix3 i g d) * x1 (ix3 j g d)) (Ideal.sqrt (Ideal.ofBits FTy.f32 0x42C00000#32)) = ((score q k g.val i.val j.val : ℝ) : EReal) := by
  rw [ofBits_96, sqrt_96]
  simp only [h0 i g, h1 j g]
  rw [sum_mul_is 128 (fun d => lanes q g.val i.val d) (fun d => lanes k g.val j.val d), div_real _ _ sqrt96_ne]
  congr 1
  unfold score sc scl
  rw [div_eq_mul_inv]
  congr 1
  exact Finset.sum_congr rfl fun d _ => mul_comm _ _

theorem hS_is (h0 : Is3 x0 q) (h1 : Is3 x1 k) (g : Fin 8) (i j : Fin 16384) : hS x0 x1 (ix3 g i j) = masked (score q k g.val i.val) i.val j := by
  pointwise [hS, hMask]
  rw [score_is h0 h1, ofBits_ninf]
  exact masked_is (score q k g.val i.val) i j

theorem hM_is {s : FVec Ideal S8x16384x16384 .f32} {g : Fin 8} {i : Fin 16384} {f : ℕ → ℝ} (hs : ∀ j, s (ix3 g i j) = masked f i.val j) :
    hM s (ix3 g i 0) = ((top f i.val : ℝ) : EReal) := by
  pointwise [hM]
  simp only [hs]
  rw [ofBits_ninf]
  exact top_eq f i.val
theorem hE_is {s : FVec Ideal S8x16384x16384 .f32} {mx} {g : Fin 8} {i : Fin 16384} {f : ℕ → ℝ} (hs : ∀ j, s (ix3 g i j) = masked f i.val j)
    (hm : mx (ix3 g i 0) = ((top f i.val : ℝ) : EReal)) (j : Fin 16384) : hE s mx (ix3 g i j) = ((expo f i.val j.val : ℝ) : EReal) := by
  pointwise [hE]
  rw [hs, hm]
  exact exp_masked f i.val j
theorem hL_is {e : FVec Ideal S8x16384x16384 .f32} {g : Fin 8} {i : Fin 16384} {f : ℕ → ℝ} (he : ∀ j, e (ix3 g i j) = ((expo f i.val j.val : ℝ) : EReal)) :
    hL e (ix3 g i 0) = ((tot f i.val : ℝ) : EReal) := by
  pointwise [hL]
  simp only [he]
  exact (coe_sum _ _).symm
theorem hLse_is {mx l} {g : Fin 8} {i : Fin 16384} {f : ℕ → ℝ} (hm : mx (ix3 g i 0) = ((top f i.val : ℝ) : EReal)) (hl : l (ix3 g i 0) = ((tot f i.val : ℝ) : EReal)) :
    hLse mx l (ix3 g i 0) = ((top f i.val + Real.log (tot f i.val) : ℝ) : EReal) := by
  pointwise [hLse]
  rw [hm, hl, log_real _ (tot_pos f i.val), ← EReal.coe_add]
theorem hP_is {e : FVec Ideal S8x16384x16384 .f32} {l} {g : Fin 8} {i : Fin 16384} {f : ℕ → ℝ} (he : ∀ j, e (ix3 g i j) = ((expo f i.val j.val : ℝ) : EReal))
    (hl : l (ix3 g i 0) = ((tot f i.val : ℝ) : EReal)) (j : Fin 16384) : hP e l (ix3 g i j) = ((expo f i.val j.val / tot f i.val : ℝ) : EReal) := by
  pointwise [hP]
  rw [he, hl, div_real _ _ (tot_pos f i.val).ne']
theorem hD_is {p : FVec Ideal S8x16384x16384 .f32} {P : ℕ → ℝ} (h2 : Is3 x2 v) (h3 : Is3 x3 ct) {g : Fin 8} {i : Fin 16384} (hp : ∀ j, p (ix3 g i j) = ((P j.val : ℝ) : EReal)) :
    hD p x2 x3 (ix2 g i) = ((∑ d : Fin 128, (∑ j : Fin 16384, P j.val * lanes v g.val j.val d) * lanes ct g.val i.val d : ℝ) : EReal) := by
  pointwise [hD]
  simp only [hp, fun j d => h2 j g d, fun d => h3 i g d]
  have e : ∀ d : Fin 128, (∑ j : Fin 16384, ((P j.val : ℝ) : EReal) * ((lanes v g.val j.val d.val : ℝ) : EReal)) = ((∑ j : Fin 16384, P j.val * lanes v g.val j.val d : ℝ) : EReal) :=
    fun d => sum_mul_is 16384 P fun j => lanes v g.val j d.val
  simp only [e]
  exact sum_mul_is 128 (fun d => ∑ j : Fin 16384, P j.val * lanes v g.val j.val d) fun d => lanes ct g.val i.val d

/-! The rows given to the call. -/

def rowsL (x : FVec Ideal S8x16384x1 .f32) : FVec Ideal S8x128x1024 .f32 :=
  shapeCast S8x128x1024 (broadcastInDim S8x16x8x1024 ![0, 1, 2, 3] bcast_S8x16x1x1024_S8x16x8x1024_0_1_2_3 (shapeCast S8x16x1x1024 x shapeCasts_S8x16384x1_S8x16x1x1024)) shapeCasts_S8x16x8x1024_S8x128x1024
def rowsD (x : FVec Ideal S8x16384 .f32) : FVec Ideal S8x128x1024 .f32 :=
  shapeCast S8x128x1024 (broadcastInDim S8x16x8x1024 ![0, 1, 2, 3] bcast_S8x16x1x1024_S8x16x8x1024_0_1_2_3 (shapeCast S8x16x1x1024 x shapeCasts_S8x16384_S8x16x1x1024)) shapeCasts_S8x16x8x1024_S8x128x1024
def flat (x : A3) : FVec Ideal S16384x1024 .bf16 := truncf .bf16 (shapeCast S16384x1024 x shapeCasts_S16384x8x128_S16384x1024) bitsLt_bf16_f32
def hCt (x : A3) : FVec Ideal S16384x1536 .bf16 :=
  concatenate S16384x1536 1 [⟨S16384x512, broadcastInDim S16384x512 ![] bcast_S_S16384x512 (constant S_ .bf16 0x0000#16)⟩, ⟨S16384x1024, flat x⟩] concatenates_S16384x512_S16384x1024_S16384x1536_d1

theorem rowsL_is (x : FVec Ideal S8x16384x1 .f32) (g : Fin 8) (r : Fin 128) (b : Fin 1024) :
    rowsL x (ix3 g r b) = x (ix3 g ⟨1024 * (r.val / 8) + b.val, by omega⟩ 0) := by
  pointwise [rowsL]
  simp only [Nat.mul_comm]
theorem rowsD_is (x : FVec Ideal S8x16384 .f32) (g : Fin 8) (r : Fin 128) (b : Fin 1024) :
    rowsD x (ix3 g r b) = x (ix2 g ⟨1024 * (r.val / 8) + b.val, by omega⟩) := by
  pointwise [rowsD]
  simp only [Nat.mul_comm]
theorem flat_is {x : A3} {f : ℕ → ℕ → ℝ} (h : Is3 x f) : Is (flat x) f := by
  intro a b
  pointwise [flat]
  rw [h]
  unfold lanes
  dsimp only
  rw [Nat.div_add_mod]
theorem hCt_is {x : A3} {f : ℕ → ℕ → ℝ} (h : Is3 x f) : Is (hCt x) fun a b => if b < 512 then 0 else f a (b - 512) := by
  intro a b
  pointwise [hCt]
  by_cases hb : b.val < 512
  · rw [dif_pos hb, if_pos hb]; rfl
  · rw [dif_neg hb, if_neg hb, flat_is h]

end Cert.KernelIdeal.Hand
-- ==== Proof.Arrays.lean ====
module

public import proofs.«01_k».proof.Proof.Rows
public import proofs.«01_k».proof.Proof.Run
public import Idealize.ShloMosaic.Lib.Pipeline.ValueKit.Geometry

@[expose] public section

set_option maxRecDepth 16384

noncomputable section

namespace Cert.KernelIdeal.Hand

open Cert.KernelIdeal Cert.KernelIdeal.Gen Idealize.ShloMosaic
open VecWindow (window put)

/-! The three arrays the call leaves, over the reals. -/

variable (m : (ℓ : Loc nD τ sig) → Buf (Elt Ideal) ℓ) (c : Dev nD)
variable (q k v ct : ℕ → ℕ → ℝ) (l dl : ℕ → ℕ → ℝ)

/-- What the call is given: rows are positions, columns the heads' lanes one head after the other. -/
structure Given : Prop where
  hq : Is (m := 16384) (n := 1024) (φ := .bf16) (V m c main_v32) q
  hk : Is (m := 16384) (n := 1024) (φ := .bf16) (V m c main_v34) k
  hv : Is (m := 16384) (n := 1024) (φ := .bf16) (V m c main_v36) v
  hc : Is (m := 16384) (n := 1536) (φ := .bf16) (V m c main_v30) fun a b => if b < 512 then 0 else ct a (b - 512)
  hl : ∀ (g : Fin 8) (r : Fin 128) (b : Fin 1024), V m c main_v39 (ix3 g r b) = ((l g.val (1024 * (r.val / 8) + b.val) : ℝ) : EReal)
  hdl : ∀ (g : Fin 8) (r : Fin 128) (b : Fin 1024), V m c main_v42 (ix3 g r b) = ((dl g.val (1024 * (r.val / 8) + b.val) : ℝ) : EReal)

/-- A head's probabilities and score gradients. -/
def Wh (g : ℕ) : ℕ → ℕ → ℝ := W (lanes q g) (lanes k g) (l g)
def Gh (g : ℕ) : ℕ → ℕ → ℝ := G (lanes q g) (lanes k g) (lanes v g) (lanes ct g) (l g) (dl g)

/-- The three gradients. -/
def DQ (a b : ℕ) : ℝ := (∑ x ∈ Finset.range 16384, Gh q k v ct l dl (b / 128) x a * k x b) * scl
def DK (a b : ℕ) : ℝ := (∑ x ∈ Finset.range 16384, Gh q k v ct l dl (b / 128) a x * q x b) * scl
def DV (a b : ℕ) : ℝ := ∑ x ∈ Finset.range 16384, Wh q k l (b / 128) a x * ct x b

/-! ## The grid's points -/

theorem coord0 : ∀ t : Fin grid0.N, (grid0.coords t 0).val = t.val / 16 := by decide +kernel
theorem coord1 : ∀ t : Fin grid0.N, (grid0.coords t 1).val = t.val % 16 := by decide +kernel
theorem cond1_iff : ∀ t : Fin grid0.N, k0_cond1 (grid0.coords t) = 1#1 ↔ t.val % 16 = 0 := by decide +kernel
theorem cond2_iff : ∀ t : Fin grid0.N, k0_cond2 (grid0.coords t) = 1#1 ↔ t.val % 16 = 15 := by decide +kernel

theorem ix_0 : ∀ t : Fin grid0.N, win0_0.index t = ![t.val / 16, 0, 0] := by decide +kernel
theorem ix_1 : ∀ t : Fin grid0.N, win0_1.index t = ![t.val / 16, 0, 0] := by decide +kernel
theorem ix_2 : ∀ t : Fin grid0.N, win0_2.index t = ![t.val % 16, t.val / 16] := by decide +kernel
theorem ix_3 : ∀ t : Fin grid0.N, win0_3.index t = ![t.val % 16, t.val / 16] := by decide +kernel
theorem ix_4 : ∀ t : Fin grid0.N, win0_4.index t = ![t.val % 16, t.val / 16] := by decide +kernel
theorem ix_5 : ∀ t : Fin grid0.N, win0_5.index t = ![t.val % 16, t.val / 16] := by decide +kernel

/-! ## Reading a window's block -/

theorem rd_0 (t : Fin cfg0.N) (A : Vec Ideal S8x128x1024 .f32) (r : Fin 128) (b : Fin 1024) (g : Fin 8) (hg : g.val = t.val / 16) :
    (win0_0.blk t).view.read (Elt Ideal) A (ix3 (n0 := 1) (n1 := 128) (n2 := 1024) 0 r b) = A (ix3 (n0 := 8) (n1 := 128) (n2 := 1024) g r b) := by
  have e : (win0_0.blk t).view.emb (ix3 (n0 := 1) (n1 := 128) (n2 := 1024) 0 r b) = ix3 (n0 := 8) (n1 := 128) (n2 := 1024) g r b := by
    blk_ext [ix_0]
  exact congrArg A e
theorem rd_1 (t : Fin cfg0.N) (A : Vec Ideal S8x128x1024 .f32) (r : Fin 128) (b : Fin 1024) (g : Fin 8) (hg : g.val = t.val / 16) :
    (win0_1.blk t).view.read (Elt Ideal) A (ix3 (n0 := 1) (n1 := 128) (n2 := 1024) 0 r b) = A (ix3 (n0 := 8) (n1 := 128) (n2 := 1024) g r b) := by
  have e : (win0_1.blk t).view.emb (ix3 (n0 := 1) (n1 := 128) (n2 := 1024) 0 r b) = ix3 (n0 := 8) (n1 := 128) (n2 := 1024) g r b := by
    blk_ext [ix_1]
  exact congrArg A e
theorem rd_2 (t : Fin cfg0.N) (A : Vec Ideal S16384x1024 .bf16) (a : Fin 1024) (b : Fin 128) (r : Fin 16384) (s : Fin 1024)
    (hr : r.val = 1024 * (t.val % 16) + a.val) (hs : s.val = 128 * (t.val / 16) + b.val) :
    (win0_2.blk t).view.read (Elt Ideal) A (ix2 (n0 := 1024) (n1 := 128) a b) = A (ix2 (n0 := 16384) (n1 := 1024) r s) := by
  have e : (win0_2.blk t).view.emb (ix2 (n0 := 1024) (n1 := 128) a b) = ix2 (n0 := 16384) (n1 := 1024) r s := by
    blk_ext [ix_2]
  exact congrArg A e
theorem rd_3 (t : Fin cfg0.N) (A : Vec Ideal S16384x1024 .bf16) (a : Fin 1024) (b : Fin 128) (r : Fin 16384) (s : Fin 1024)
    (hr : r.val = 1024 * (t.val % 16) + a.val) (hs : s.val = 128 * (t.val / 16) + b.val) :
    (win0_3.blk t).view.read (Elt Ideal) A (ix2 (n0 := 1024) (n1 := 128) a b) = A (ix2 (n0 := 16384) (n1 := 1024) r s) := by
  have e : (win0_3.blk t).view.emb (ix2 (n0 := 1024) (n1 := 128) a b) = ix2 (n0 := 16384) (n1 := 1024) r s := by
    blk_ext [ix_3]
  exact congrArg A e

theorem B4_eq (t : Fin cfg0.N) : B4 m c t = (win0_0.blk t).view.read (Elt Ideal) (V m c main_v39) := rfl
theorem B5_eq (t : Fin cfg0.N) : B5 m c t = (win0_1.blk t).view.read (Elt Ideal) (V m c main_v42) := rfl
theorem B6_eq (t : Fin cfg0.N) : B6 m c t = (win0_2.blk t).view.read (Elt Ideal) (V m c main_v34) := rfl
theorem B7_eq (t : Fin cfg0.N) : B7 m c t = (win0_3.blk t).view.read (Elt Ideal) (V m c main_v36) := rfl

variable {m c q k v ct l dl}
variable (H : Given m c q k v ct l dl)
include H

theorem Given.b4 (t : Fin cfg0.N) : Stat (B4 m c t) (l (t.val / 16)) := by
  have ht : t.val < 128 := t.isLt
  intro s b
  rw [B4_eq, rd_0 t _ _ b ⟨t.val / 16, by omega⟩ rfl, H.hl]
  dsimp only
  rw [Nat.mul_div_cancel_left _ (by norm_num)]
theorem Given.b5 (t : Fin cfg0.N) : Stat (B5 m c t) (dl (t.val / 16)) := by
  have ht : t.val < 128 := t.isLt
  intro s b
  rw [B5_eq, rd_1 t _ _ b ⟨t.val / 16, by omega⟩ rfl, H.hdl]
  dsimp only
  rw [Nat.mul_div_cancel_left _ (by norm_num)]
theorem Given.b6 (t : Fin cfg0.N) : Is (m := 1024) (n := 128) (φ := .bf16) (B6 m c t) fun a d => lanes k (t.val / 16) (1024 * (grid0.coords t 1).val + a) d := by
  have ht : t.val < 128 := t.isLt
  intro a d
  rw [B6_eq, coord1, rd_2 t _ a d ⟨1024 * (t.val % 16) + a.val, by omega⟩ ⟨128 * (t.val / 16) + d.val, by omega⟩ rfl rfl]
  exact H.hk _ _
theorem Given.b7 (t : Fin cfg0.N) : Is (m := 1024) (n := 128) (φ := .bf16) (B7 m c t) fun a d => lanes v (t.val / 16) (1024 * (grid0.coords t 1).val + a) d := by
  have ht : t.val < 128 := t.isLt
  intro a d
  rw [B7_eq, coord1, rd_3 t _ a d ⟨1024 * (t.val % 16) + a.val, by omega⟩ ⟨128 * (t.val / 16) + d.val, by omega⟩ rfl rfl]
  exact H.hv _ _

/-- The head's columns taken at its first key tile. -/
theorem Given.colq (t : Fin cfg0.N) (h : k0_cond1 (grid0.coords t) = 1#1) : Is (m := 16384) (n := 128) (φ := .bf16) (colQ (grid0.coords t) h (AQ m c)) (lanes q (t.val / 16)) := by
  have e : k0_off1 (grid0.coords t) = ![0, 128 * (t.val / 16)] := by rw [k0_off1_eq, coord0]
  exact cols_is H.hq _ _ e (k0_off1_inb _ h)
theorem Given.colc (t : Fin cfg0.N) (h : k0_cond1 (grid0.coords t) = 1#1) : Is (m := 16384) (n := 128) (φ := .bf16) (colDo (grid0.coords t) h (ADo m c)) (lanes ct (t.val / 16)) := by
  have e : k0_off2 (grid0.coords t) = ![0, 128 * (t.val / 16) + 512] := by rw [k0_off2_eq, coord0]
  refine (cols_is H.hc _ _ e (k0_off2_inb _ h)).congr fun a d ha hd' => ?_
  unfold lanes
  rw [if_neg (by omega)]
  congr 1
  omega

/-! ## From point to point -/

/-- The query gradients of a head after its first `j` key tiles. -/
def acc (q k v ct : ℕ → ℕ → ℝ) (l dl : ℕ → ℕ → ℝ) (g j r d : ℕ) : ℝ := ∑ x ∈ Finset.range (1024 * j), Gh q k v ct l dl g x r * lanes k g x d

omit H in
theorem acc_zero (g r d : ℕ) : acc q k v ct l dl g 0 r d = 0 := by unfold acc; rw [Nat.mul_zero, Finset.sum_range_zero]
omit H in
theorem acc_succ (g j r d : ℕ) : acc q k v ct l dl g (j + 1) r d
    = acc q k v ct l dl g j r d + part (lanes q g) (lanes k g) (lanes v g) (lanes ct g) (l g) (dl g) (1024 * j) r d := by
  unfold acc part Gh
  rw [Nat.mul_add, Nat.mul_one, Finset.sum_range_add]

/-- What the scratch holds at a point. -/
def Held (q k v ct : ℕ → ℕ → ℝ) (l dl : ℕ → ℕ → ℝ) (g j : ℕ) (s : Scr Ideal) : Prop :=
  Is (m := 16384) (n := 128) (φ := .bf16) s.1 (lanes q g) ∧ Is (m := 16384) (n := 128) (φ := .bf16) s.2.1 (lanes ct g)
    ∧ Is (m := 16384) (n := 128) (φ := .f32) s.2.2 (acc q k v ct l dl g j)

theorem Given.starts_held (t : Fin cfg0.N) (s : Scr Ideal) (hs : t.val % 16 ≠ 0 → Held q k v ct l dl (t.val / 16) (t.val % 16) s) :
    Held q k v ct l dl (t.val / 16) (t.val % 16) (starts (grid0.coords t) (AQ m c) (ADo m c) s) := by
  unfold Hand.starts
  by_cases h : t.val % 16 = 0
  · have h1 := (cond1_iff t).mpr h
    rw [dif_pos h1, h]
    exact ⟨H.colq t h1, H.colc t h1, pay11_is.congr fun a d _ _ => (acc_zero _ _ _).symm⟩
  · rw [dif_neg fun h1 => h ((cond1_iff t).mp h1)]
    exact hs h

theorem Given.outcome_is (t : Fin cfg0.N) (s : Scr Ideal) (hs : t.val % 16 ≠ 0 → Held q k v ct l dl (t.val / 16) (t.val % 16) s) :
    let o := outcome (grid0.coords t) (B4 m c t) (B5 m c t) (B6 m c t) (B7 m c t) (AQ m c) (ADo m c) s
    Is (m := 1024) (n := 128) (φ := .f32) o.1.1 (fun a d => ∑ x ∈ Finset.range 16384, Gh q k v ct l dl (t.val / 16) (1024 * (t.val % 16) + a) x * lanes q (t.val / 16) x d)
    ∧ Is (m := 1024) (n := 128) (φ := .f32) o.1.2 (fun a d => ∑ x ∈ Finset.range 16384, Wh q k l (t.val / 16) (1024 * (t.val % 16) + a) x * lanes ct (t.val / 16) x d)
    ∧ Is (m := 16384) (n := 128) (φ := .f32) o.2 (acc q k v ct l dl (t.val / 16) (t.val % 16 + 1)) := by
  obtain ⟨h1, h2, h3⟩ := H.starts_held t s hs
  have B : Blocks (lanes q (t.val / 16)) (lanes k (t.val / 16)) (lanes v (t.val / 16)) (lanes ct (t.val / 16)) (l (t.val / 16)) (dl (t.val / 16)) (grid0.coords t)
      (x4 := B4 m c t) (x5 := B5 m c t) (x6 := B6 m c t) (x7 := B7 m c t) (xq := (Hand.starts (grid0.coords t) (AQ m c) (ADo m c) s).1)
      (xdo := (Hand.starts (grid0.coords t) (AQ m c) (ADo m c) s).2.1) :=
    ⟨H.b4 t, H.b5 t, H.b6 t, H.b7 t, h1, h2⟩
  obtain ⟨e1, e2, e3⟩ := B.fin_is h3
  rw [coord1] at e1 e2 e3
  exact ⟨e1, e2, e3.congr fun a d _ _ => (acc_succ _ _ _ _).symm⟩

omit H in
/-- A window of columns put over. -/
theorem putc_is {x : FVec Ideal ⟨2, ![16384, 1024]⟩ .f32} {w : FVec Ideal ⟨2, ![16384, 128]⟩ .f32} (off : Fin 2 → ℕ) (o : ℕ) (ho : off = ![0, o])
    (a : Fin 16384) (b : Fin 1024) :
    put (s := ⟨2, ![16384, 1024]⟩) x off (⟨2, ![16384, 128]⟩ : Shape).size w (ix2 a b)
      = if h : o ≤ b.val ∧ b.val < o + 128 then w (ix2 a ⟨b.val - o, by omega⟩) else x (ix2 a b) := by
  subst ho
  unfold put
  by_cases h : o ≤ b.val ∧ b.val < o + 128
  · have h' : ∀ x : Fin 2, (![0, o] : Fin 2 → ℕ) x ≤ ((ix2 a b) x).val ∧ ((ix2 a b) x).val < (![0, o] : Fin 2 → ℕ) x + (⟨2, ![16384, 128]⟩ : Shape).size x := fun x =>
      match x with
      | ⟨0, _⟩ => ⟨Nat.zero_le _, (Nat.zero_add 16384).symm ▸ a.isLt⟩
      | ⟨1, _⟩ => h
    rw [dif_pos h', dif_pos h]
    have e : (Rect.unitLocal (s := ⟨2, ![16384, 1024]⟩) (off := ![0, o]) (size := (⟨2, ![16384, 128]⟩ : Shape).size) (ix2 a b) h') = ix2 (n1 := 128) a ⟨b.val - o, by omega⟩ := by
      funext x
      match x with
      | ⟨0, _⟩ => exact Fin.ext (show a.val - 0 = a.val by omega)
      | ⟨1, _⟩ => rfl
    rw [e]
  · rw [dif_neg h, dif_neg fun hh => h (hh 1)]

/-- Before each point: the scratch, and the finished heads' columns of the result. -/
theorem Given.trk_is (n : ℕ) (hn : n ≤ 128) :
    (n % 16 ≠ 0 → Held q k v ct l dl (n / 16) (n % 16) (trk m c n).1)
    ∧ ∀ (a : Fin 16384) (b : Fin 1024), b.val < 128 * (n / 16) → (trk m c n).2 (ix2 a b) = ((DQ q k v ct l dl a.val b.val : ℝ) : EReal) := by
  induction n with
  | zero => exact ⟨fun h => absurd rfl h, fun a b h => by omega⟩
  | succ n ih =>
    obtain ⟨hs, hH⟩ := ih (by omega)
    have e := trk_succ m c ⟨n, by show n < 128; omega⟩
    obtain ⟨o1, o2, o3⟩ := H.outcome_is ⟨n, by show n < 128; omega⟩ _ hs
    obtain ⟨s1, s2, s3⟩ := H.starts_held ⟨n, by show n < 128; omega⟩ _ hs
    have c2 := cond2_iff ⟨n, by show n < 128; omega⟩
    dsimp only at e o1 o2 o3 s1 s2 s3 c2
    rw [e]
    refine ⟨fun h => ?_, fun a b hb => ?_⟩
    · have h15 : n % 16 ≠ 15 := by omega
      unfold leaves leavesQ
      rw [if_neg fun hh => h15 (c2.mp hh), show (n + 1) / 16 = n / 16 by omega, show (n + 1) % 16 = n % 16 + 1 by omega]
      exact ⟨s1, s2, o3⟩
    · unfold leavesH leavesQ
      by_cases h15 : n % 16 = 15
      · rw [if_pos (c2.mpr h15), if_pos (c2.mpr h15)]
        have eo : k0_off10 (grid0.coords ⟨n, by show n < 128; omega⟩) = ![0, 128 * (n / 16)] := by rw [k0_off10_eq, coord0]
        refine (putc_is _ _ eo a b).trans ?_
        by_cases hr : 128 * (n / 16) ≤ b.val ∧ b.val < 128 * (n / 16) + 128
        · rw [dif_pos hr, pay36_is o3]
          unfold acc DQ lanes
          dsimp only
          rw [show b.val / 128 = n / 16 by omega, show 1024 * (n % 16 + 1) = 16384 by omega, show 128 * (n / 16) + (b.val - 128 * (n / 16)) = b.val by omega]
        · rw [dif_neg hr]
          exact hH a b (by omega)
      · rw [if_neg fun hh => h15 (c2.mp hh)]
        exact hH a b (by omega)

/-- The query gradients. -/
theorem Given.dq : Is (m := 16384) (n := 1024) (φ := .f32) (trk m c 128).2 (DQ q k v ct l dl) := fun a b =>
  (H.trk_is 128 le_rfl).2 a b (by omega)

theorem Given.outAt_is (t : Fin cfg0.N) :
    Is (m := 1024) (n := 128) (φ := .f32) (outAt m c t).1.1 (fun a d => ∑ x ∈ Finset.range 16384, Gh q k v ct l dl (t.val / 16) (1024 * (t.val % 16) + a) x * lanes q (t.val / 16) x d)
    ∧ Is (m := 1024) (n := 128) (φ := .f32) (outAt m c t).1.2 (fun a d => ∑ x ∈ Finset.range 16384, Wh q k l (t.val / 16) (1024 * (t.val % 16) + a) x * lanes ct (t.val / 16) x d) := by
  have ht : t.val < 128 := t.isLt
  obtain ⟨h1, h2, -⟩ := H.outcome_is t _ (H.trk_is t.val (by omega)).1
  exact ⟨h1, h2⟩

/-- The key and value gradients. -/
theorem Given.dk : (dats m 0 c).arrAt 4 cfg0.N = fun i : S16384x1024.Idx => ((DK q k v ct l dl (i 0).val (i 1).val : ℝ) : EReal) := by
  refine (dats m 0 c).arrAt_eq_of_covers 4 _ (by decide +kernel) fun t hf y => ?_
  obtain ⟨a, b, rfl⟩ : ∃ (a : Fin 1024) (b : Fin 128), y = ix2 a b := ⟨y 0, y 1, eq_ix2 y⟩
  blk_simp [ix_4]
  rw [after_4]
  refine (pay35_is (H.outAt_is t).1 a b).trans ?_
  have hb : (t.val / 16 * 128 + b.val) / 128 = t.val / 16 := by omega
  show _ = ((DK q k v ct l dl (t.val % 16 * 1024 + a.val) (t.val / 16 * 128 + b.val) : ℝ) : EReal)
  unfold DK lanes
  rw [hb, Nat.mul_comm 1024, Nat.mul_comm 128]

theorem Given.dv : (dats m 0 c).arrAt 5 cfg0.N = fun i : S16384x1024.Idx => ((DV q k ct l (i 0).val (i 1).val : ℝ) : EReal) := by
  refine (dats m 0 c).arrAt_eq_of_covers 5 _ (by decide +kernel) fun t hf y => ?_
  obtain ⟨a, b, rfl⟩ : ∃ (a : Fin 1024) (b : Fin 128), y = ix2 a b := ⟨y 0, y 1, eq_ix2 y⟩
  blk_simp [ix_5]
  rw [after_5]
  refine ((H.outAt_is t).2 a b).trans ?_
  have hb : (t.val / 16 * 128 + b.val) / 128 = t.val / 16 := by omega
  show _ = ((DV q k ct l (t.val % 16 * 1024 + a.val) (t.val / 16 * 128 + b.val) : ℝ) : EReal)
  unfold DV lanes
  rw [hb, Nat.mul_comm 1024, Nat.mul_comm 128]

end Cert.KernelIdeal.Hand
-- ==== Proof.Entry.lean ====
module

public import proofs.«01_k».proof.Proof.Host
public import proofs.«01_k».proof.Proof.Arrays
public import Idealize.ShloMosaic.Lib.StableHlo.RunRead

@[expose] public section

set_option maxRecDepth 16384

noncomputable section

namespace Cert.KernelIdeal.Hand

open Cert.KernelIdeal Cert.KernelIdeal.Gen Idealize.ShloMosaic Idealize.ShloMosaic.TcCoe

/-! What the call finds. -/

variable (m : (ℓ : Loc nD τ sig) → Buf (Elt Ideal) ℓ) (c : Dev nD)

abbrev X0 : A3 := m (c, Proc.tc.devRef main_arg0)
abbrev X1 : A3 := m (c, Proc.tc.devRef main_arg1)
abbrev X2 : A3 := m (c, Proc.tc.devRef main_arg2)
abbrev X3 : A3 := m (c, Proc.tc.devRef main_arg3)

theorem V_32 : V m c main_v32 = flat (X0 m c) := by
  unfold V; after_reads_simp; rfl
theorem V_34 : V m c main_v34 = flat (X1 m c) := by
  unfold V; after_reads_simp; rfl
theorem V_36 : V m c main_v36 = flat (X2 m c) := by
  unfold V; after_reads_simp; rfl
theorem V_30 : V m c main_v30 = hCt (X3 m c) := by
  unfold V; after_reads_simp; rfl
theorem V_39 : V m c main_v39 = rowsL (hLse (hM (hS (X0 m c) (X1 m c))) (hL (hE (hS (X0 m c) (X1 m c)) (hM (hS (X0 m c) (X1 m c)))))) := by
  unfold V; after_reads_simp; rfl
theorem V_42 : V m c main_v42 = rowsD (hD (hP (hE (hS (X0 m c) (X1 m c)) (hM (hS (X0 m c) (X1 m c)))) (hL (hE (hS (X0 m c) (X1 m c)) (hM (hS (X0 m c) (X1 m c)))))) (X2 m c) (X3 m c)) := by
  unfold V; after_reads_simp; rfl

variable {m c} {q k v ct : ℕ → ℕ → ℝ}

theorem given (h0 : Is3 (X0 m c) q) (h1 : Is3 (X1 m c) k) (h2 : Is3 (X2 m c) v) (h3 : Is3 (X3 m c) ct) :
    Given m c q k v ct (lse q k) (delta q k v ct) where
  hq := by rw [V_32]; exact flat_is h0
  hk := by rw [V_34]; exact flat_is h1
  hv := by rw [V_36]; exact flat_is h2
  hc := by rw [V_30]; exact hCt_is h3
  hl g r b := by
    rw [V_39, rowsL_is]
    have hs := hS_is h0 h1 g ⟨1024 * (r.val / 8) + b.val, by omega⟩
    have hm := hM_is hs
    exact hLse_is hm (hL_is (hE_is hs hm))
  hdl g r b := by
    rw [V_42, rowsD_is]
    have hs := hS_is h0 h1 g ⟨1024 * (r.val / 8) + b.val, by omega⟩
    have hm := hM_is hs
    have he := hE_is hs hm
    exact hD_is (P := fun j => prob q k g.val (1024 * (r.val / 8) + b.val) j) h2 h3 (hP_is he (hL_is he))

end Cert.KernelIdeal.Hand
-- ==== Proof.RefRow.lean ====
module

public import proofs.«01_k».proof.Proof.Host
public import proofs.«01_k».proof.Proof.Arrays
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read Idealize.ShloMosaic
open Cert.KernelIdeal.Hand (A3 Is3 lanes score masked top expo tot prob delta sc scl ofBits_96 ofBits_ninf div_real sqrt_96 sqrt96_ne sle_is masked_is score_is sum_mul_is coe_sum top_eq exp_masked tot_pos delta_eq lse W W_eq G Gh Wh DQ DK DV)

/-! What the reference's lines compute. -/

variable {x0 x1 x2 x3 : A3} {q k v ct : ℕ → ℕ → ℝ}

theorem s_is (h0 : Is3 x0 q) (h1 : Is3 x1 k) (g : Fin 8) (i j : Fin 16384) : val_main_v11_0 (F := Ideal) x0 x1 (ix3 g i j) = masked (score q k g.val i.val) i.val j := by
  pointwise [val_main_v11_0, val_main_v11_1, val_main_v11_2, val_main_v10, val_main_v9, val_main_v8, val_main_v7, val_main_v6, val_main_v5, val_main_v4, val_main_v3, val_main_v2, val_main_v1, val_main_v0, val_main_cst, val_main_cst_0, val_main_call0_v0, val_main_call0_v2]
  rw [score_is h0 h1, show id (constant (F := Ideal) S_ FTy.f32 0xFF800000#32) ix0 = ⊥ from ofBits_ninf]
  exact masked_is (score q k g.val i.val) i j

/-- The largest entry of each row. -/
def rowMax (s : FVec Ideal S8x16384x16384 .f32) : FVec Ideal S8x16384 .f32 :=
  Host.reduce FloatOps.maximumf s (constant S_ .f32 0xFF800000#32) reducesTo_S8x16384x16384_S8x16384_d2 h_S_
theorem rowMax_is {s : FVec Ideal S8x16384x16384 .f32} {g : Fin 8} {i : Fin 16384} {f : ℕ → ℝ} (hs : ∀ j, s (ix3 g i j) = masked f i.val j) :
    rowMax s (ix2 g i) = ((top f i.val : ℝ) : EReal) := by
  pointwise [rowMax]
  simp only [hs]
  rw [ofBits_ninf]
  exact top_eq f i.val
def atLeast (y : FVec Ideal S8x16384 .f32) : FVec Ideal S8x16384x1 .f32 :=
  broadcastInDim S8x16384x1 ![0, 1] bcast_S8x16384_S8x16384x1_0_1 (maximumf (broadcastInDim S8x16384 ![] bcast_S_S8x16384 (constant S_ .f32 0xFF800000#32)) y)
theorem atLeast_is (y : FVec Ideal S8x16384 .f32) (g : Fin 8) (i : Fin 16384) : atLeast y (ix3 g i 0) = y (ix2 g i) := by
  pointwise [atLeast]
  rw [ofBits_ninf]
  exact max_eq_right bot_le
theorem v29_eq : val_main_v29 (F := Ideal) x0 x1 = atLeast (rowMax (val_main_v11_0 (F := Ideal) x0 x1)) := rfl
theorem mx_is (h0 : Is3 x0 q) (h1 : Is3 x1 k) (g : Fin 8) (i : Fin 16384) : val_main_v29 (F := Ideal) x0 x1 (ix3 g i 0) = ((top (score q k g.val i.val) i.val : ℝ) : EReal) := by
  rw [v29_eq, atLeast_is]
  exact rowMax_is (s_is h0 h1 g i)

theorem e_is (h0 : Is3 x0 q) (h1 : Is3 x1 k) (g : Fin 8) (i j : Fin 16384) : val_main_v32 (F := Ideal) x0 x1 (ix3 g i j) = ((expo (score q k g.val i.val) i.val j.val : ℝ) : EReal) := by
  pointwise [val_main_v32, val_main_v31, val_main_v30]
  rw [s_is h0 h1, mx_is h0 h1]
  exact exp_masked _ _ _

theorem l_is (h0 : Is3 x0 q) (h1 : Is3 x1 k) (g : Fin 8) (i : Fin 16384) : val_main_v34 (F := Ideal) x0 x1 (ix3 g i 0) = ((tot (score q k g.val i.val) i.val : ℝ) : EReal) := by
  pointwise [val_main_v34, val_main_v33, val_main_cst_9]
  simp only [e_is h0 h1 g i]
  exact (coe_sum _ _).symm

theorem p_is (h0 : Is3 x0 q) (h1 : Is3 x1 k) (g : Fin 8) (i j : Fin 16384) : val_main_v36 (F := Ideal) x0 x1 (ix3 g i j) = ((prob q k g.val i.val j.val : ℝ) : EReal) := by
  pointwise [val_main_v36, val_main_v35]
  rw [e_is h0 h1, l_is h0 h1, div_real _ _ (tot_pos _ _).ne']
  rfl

theorem dp_is (h2 : Is3 x2 v) (h3 : Is3 x3 ct) (g : Fin 8) (i j : Fin 16384) : val_main_v43 (F := Ideal) x2 x3 (ix3 g i j) = ((sc (lanes v g.val) (lanes ct g.val) j.val i.val : ℝ) : EReal) := by
  pointwise [val_main_v43, val_main_v42]
  simp only [h2 j g, h3 i g]
  rw [sum_mul_is 128 (fun d => lanes ct g.val i.val d) fun d => lanes v g.val j.val d]
  congr 1
  exact Finset.sum_congr rfl fun d _ => mul_comm _ _

/-- A row's sum of products with the softmax's exponentials, over the square of their sum. -/
def inner (q k v ct : ℕ → ℕ → ℝ) (g i : ℕ) : ℝ :=
  ∑ j : Fin 16384, sc (lanes v g) (lanes ct g) j.val i * (1 / (tot (score q k g i) i * tot (score q k g i) i)) * expo (score q k g i) i j.val

theorem inner_is (h0 : Is3 x0 q) (h1 : Is3 x1 k) (h2 : Is3 x2 v) (h3 : Is3 x3 ct) (g : Fin 8) (i : Fin 16384) :
    val_main_v49 (F := Ideal) x0 x1 x2 x3 (ix2 g i) = ((inner q k v ct g.val i.val : ℝ) : EReal) := by
  pointwise [val_main_v49, val_main_v48, val_main_v47, val_main_v46, val_main_v39, val_main_v38, val_main_v37, val_main_cst_10, val_main_cst_11]
  rw [l_is h0 h1, ← EReal.coe_mul, ← EReal.coe_one, div_real _ _ (mul_pos (tot_pos _ _) (tot_pos _ _)).ne']
  simp only [e_is h0 h1 g i, dp_is h2 h3 g i, ← EReal.coe_mul]
  exact (coe_sum _ _).symm

theorem inner_eq (g i : ℕ) : inner q k v ct g i = delta q k v ct g i / tot (score q k g i) i := by
  rw [delta_eq, Finset.sum_div]
  refine Finset.sum_congr rfl fun j _ => ?_
  have := (tot_pos (score q k g i) i).ne'
  unfold prob
  field_simp

end Cert.ReferenceIdeal.Hand
-- ==== Proof.RefVal.lean ====
module

public import proofs.«01_k».proof.Proof.RefRow

@[expose] public section

set_option maxRecDepth 16384

noncomputable section

namespace Cert.ReferenceIdeal.Hand

open Cert.ReferenceIdeal Cert.ReferenceIdeal.Gen Cert.ReferenceIdeal.Read Idealize.ShloMosaic
open Cert.KernelIdeal.Hand (A3 Is3 lanes score masked top expo tot prob delta sc scl ofBits_96 ofBits_ninf div_real sqrt_96 sqrt96_ne sle_is masked_is score_is sum_mul_is coe_sum top_eq exp_masked tot_pos delta_eq lse W W_eq G Gh Wh DQ DK DV)

/-! The reference's results. -/

variable {x0 x1 x2 x3 : A3} {q k v ct : ℕ → ℕ → ℝ}

/-- A score's gradient. -/
theorem ds_is (h0 : Is3 x0 q) (h1 : Is3 x1 k) (h2 : Is3 x2 v) (h3 : Is3 x3 ct) (g : Fin 8) (i j : Fin 16384) :
    val_main_v60 (F := Ideal) x0 x1 x2 x3 (ix3 g i j) = ((Gh q k v ct (lse q k) (delta q k v ct) g.val j.val i.val * scl : ℝ) : EReal) := by
  pointwise [val_main_v60, val_main_v59, val_main_v1, val_main_cst, val_main_v58, val_main_v11_1, val_main_v10, val_main_v9, val_main_v8, val_main_v7, val_main_v6, val_main_v5, val_main_v4, val_main_v57, val_main_v56, val_main_v55, val_main_v54, val_main_v53, val_main_v52, val_main_v51, val_main_v50, val_main_call1_v0, val_main_call1_cst, val_main_cst_12]
  rw [inner_is h0 h1 h2 h3, l_is h0 h1, dp_is h2 h3, e_is h0 h1]
  rw [Fin.sum_univ_one, sle_is, ofBits_96, sqrt_96, div_real _ _ (tot_pos _ _).ne', ← EReal.coe_neg, ← EReal.coe_add, ← EReal.coe_mul]
  have e : Gh q k v ct (lse q k) (delta q k v ct) g.val j.val i.val = if j.val ≤ i.val then (sc (lanes v g.val) (lanes ct g.val) j.val i.val / tot (score q k g.val i.val) i.val
      + -inner q k v ct g.val i.val) * expo (score q k g.val i.val) i.val j.val else 0 := by
    unfold Gh G
    rw [W_eq, inner_eq]
    split
    · unfold prob; ring
    · next h => unfold prob expo; rw [if_neg h]; ring
  rw [e]
  by_cases h : j.val ≤ i.val
  · rw [if_pos h, decide_eq_true h]
    exact (div_real _ _ sqrt96_ne).trans (congrArg _ (div_eq_mul_inv _ _))
  · rw [if_neg h, decide_eq_false h]
    exact (div_real 0 _ sqrt96_ne).trans (congrArg _ (by rw [zero_div, zero_mul]))

theorem dq_is (h0 : Is3 x0 q) (h1 : Is3 x1 k) (h2 : Is3 x2 v) (h3 : Is3 x3 ct) (a : Fin 16384) (b : Fin 1024) :
    val_main_v65 (F := Ideal) x0 x1 x2 x3 (ix2 a b) = ((DQ q k v ct (lse q k) (delta q k v ct) a.val b.val : ℝ) : EReal) := by
  pointwise [val_main_v65, val_main_v64, val_main_v63]
  simp only [ds_is h0 h1 h2 h3, fun x => h1 x ⟨b.val / 128, by omega⟩ ⟨b.val % 128, by omega⟩]
  refine (sum_mul_is 16384 (fun x => Gh q k v ct (lse q k) (delta q k v ct) (b.val / 128) x a.val * scl) fun x => lanes k (b.val / 128) x (b.val % 128)).trans (congrArg _ ?_)
  unfold DQ
  rw [Finset.sum_mul, Finset.sum_range]
  refine Finset.sum_congr rfl fun x _ => ?_
  unfold lanes
  rw [Nat.div_add_mod]
  ring
theorem dk_is (h0 : Is3 x0 q) (h1 : Is3 x1 k) (h2 : Is3 x2 v) (h3 : Is3 x3 ct) (a : Fin 16384) (b : Fin 1024) :
    val_main_v66 (F := Ideal) x0 x1 x2 x3 (ix2 a b) = ((DK q k v ct (lse q k) (delta q k v ct) a.val b.val : ℝ) : EReal) := by
  pointwise [val_main_v66, val_main_v62, val_main_v61]
  simp only [ds_is h0 h1 h2 h3, fun x => h0 x ⟨b.val / 128, by omega⟩ ⟨b.val % 128, by omega⟩]
  refine (sum_mul_is 16384 (fun x => Gh q k v ct (lse q k) (delta q k v ct) (b.val / 128) a.val x * scl) fun x => lanes q (b.val / 128) x (b.val % 128)).trans (congrArg _ ?_)
  unfold DK
  rw [Finset.sum_mul, Finset.sum_range]
  refine Finset.sum_congr rfl fun x _ => ?_
  unfold lanes
  rw [Nat.div_add_mod]
  ring
theorem dv_is (h0 : Is3 x0 q) (h1 : Is3 x1 k) (h3 : Is3 x3 ct) (a : Fin 16384) (b : Fin 1024) :
    val_main_v67 (F := Ideal) x0 x1 x3 (ix2 a b) = ((DV q k ct (lse q k) a.val b.val : ℝ) : EReal) := by
  pointwise [val_main_v67, val_main_v45, val_main_v44, val_main_v42]
  simp only [p_is h0 h1, fun x => h3 x ⟨b.val / 128, by omega⟩ ⟨b.val % 128, by omega⟩]
  refine (sum_mul_is 16384 (fun x => lanes ct (b.val / 128) x (b.val % 128)) fun x => prob q k (b.val / 128) x a.val).trans (congrArg _ ?_)
  unfold DV
  rw [Finset.sum_range]
  refine Finset.sum_congr rfl fun x _ => ?_
  unfold Wh lanes
  rw [← W_eq, Nat.div_add_mod]
  exact mul_comm _ _

end Cert.ReferenceIdeal.Hand
-- ==== Proof.Reals.lean ====
module

public import proofs.«01_k».proof.Proof.Host
public import proofs.«01_k».proof.Proof.Gen.Pre_finite
public import Idealize.ShloMosaic.Lib.ReduceAll

@[expose] public section

set_option maxRecDepth 16384

noncomputable section

namespace Cert.KernelIdeal.Hand

open Cert.Pre_finite Cert.Pre_finite.Gen Idealize.ShloMosaic

/-! Arguments without an infinity are arrays of reals. -/

/-- One argument's part of the precondition. -/
def bounded (x : A3) : IVec S_ 1 :=
  Host.reduce IntOp.andi (cmpf .olt (Host.absf x) (broadcastInDim S16384x8x128 ![] Facts.bcast_S_S16384x8x128 (constant S_ .f32 0x7F800000#32)))
    (constantI S_ 1 1#1) Facts.reducesTo_S16384x8x128_S_d0_1_2 Facts.h_S_

instance : Subsingleton S_.Idx := ⟨fun a b => funext fun d => d.elim0⟩

theorem ofBits_pinf : Ideal.ofBits .f32 0x7F800000#32 = ⊤ := by
  simp [Ideal.ofBits, Ideal.ieee]

theorem real_of_lt (y : EReal) (h : Ideal.cmp .olt (max y (-y)) ⊤ = 1#1) : y = ((y.toReal : ℝ) : EReal) := by
  induction y using EReal.rec with
  | bot => simp [Ideal.cmp] at h
  | top => simp [Ideal.cmp] at h
  | coe r => rfl

theorem real_of_bounded (x : A3) (h : bounded x ix0 = 1#1) (i : S16384x8x128.Idx) : x i = (((x i).toReal : ℝ) : EReal) := by
  have e := Host.reduce_andi_all _ _ _ _ _ h i
  refine real_of_lt _ ?_
  rw [← ofBits_pinf]
  exact e

/-- The numbers of an argument. -/
def numbers (x : A3) (a b : ℕ) : ℝ :=
  if h : a < 16384 ∧ b < 1024 then (x (ix3 ⟨a, h.1⟩ ⟨b / 128, by omega⟩ ⟨b % 128, by omega⟩)).toReal else 0

theorem numbers_is (x : A3) (h : bounded x ix0 = 1#1) : Is3 x (numbers x) := by
  intro a g d
  unfold lanes numbers
  rw [dif_pos ⟨a.isLt, by omega⟩]
  have eg : (⟨(128 * g.val + d.val) / 128, by omega⟩ : Fin 8) = g := Fin.ext (by show (128 * g.val + d.val) / 128 = g.val; omega)
  have ed : (⟨(128 * g.val + d.val) % 128, by omega⟩ : Fin 128) = d := Fin.ext (by show (128 * g.val + d.val) % 128 = d.val; omega)
  rw [eg, ed]
  exact real_of_bounded x h _

theorem fn_eq (x0 x1 x2 x3 : A3) : Cert.Pre_finite.fn (F := Ideal) x0 x1 x2 x3 = andi (andi (andi (bounded x0) (bounded x1)) (bounded x2)) (bounded x3) := rfl

theorem and_one {a b : BitVec 1} (h : IntOp.andi a b = 1#1) : a = 1#1 ∧ b = 1#1 := by
  revert a b; decide

theorem reals (x0 x1 x2 x3 : A3) (h : Cert.Pre_finite.fn (F := Ideal) x0 x1 x2 x3 = fun _ => 1#1) :
    Is3 x0 (numbers x0) ∧ Is3 x1 (numbers x1) ∧ Is3 x2 (numbers x2) ∧ Is3 x3 (numbers x3) := by
  rw [fn_eq] at h
  have h3 := and_one (congrFun h ix0)
  have h2 := and_one h3.1
  have h1 := and_one h2.1
  exact ⟨numbers_is _ h1.1, numbers_is _ h1.2, numbers_is _ h2.2, numbers_is _ h3.2⟩

end Cert.KernelIdeal.Hand
-- ==== Proof.Gate.lean ====
module

public import proofs.«01_k».proof.Proof.Gen.KernelGateIdeal.Value
public import proofs.«01_k».proof.Proof.Gen.ReferenceGateIdeal.Read
public import proofs.«01_k».proof.Proof.Gen.Pre_finite_gate
public import proofs.«01_k».proof.Proof.Reals
public import Idealize.ShloMosaic.Lib.Pointwise
public import Idealize.ShloMosaic.Lib.Pipeline.ValueKit.Geometry

@[expose] public section

set_option maxRecDepth 16384

noncomputable section

namespace Cert.KernelGateIdeal.Hand

open Cert.KernelGateIdeal Cert.KernelGateIdeal.Gen Cert.KernelGateIdeal.Value Idealize.ShloMosaic

variable (m : (ℓ : Loc nD τ sig) → Buf (Elt Ideal) ℓ) (c : Dev nD)

abbrev X0 : FVec Ideal S16384x1024 .f32 := m ((c.tc : Thread nD τ).loc main_arg0)
abbrev X1 : FVec Ideal S16384x2816 .bf16 := m ((c.tc : Thread nD τ).loc main_arg1)
abbrev X2 : FVec Ideal S16384x2816 .bf16 := m ((c.tc : Thread nD τ).loc main_arg2)
abbrev X3 : FVec Ideal S2816x1024 .bf16 := m ((c.tc : Thread nD τ).loc main_arg3)

/-- The gate's sigmoid, at any extended real. -/
def sigm (g : EReal) : EReal := Ideal.div 1 (1 + Ideal.exp (-g))

theorem sig_top : sigm ⊤ = 1 := by
  show Ideal.div 1 (1 + 0) = 1
  rw [add_zero]
  unfold Ideal.div
  rw [if_neg one_ne_zero]
  simp
theorem sig_bot : sigm ⊥ = 0 := by
  show Ideal.div 1 (1 + ⊤) = 0
  rw [EReal.add_top_of_ne_bot (by decide)]
  unfold Ideal.div
  simp
theorem sig_coe (x : ℝ) : sigm (x : EReal) = ((1 / (1 + Real.exp (-x)) : ℝ) : EReal) := by
  have h : (1 + Real.exp (-x)) ≠ 0 := by positivity
  show Ideal.div 1 (1 + ((Real.exp (-x) : ℝ) : EReal)) = _
  rw [show (1 : EReal) + ((Real.exp (-x) : ℝ) : EReal) = ((1 + Real.exp (-x) : ℝ) : EReal) by norm_cast]
  unfold Ideal.div
  rw [if_neg (by exact_mod_cast h), ← EReal.coe_inv]
  rw [show (1 : EReal) = ((1 : ℝ) : EReal) from rfl, ← EReal.coe_mul]
  simp

/-- The call takes the sigmoid from the hyperbolic tangent. -/
theorem sig_tanh (g : EReal) : ((1 / 2 : ℝ) : EReal) * Ideal.tanh (((1 / 2 : ℝ) : EReal) * g) + ((1 / 2 : ℝ) : EReal) = sigm g := by
  induction g with
  | bot =>
    rw [EReal.coe_mul_bot_of_pos (by norm_num), sig_bot]
    show ((1 / 2 : ℝ) : EReal) * (-1) + ((1 / 2 : ℝ) : EReal) = 0
    rw [show (-1 : EReal) = ((-1 : ℝ) : EReal) from rfl, ← EReal.coe_mul, ← EReal.coe_add]
    norm_num
  | top =>
    rw [EReal.coe_mul_top_of_pos (by norm_num), sig_top]
    show ((1 / 2 : ℝ) : EReal) * 1 + ((1 / 2 : ℝ) : EReal) = 1
    rw [mul_one, ← EReal.coe_add]
    norm_num
  | coe x =>
    rw [sig_coe, ← EReal.coe_mul]
    show ((1 / 2 : ℝ) : EReal) * ((Real.tanh (1 / 2 * x) : ℝ) : EReal) + ((1 / 2 : ℝ) : EReal) = _
    rw [← EReal.coe_mul, ← EReal.coe_add]
    congr 1
    rw [Real.tanh_eq_sinh_div_cosh, Real.sinh_eq, Real.cosh_eq]
    have h : Real.exp (-x) = Real.exp (-(1 / 2 * x)) * Real.exp (-(1 / 2 * x)) := by rw [← Real.exp_add]; congr 1; ring
    have k : Real.exp (1 / 2 * x) * Real.exp (-(1 / 2 * x)) = 1 := by rw [← Real.exp_add]; simp
    rw [h]
    generalize Real.exp (1 / 2 * x) = y at k
    generalize hz : Real.exp (-(1 / 2 * x)) = z at k
    have hz0 : 0 < z := hz ▸ Real.exp_pos _
    have hy : y = 1 / z := by field_simp; linarith
    rw [hy]
    field_simp
    ring

/-- The gate's gradient, written as the call does and as the reference does. -/
theorem dg_eq (d : ℝ) (g : EReal) : (d : EReal) * (sigm g + g * sigm g * (1 - sigm g)) = (d : EReal) * sigm g + g * (d : EReal) * (sigm g * (1 - sigm g)) := by
  have h1 : (1 : EReal) - 1 = 0 := by rw [show (1 : EReal) = ((1 : ℝ) : EReal) from rfl, ← EReal.coe_sub]; simp
  induction g with
  | bot => rw [sig_bot]; simp
  | top => rw [sig_top, h1]; simp
  | coe x => rw [sig_coe]; norm_cast; ring

theorem du_eq (d g : EReal) : d * (g * sigm g) = g * sigm g * d := mul_comm _ _

theorem half : Ideal.ofBits FTy.f32 0x3F000000#32 = ((1 / 2 : ℝ) : EReal) := by
  simp [Ideal.ofBits, Ideal.ieee, -EReal.coe_mul]; norm_num

theorem pay5_is (x : Vec Ideal S1024x1024 .f32) (w : Vec Ideal S1408x1024 .bf16) (g u : Vec Ideal S1024x1408 .bf16) (a : Fin 1024) (b : Fin 1408) :
    k0_pay5 (F := Ideal) x w g u (ix2 a b) = (∑ k : Fin 1024, x (ix2 a k) * w (ix2 b k)) * u (ix2 a b) * (sigm (g (ix2 a b)) + g (ix2 a b) * sigm (g (ix2 a b)) * (1 - sigm (g (ix2 a b)))) := by
  pointwise [k0_pay5, k0_pay4, k0_pay3, k0_pay2, k0_pay1]
  rw [half, sig_tanh]

theorem pay6_is (x : Vec Ideal S1024x1024 .f32) (w : Vec Ideal S1408x1024 .bf16) (g : Vec Ideal S1024x1408 .bf16) (a : Fin 1024) (b : Fin 1408) :
    k0_pay6 (F := Ideal) x w g (ix2 a b) = (∑ k : Fin 1024, x (ix2 a k) * w (ix2 b k)) * (g (ix2 a b) * sigm (g (ix2 a b))) := by
  pointwise [k0_pay6, k0_pay4, k0_pay3, k0_pay2, k0_pay1]
  rw [half, sig_tanh]

open Cert.ReferenceGateIdeal.Read in
theorem ref10_is (x : FVec Ideal S16384x1024 .f32) (g u : FVec Ideal S16384x2816 .bf16) (w : FVec Ideal S2816x1024 .bf16) (a : Fin 16384) (b : Fin 2816) :
    val_main_v10 (F := Ideal) x g u w (ix2 a b) = (∑ k : Fin 1024, x (ix2 a k) * w (ix2 b k)) * u (ix2 a b) * sigm (g (ix2 a b))
      + g (ix2 a b) * ((∑ k : Fin 1024, x (ix2 a k) * w (ix2 b k)) * u (ix2 a b)) * (sigm (g (ix2 a b)) * (1 - sigm (g (ix2 a b)))) := by
  pointwise [val_main_v10, val_main_v9, val_main_call1_v2, val_main_call1_v1, val_main_call1_v0, val_main_v8, val_main_v6, val_main_v3_1, val_main_call0_v7, val_main_call0_v6, val_main_call0_cst_1, val_main_v3_2,
    val_main_call0_v4, val_main_call0_cst_0, val_main_call0_v3, val_main_call0_v2, val_main_call0_cst, val_main_call0_v1, val_main_call0_v0, val_main_v2, val_main_v1, val_main_v0]
  rfl

open Cert.ReferenceGateIdeal.Read in
theorem ref11_is (x : FVec Ideal S16384x1024 .f32) (g : FVec Ideal S16384x2816 .bf16) (w : FVec Ideal S2816x1024 .bf16) (a : Fin 16384) (b : Fin 2816) :
    val_main_v11 (F := Ideal) x g w (ix2 a b) = g (ix2 a b) * sigm (g (ix2 a b)) * ∑ k : Fin 1024, x (ix2 a k) * w (ix2 b k) := by
  pointwise [val_main_v11, val_main_v7, val_main_v3_0, val_main_v6, val_main_v3_2,
    val_main_call0_v4, val_main_call0_cst_0, val_main_call0_v3, val_main_call0_v2, val_main_call0_cst, val_main_call0_v1, val_main_call0_v0, val_main_v2, val_main_v1, val_main_v0]
  rfl

theorem ix_0 : ∀ t : Fin grid0.N, win0_0.index t = ![t.val % 16, 0] := by decide +kernel
theorem ix_1 : ∀ t : Fin grid0.N, win0_1.index t = ![t.val / 16, 0] := by decide +kernel
theorem ix_2 : ∀ t : Fin grid0.N, win0_2.index t = ![t.val % 16, t.val / 16] := by decide +kernel
theorem ix_3 : ∀ t : Fin grid0.N, win0_3.index t = ![t.val % 16, t.val / 16] := by decide +kernel
theorem ix_4 : ∀ t : Fin grid0.N, win0_4.index t = ![t.val % 16, t.val / 16] := by decide +kernel
theorem ix_5 : ∀ t : Fin grid0.N, win0_5.index t = ![t.val % 16, t.val / 16] := by decide +kernel

theorem blk_0 (t : Fin cfg0.N) (a k : Fin 1024) (r : Fin 16384) (hr : r.val = 1024 * (t.val % 16) + a.val) :
    iblk m c 0 t (ix2 (n0 := 1024) (n1 := 1024) a k) = X0 m c (ix2 r k) := by
  have e : (win0_0.blk t).view.emb (ix2 (n0 := 1024) (n1 := 1024) a k) = ix2 (n0 := 16384) (n1 := 1024) r k := by
    blk_ext [ix_0]
  have d : iblk m c 0 t (ix2 (n0 := 1024) (n1 := 1024) a k) = X0 m c ((win0_0.blk t).view.emb (ix2 (n0 := 1024) (n1 := 1024) a k)) := by
    show V m c main_arg0 _ = _
    rw [V_main_arg0]
  rw [d, e]
theorem blk_1 (t : Fin cfg0.N) (b : Fin 1408) (k : Fin 1024) (s : Fin 2816) (hs : s.val = 1408 * (t.val / 16) + b.val) :
    iblk m c 1 t (ix2 (n0 := 1408) (n1 := 1024) b k) = X3 m c (ix2 s k) := by
  have e : (win0_1.blk t).view.emb (ix2 (n0 := 1408) (n1 := 1024) b k) = ix2 (n0 := 2816) (n1 := 1024) s k := by
    blk_ext [ix_1]
  have d : iblk m c 1 t (ix2 (n0 := 1408) (n1 := 1024) b k) = X3 m c ((win0_1.blk t).view.emb (ix2 (n0 := 1408) (n1 := 1024) b k)) := by
    show V m c main_arg3 _ = _
    rw [V_main_arg3]
  rw [d, e]
theorem blk_2 (t : Fin cfg0.N) (a : Fin 1024) (b : Fin 1408) (r : Fin 16384) (s : Fin 2816) (hr : r.val = 1024 * (t.val % 16) + a.val) (hs : s.val = 1408 * (t.val / 16) + b.val) :
    iblk m c 2 t (ix2 (n0 := 1024) (n1 := 1408) a b) = X1 m c (ix2 r s) := by
  have e : (win0_2.blk t).view.emb (ix2 (n0 := 1024) (n1 := 1408) a b) = ix2 (n0 := 16384) (n1 := 2816) r s := by
    blk_ext [ix_2]
  have d : iblk m c 2 t (ix2 (n0 := 1024) (n1 := 1408) a b) = X1 m c ((win0_2.blk t).view.emb (ix2 (n0 := 1024) (n1 := 1408) a b)) := by
    show V m c main_arg1 _ = _
    rw [V_main_arg1]
  rw [d, e]
theorem blk_3 (t : Fin cfg0.N) (a : Fin 1024) (b : Fin 1408) (r : Fin 16384) (s : Fin 2816) (hr : r.val = 1024 * (t.val % 16) + a.val) (hs : s.val = 1408 * (t.val / 16) + b.val) :
    iblk m c 3 t (ix2 (n0 := 1024) (n1 := 1408) a b) = X2 m c (ix2 r s) := by
  have e : (win0_3.blk t).view.emb (ix2 (n0 := 1024) (n1 := 1408) a b) = ix2 (n0 := 16384) (n1 := 2816) r s := by
    blk_ext [ix_3]
  have d : iblk m c 3 t (ix2 (n0 := 1024) (n1 := 1408) a b) = X2 m c ((win0_3.blk t).view.emb (ix2 (n0 := 1024) (n1 := 1408) a b)) := by
    show V m c main_arg2 _ = _
    rw [V_main_arg2]
  rw [d, e]

theorem hz : (![0, 0] : Fin 2 → Nat) = fun _ => 0 := funext fun a => by fin_cases a <;> rfl

theorem out4_is (x0 : Vec Ideal S1024x1024 .f32) (x1 : Vec Ideal S1408x1024 .bf16) (x2 x3 : Vec Ideal S1024x1408 .bf16) : out0_4 x0 x1 x2 x3 = k0_pay5 x0 x1 x2 x3 := by
  unfold out0_4 r0_0 r0_1 r0_2
  rw [View.canon_unit_zero hz, View.ld_unit_zero (S := S1024x1024) hz, View.ld_unit_zero (S := S1408x1024) hz, View.ld_unit_zero (S := S1024x1408) hz, View.ld_unit_zero (S := S1024x1408) hz]
theorem out5_is (x0 : Vec Ideal S1024x1024 .f32) (x1 : Vec Ideal S1408x1024 .bf16) (x2 x3 : Vec Ideal S1024x1408 .bf16) : out0_5 x0 x1 x2 x3 = k0_pay6 x0 x1 x2 := by
  unfold out0_5 r0_0 r0_1 r0_2
  rw [View.canon_unit_zero hz, View.ld_unit_zero (S := S1024x1024) hz, View.ld_unit_zero (S := S1408x1024) hz, View.ld_unit_zero (S := S1024x1408) hz]

/-! Every entry of an output lies in the block of some grid point. -/

theorem mem_blk4 (t : Fin cfg0.N) (i : S16384x2816.Idx) :
    i ∈ ((cfg0.win 4).blk t).view.set ↔ ∀ a : Fin 2, win0_4.index t a * S1024x1408.size a ≤ (i a).val ∧ (i a).val < win0_4.index t a * S1024x1408.size a + S1024x1408.size a := by
  show i ∈ ((View.whole main_v0_0).slice (win0_4.rect t)).set ↔ _
  rw [View.set_slice_whole, Rect.mem_set_unit]
  exact Iff.rfl
theorem cover4 (i : S16384x2816.Idx) : ∃ t : Fin cfg0.N, (cfg0.win 4).flush t = true ∧ i ∈ ((cfg0.win 4).blk t).view.set := by
  have h0 : (i 0).val < 16384 := (i 0).isLt
  have h1 : (i 1).val < 2816 := (i 1).isLt
  refine ⟨⟨16 * ((i 1).val / 1408) + (i 0).val / 1024, by rw [show cfg0.N = 32 from rfl]; omega⟩, flush0_4 _, ?_⟩
  rw [mem_blk4]
  intro a
  match a with
  | ⟨0, _⟩ => show win0_4.index _ 0 * 1024 ≤ (i 0).val ∧ (i 0).val < win0_4.index _ 0 * 1024 + 1024; rw [ix_4]; dsimp; omega
  | ⟨1, _⟩ => show win0_4.index _ 1 * 1408 ≤ (i 1).val ∧ (i 1).val < win0_4.index _ 1 * 1408 + 1408; rw [ix_4]; dsimp; omega
theorem mem_blk5 (t : Fin cfg0.N) (i : S16384x2816.Idx) :
    i ∈ ((cfg0.win 5).blk t).view.set ↔ ∀ a : Fin 2, win0_5.index t a * S1024x1408.size a ≤ (i a).val ∧ (i a).val < win0_5.index t a * S1024x1408.size a + S1024x1408.size a := by
  show i ∈ ((View.whole main_v0_1).slice (win0_5.rect t)).set ↔ _
  rw [View.set_slice_whole, Rect.mem_set_unit]
  exact Iff.rfl
theorem cover5 (i : S16384x2816.Idx) : ∃ t : Fin cfg0.N, (cfg0.win 5).flush t = true ∧ i ∈ ((cfg0.win 5).blk t).view.set := by
  have h0 : (i 0).val < 16384 := (i 0).isLt
  have h1 : (i 1).val < 2816 := (i 1).isLt
  refine ⟨⟨16 * ((i 1).val / 1408) + (i 0).val / 1024, by rw [show cfg0.N = 32 from rfl]; omega⟩, flush0_5 _, ?_⟩
  rw [mem_blk5]
  intro a
  match a with
  | ⟨0, _⟩ => show win0_5.index _ 0 * 1024 ≤ (i 0).val ∧ (i 0).val < win0_5.index _ 0 * 1024 + 1024; rw [ix_5]; dsimp; omega
  | ⟨1, _⟩ => show win0_5.index _ 1 * 1408 ≤ (i 1).val ∧ (i 1).val < win0_5.index _ 1 * 1408 + 1408; rw [ix_5]; dsimp; omega

/-- Every entry of an array is a real number. -/
def Real2 {M N : ℕ} (x : (⟨2, ![M, N]⟩ : Shape).Idx → EReal) : Prop := ∀ i, ∃ r : ℝ, x i = (r : EReal)

theorem real_sum {ι : Type} (s : Finset ι) (f : ι → EReal) (h : ∀ i, ∃ r : ℝ, f i = (r : EReal)) : ∃ r : ℝ, ∑ i ∈ s, f i = (r : EReal) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

variable {m : (ℓ : Loc nD τ sig) → Buf (Elt Ideal) ℓ} {c : Dev nD}

/-- The gate's gradient. -/
theorem gate_eq (h0 : Real2 (X0 m c)) (h2 : Real2 (X2 m c)) (h3 : Real2 (X3 m c)) :
    (dats m 0 c).arrAt 4 cfg0.N = Cert.ReferenceGateIdeal.Read.val_main_v10 (F := Ideal) (X0 m c) (X1 m c) (X2 m c) (X3 m c) := by
  refine (dats m 0 c).arrAt_eq_of_cover 4 _ (fun t _ => ?_) (fun i => cover4 i)
  have ht : t.val < 32 := t.isLt
  rw [flushed4]
  funext y
  obtain ⟨a, b, rfl⟩ : ∃ (a : Fin 1024) (b : Fin 1408), y = ix2 a b := ⟨y 0, y 1, eq_ix2 y⟩
  have e : (win0_4.blk t).view.emb (ix2 (n0 := 1024) (n1 := 1408) a b) = ix2 (n0 := 16384) (n1 := 2816) ⟨1024 * (t.val % 16) + a.val, by omega⟩ ⟨1408 * (t.val / 16) + b.val, by omega⟩ := by
    blk_ext [ix_4]
  show out0_4 (iblk m c 0 t) (iblk m c 1 t) (iblk m c 2 t) (iblk m c 3 t) (ix2 (n0 := 1024) (n1 := 1408) a b)
    = Cert.ReferenceGateIdeal.Read.val_main_v10 (F := Ideal) (X0 m c) (X1 m c) (X2 m c) (X3 m c) ((win0_4.blk t).view.emb (ix2 (n0 := 1024) (n1 := 1408) a b))
  rw [e, ref10_is, out4_is, pay5_is, blk_2 m c t a b ⟨1024 * (t.val % 16) + a.val, by omega⟩ ⟨1408 * (t.val / 16) + b.val, by omega⟩ rfl rfl, blk_3 m c t a b ⟨1024 * (t.val % 16) + a.val, by omega⟩ ⟨1408 * (t.val / 16) + b.val, by omega⟩ rfl rfl]
  simp only [fun k => blk_0 m c t a k ⟨1024 * (t.val % 16) + a.val, by omega⟩ rfl, fun k => blk_1 m c t b k ⟨1408 * (t.val / 16) + b.val, by omega⟩ rfl]
  obtain ⟨p, hp⟩ := real_sum Finset.univ (fun k : Fin 1024 => X0 m c (ix2 ⟨1024 * (t.val % 16) + a.val, by omega⟩ k) * X3 m c (ix2 ⟨1408 * (t.val / 16) + b.val, by omega⟩ k)) (fun k => by
    obtain ⟨p, hp⟩ := h0 (ix2 ⟨1024 * (t.val % 16) + a.val, by omega⟩ k)
    obtain ⟨q, hq⟩ := h3 (ix2 ⟨1408 * (t.val / 16) + b.val, by omega⟩ k)
    exact ⟨p * q, by rw [hp, hq, EReal.coe_mul]⟩)
  obtain ⟨q, hq⟩ := h2 (ix2 ⟨1024 * (t.val % 16) + a.val, by omega⟩ ⟨1408 * (t.val / 16) + b.val, by omega⟩)
  rw [hp, hq, ← EReal.coe_mul]
  exact dg_eq _ _

/-- The other factor's gradient. -/
theorem up_eq : (dats m 0 c).arrAt 5 cfg0.N = Cert.ReferenceGateIdeal.Read.val_main_v11 (F := Ideal) (X0 m c) (X1 m c) (X3 m c) := by
  refine (dats m 0 c).arrAt_eq_of_cover 5 _ (fun t _ => ?_) (fun i => cover5 i)
  have ht : t.val < 32 := t.isLt
  rw [flushed5]
  funext y
  obtain ⟨a, b, rfl⟩ : ∃ (a : Fin 1024) (b : Fin 1408), y = ix2 a b := ⟨y 0, y 1, eq_ix2 y⟩
  have e : (win0_5.blk t).view.emb (ix2 (n0 := 1024) (n1 := 1408) a b) = ix2 (n0 := 16384) (n1 := 2816) ⟨1024 * (t.val % 16) + a.val, by omega⟩ ⟨1408 * (t.val / 16) + b.val, by omega⟩ := by
    blk_ext [ix_5]
  show out0_5 (iblk m c 0 t) (iblk m c 1 t) (iblk m c 2 t) (iblk m c 3 t) (ix2 (n0 := 1024) (n1 := 1408) a b)
    = Cert.ReferenceGateIdeal.Read.val_main_v11 (F := Ideal) (X0 m c) (X1 m c) (X3 m c) ((win0_5.blk t).view.emb (ix2 (n0 := 1024) (n1 := 1408) a b))
  rw [e, ref11_is, out5_is, pay6_is, blk_2 m c t a b ⟨1024 * (t.val % 16) + a.val, by omega⟩ ⟨1408 * (t.val / 16) + b.val, by omega⟩ rfl rfl]
  simp only [fun k => blk_0 m c t a k ⟨1024 * (t.val % 16) + a.val, by omega⟩ rfl, fun k => blk_1 m c t b k ⟨1408 * (t.val / 16) + b.val, by omega⟩ rfl]
  exact du_eq _ _

open Cert.Pre_finite_gate Cert.Pre_finite_gate.Gen in
/-- What the precondition says. -/
theorem reals {x0 : FVec Ideal Cert.KernelGateIdeal.S16384x1024 .f32} {x1 x2 : FVec Ideal Cert.KernelGateIdeal.S16384x2816 .bf16} {x3 : FVec Ideal Cert.KernelGateIdeal.S2816x1024 .bf16}
    (h : Cert.Pre_finite_gate.fn (F := Ideal) x0 x1 x2 x3 = fun _ => 1#1) : Real2 x0 ∧ Real2 x2 ∧ Real2 x3 := by
  have e := congrFun h ix0
  have h2 := Cert.KernelIdeal.Hand.and_one e
  have h1 := Cert.KernelIdeal.Hand.and_one h2.1
  refine ⟨fun i => ⟨(x0 i).toReal, Cert.KernelIdeal.Hand.real_of_lt _ ?_⟩, fun i => ⟨(x2 i).toReal, Cert.KernelIdeal.Hand.real_of_lt _ ?_⟩,
    fun i => ⟨(x3 i).toReal, Cert.KernelIdeal.Hand.real_of_lt _ ?_⟩⟩
  · rw [← Cert.KernelIdeal.Hand.ofBits_pinf]
    exact Host.reduce_andi_all _ _ _ _ _ h1.1 i
  · rw [← Cert.KernelIdeal.Hand.ofBits_pinf]
    exact Host.reduce_andi_all _ _ _ _ _ h1.2 i
  · rw [← Cert.KernelIdeal.Hand.ofBits_pinf]
    exact Host.reduce_andi_all _ _ _ _ _ h2.2 i

end Cert.KernelGateIdeal.Hand

end
-- ==== Proof.Down.lean ====
module

public import proofs.«01_k».proof.Proof.Gen.KernelDownIdeal.Value
public import proofs.«01_k».proof.Proof.Gen.ReferenceDownIdeal.Read
public import Idealize.ShloMosaic.Lib.Pointwise
public import Idealize.ShloMosaic.Lib.Pipeline.ValueKit.Geometry

@[expose] public section

set_option maxRecDepth 16384

noncomputable section

namespace Cert.KernelDownIdeal.Hand

open Cert.KernelDownIdeal Cert.KernelDownIdeal.Gen Cert.KernelDownIdeal.Value Idealize.ShloMosaic

/-- A sum taken piece by piece. -/
theorem sum_pieces {β : Type} [AddCommMonoid β] (f : ℕ → β) (L : ℕ) : ∀ n : ℕ, ∑ j ∈ Finset.range n, ∑ k ∈ Finset.range L, f (L * j + k) = ∑ i ∈ Finset.range (L * n), f i
  | 0 => by simp
  | n + 1 => by rw [Finset.sum_range_succ, sum_pieces f L n, Nat.mul_succ, Finset.sum_range_add]

/-- A table's entry, 0 outside the table. -/
def ext {M N : ℕ} (x : (⟨2, ![M, N]⟩ : Shape).Idx → EReal) (a b : ℕ) : EReal :=
  if h : a < M ∧ b < N then x (ix2 ⟨a, h.1⟩ ⟨b, h.2⟩) else 0

theorem ext_eq {M N : ℕ} (x : (⟨2, ![M, N]⟩ : Shape).Idx → EReal) (a : Fin M) (b : Fin N) : x (ix2 a b) = ext x a.val b.val := by
  unfold ext; rw [dif_pos ⟨a.isLt, b.isLt⟩]

variable (m : (ℓ : Loc nD τ sig) → Buf (Elt Ideal) ℓ) (c : Dev nD)

abbrev X0 : FVec Ideal S16384x2816 .bf16 := m ((c.tc : Thread nD τ).loc main_arg0)
abbrev X1 : FVec Ideal S16384x1024 .f32 := m ((c.tc : Thread nD τ).loc main_arg1)

theorem pay_is (acc : FVec Ideal S1408x1024 .f32) (x : FVec Ideal S2048x1408 .bf16) (y : FVec Ideal S2048x1024 .f32) (a : Fin 1408) (b : Fin 1024) :
    k0_pay2 acc x y (ix2 a b) = acc (ix2 a b) + ∑ k : Fin 2048, x (ix2 k a) * y (ix2 k b) := by
  pointwise [k0_pay2]

theorem ix_0 : ∀ t : Fin grid0.N, win0_0.index t = ![t.val % 8, t.val / 8] := by decide +kernel
theorem ix_1 : ∀ t : Fin grid0.N, win0_1.index t = ![t.val % 8, 0] := by decide +kernel

theorem blk_0 (t : Fin cfg0.N) (k : Fin 2048) (a : Fin 1408) :
    iblk m c 0 t (ix2 (n0 := 2048) (n1 := 1408) k a) = ext (X0 m c) (2048 * (t.val % 8) + k.val) (1408 * (t.val / 8) + a.val) := by
  have ht : t.val < 16 := t.isLt
  have e : (win0_0.blk t).view.emb (ix2 (n0 := 2048) (n1 := 1408) k a) = ix2 (n0 := 16384) (n1 := 2816) ⟨2048 * (t.val % 8) + k.val, by omega⟩ ⟨1408 * (t.val / 8) + a.val, by omega⟩ := by
    blk_ext [ix_0]
  have d : iblk m c 0 t (ix2 (n0 := 2048) (n1 := 1408) k a) = X0 m c ((win0_0.blk t).view.emb (ix2 (n0 := 2048) (n1 := 1408) k a)) := by
    show V m c main_arg0 _ = _
    rw [V_main_arg0]
  rw [d, e]
  exact ext_eq (X0 m c) _ _
theorem blk_1 (t : Fin cfg0.N) (k : Fin 2048) (b : Fin 1024) :
    iblk m c 1 t (ix2 (n0 := 2048) (n1 := 1024) k b) = ext (X1 m c) (2048 * (t.val % 8) + k.val) b.val := by
  have ht : t.val < 16 := t.isLt
  have e : (win0_1.blk t).view.emb (ix2 (n0 := 2048) (n1 := 1024) k b) = ix2 (n0 := 16384) (n1 := 1024) ⟨2048 * (t.val % 8) + k.val, by omega⟩ b := by
    blk_ext [ix_1]
  have d : iblk m c 1 t (ix2 (n0 := 2048) (n1 := 1024) k b) = X1 m c ((win0_1.blk t).view.emb (ix2 (n0 := 2048) (n1 := 1024) k b)) := by
    show V m c main_arg1 _ = _
    rw [V_main_arg1]
  rw [d, e]
  exact ext_eq (X1 m c) _ _

/-- What grid point `n` adds. -/
def part (n : ℕ) (i : S1408x1024.Idx) : EReal :=
  ∑ k ∈ Finset.range 2048, ext (X0 m c) (2048 * (n % 8) + k) (1408 * (n / 8) + (i 0).val) * ext (X1 m c) (2048 * (n % 8) + k) (i 1).val

theorem step_is (n : ℕ) (h : n < cfg0.N) (acc : FVec Ideal S1408x1024 .f32) (i : S1408x1024.Idx) :
    k0_pay2 acc (iblk m c 0 ⟨n, h⟩) (iblk m c 1 ⟨n, h⟩) i = acc i + part m c n i := by
  obtain ⟨a, b, rfl⟩ : ∃ (a : Fin 1408) (b : Fin 1024), i = ix2 a b := ⟨i 0, i 1, eq_ix2 i⟩
  rw [pay_is]
  congr 1
  unfold part
  rw [Finset.sum_range]
  refine Finset.sum_congr rfl fun k _ => ?_
  rw [blk_0, blk_1]
  rfl

/-- The call's array: the whole sum. -/
theorem value (a : Fin 2816) (b : Fin 1024) : G2 m c (ix2 a b) = ∑ s : Fin 16384, X0 m c (ix2 s a) * X1 m c (ix2 s b) := by
  have hN : cfg0.N = 16 := rfl
  have hr : run2Of (ix2 a b) = a.val / 1408 := by
    show 1 * (a.val / 1408 - 0) + 1 * (b.val / 1024 - 0) = _
    omega
  unfold G2
  rw [dif_pos (by rw [hr, hN]; omega)]
  rw [Pipeline.accAt_add_apply (reset2 m c) (step2 m c) (fun _ => 0) (part m c) (8 * run2Of (ix2 a b)) 7
    (fun h i => by
      unfold reset2
      rw [step_is]
      congr 1
      obtain ⟨a, b, rfl⟩ : ∃ (a : Fin 1408) (b : Fin 1024), i = ix2 a b := ⟨i 0, i 1, eq_ix2 i⟩
      pointwise [k0_pay1])
    (fun n h acc i _ _ => step_is m c n h acc i) 7 le_rfl _ _, zero_add]
  have hp : ∀ s ∈ Finset.range 8, part m c (8 * run2Of (ix2 a b) + s) (loc2Of (ix2 a b))
      = ∑ k ∈ Finset.range 2048, (fun s => ext (X0 m c) s a.val * ext (X1 m c) s b.val) (2048 * s + k) := by
    intro s hs
    have hs : s < 8 := Finset.mem_range.1 hs
    unfold part
    refine Finset.sum_congr rfl fun k _ => ?_
    have e1 : (8 * run2Of (ix2 a b) + s) % 8 = s := by omega
    have e2 : 1408 * ((8 * run2Of (ix2 a b) + s) / 8) + (loc2Of (ix2 a b) 0).val = a.val := by
      rw [hr]; show 1408 * ((8 * (a.val / 1408) + s) / 8) + a.val % 1408 = _; omega
    have e3 : (loc2Of (ix2 a b) 1).val = b.val := Nat.mod_eq_of_lt b.isLt
    rw [e1, e2, e3]
  refine (Finset.sum_congr rfl hp).trans ((sum_pieces (fun s => ext (X0 m c) s a.val * ext (X1 m c) s b.val) 2048 8).trans ?_)
  rw [Finset.sum_range]
  exact Finset.sum_congr rfl fun s _ => by rw [ext_eq (X0 m c) s a, ext_eq (X1 m c) s b]

/-- The reference's array: the same sum. -/
theorem reference (x0 : FVec Ideal S16384x2816 .bf16) (x1 : FVec Ideal S16384x1024 .f32) (a : Fin 2816) (b : Fin 1024) :
    Cert.ReferenceDownIdeal.Read.val_main_v4 (F := Ideal) x0 x1 (ix2 a b) = ∑ s : Fin 16384, x0 (ix2 s a) * x1 (ix2 s b) := by
  pointwise [Cert.ReferenceDownIdeal.Read.val_main_v4, Cert.ReferenceDownIdeal.Read.val_main_v3, Cert.ReferenceDownIdeal.Read.val_main_v0]
  exact Finset.sum_congr rfl fun s _ => mul_comm _ _

theorem equal : Cert.ReferenceDownIdeal.Read.val_main_v4 (F := Ideal) (X0 m c) (X1 m c) = G2 m c :=
  funext fun i => by rw [eq_ix2 i]; exact (reference _ _ _ _).trans (value m c _ _).symm

end Cert.KernelDownIdeal.Hand

end
-- ==== Proof.Up.lean ====
module

public import proofs.«01_k».proof.Proof.Gen.KernelUpIdeal.Value
public import proofs.«01_k».proof.Proof.Gen.ReferenceUpIdeal.Read
public import proofs.«01_k».proof.Proof.Down

@[expose] public section

set_option maxRecDepth 16384

noncomputable section

namespace Cert.KernelUpIdeal.Hand

open Cert.KernelUpIdeal Cert.KernelUpIdeal.Gen Cert.KernelUpIdeal.Value Idealize.ShloMosaic
open Cert.KernelDownIdeal.Hand (ext ext_eq sum_pieces)

variable (m : (ℓ : Loc nD τ sig) → Buf (Elt Ideal) ℓ) (c : Dev nD)

abbrev X0 : FVec Ideal S16384x1024 .bf16 := m ((c.tc : Thread nD τ).loc main_arg0)
abbrev X1 : FVec Ideal S16384x2816 .bf16 := m ((c.tc : Thread nD τ).loc main_arg1)
abbrev X2 : FVec Ideal S16384x2816 .bf16 := m ((c.tc : Thread nD τ).loc main_arg2)

/-! What a grid point leaves in the output's block. -/

theorem hz3 : (![0, 0, 0] : Fin 3 → Nat) = fun _ => 0 := funext fun a => by fin_cases a <;> rfl
theorem hz2 : (![0, 0] : Fin 2 → Nat) = fun _ => 0 := funext fun a => by fin_cases a <;> rfl

theorem left_A (c : Dev nD) (i : grid0.Coords) (a2 : Memref sig .tc .vmem S2048x1024 .bf16) (h2 : a2.IsWhole) (a3 : Memref sig .tc .vmem S2048x1408 .bf16) (h3 : a3.IsWhole) (a4 : Memref sig .tc .vmem S2048x1408 .bf16) (h4 : a4.IsWhole) (a5 : Memref sig .tc .vmem S1x1024x1408 .f32) (h5 : a5.IsWhole) (hc0 : cond0_0 i) (hc1 : cond0_1 i) (hc2 : ¬cond0_2 i)
    (x0 : Vec Ideal S2048x1024 .bf16) (x1 x2 : Vec Ideal S2048x1408 .bf16) :
    out0_A_3 c i a2 h2 a3 h3 a4 h4 a5 h5 hc0 hc1 hc2 x0 x1 x2 = k0_pay3 x0 (k0_pay2 (F := Ideal)) x1 := by
  unfold out0_A_3
  rw [View.read_writes_eq_canon _ _ _ (cover0_A_3 c i a2 h2 a3 h3 a4 h4 a5 h5 hc0 hc1 hc2 x0 x1 x2)]
  unfold kernelRun0_A
  dsimp only
  try sl_unfold_words
  rw [View.canon_cons_unit_zero (S := S1x1024x1408) hz3, View.readCov_unit_zero (S := S1x1024x1408) _ hz3]
  simp only [View.readAt_eq_ld, h2.read_unread, h3.read_unread, h4.read_unread, h5.read_unread, View.ld_unit_zero (S := S1x1024x1408) hz3, View.ld_unit_zero (S := S2048x1024) hz2, View.ld_unit_zero (S := S2048x1408) hz2, shapeCast_self]

theorem left_B (c : Dev nD) (i : grid0.Coords) (a2 : Memref sig .tc .vmem S2048x1024 .bf16) (h2 : a2.IsWhole) (a3 : Memref sig .tc .vmem S2048x1408 .bf16) (h3 : a3.IsWhole) (a4 : Memref sig .tc .vmem S2048x1408 .bf16) (h4 : a4.IsWhole) (a5 : Memref sig .tc .vmem S1x1024x1408 .f32) (h5 : a5.IsWhole) (hc0 : ¬cond0_0 i) (hc1 : cond0_1 i) (hc2 : ¬cond0_2 i)
    (x0 : Vec Ideal S2048x1024 .bf16) (x1 x2 : Vec Ideal S2048x1408 .bf16) (y : Vec Ideal S1x1024x1408 .f32) :
    out0_B_3 c i a2 h2 a3 h3 a4 h4 a5 h5 hc0 hc1 hc2 x0 x1 x2 y = k0_pay3 x0 y x1 := by
  unfold out0_B_3
  rw [View.read_writes_eq_canon _ _ _ (cover0_B_3 c i a2 h2 a3 h3 a4 h4 a5 h5 hc0 hc1 hc2 x0 x1 x2 y)]
  unfold kernelRun0_B
  dsimp only
  try sl_unfold_words
  rw [View.canon_unit_zero hz3]
  simp only [View.readAt_eq_ld, h2.read_unread, h3.read_unread, h4.read_unread, h5.read_unread, View.ld_unit_zero (S := S1x1024x1408) hz3, View.ld_unit_zero (S := S2048x1024) hz2, View.ld_unit_zero (S := S2048x1408) hz2, shapeCast_self]

theorem left_C (c : Dev nD) (i : grid0.Coords) (a2 : Memref sig .tc .vmem S2048x1024 .bf16) (h2 : a2.IsWhole) (a3 : Memref sig .tc .vmem S2048x1408 .bf16) (h3 : a3.IsWhole) (a4 : Memref sig .tc .vmem S2048x1408 .bf16) (h4 : a4.IsWhole) (a5 : Memref sig .tc .vmem S1x1024x1408 .f32) (h5 : a5.IsWhole) (hc0 : cond0_0 i) (hc1 : ¬cond0_1 i) (hc2 : cond0_2 i)
    (x0 : Vec Ideal S2048x1024 .bf16) (x1 x2 : Vec Ideal S2048x1408 .bf16) :
    out0_C_3 c i a2 h2 a3 h3 a4 h4 a5 h5 hc0 hc1 hc2 x0 x1 x2 = k0_pay1 x0 (k0_pay2 (F := Ideal)) x2 := by
  unfold out0_C_3
  rw [View.read_writes_eq_canon _ _ _ (cover0_C_3 c i a2 h2 a3 h3 a4 h4 a5 h5 hc0 hc1 hc2 x0 x1 x2)]
  unfold kernelRun0_C
  dsimp only
  try sl_unfold_words
  rw [View.canon_cons_unit_zero (S := S1x1024x1408) hz3, View.readCov_unit_zero (S := S1x1024x1408) _ hz3]
  simp only [View.readAt_eq_ld, h2.read_unread, h3.read_unread, h4.read_unread, h5.read_unread, View.ld_unit_zero (S := S1x1024x1408) hz3, View.ld_unit_zero (S := S2048x1024) hz2, View.ld_unit_zero (S := S2048x1408) hz2, shapeCast_self]

theorem left_D (c : Dev nD) (i : grid0.Coords) (a2 : Memref sig .tc .vmem S2048x1024 .bf16) (h2 : a2.IsWhole) (a3 : Memref sig .tc .vmem S2048x1408 .bf16) (h3 : a3.IsWhole) (a4 : Memref sig .tc .vmem S2048x1408 .bf16) (h4 : a4.IsWhole) (a5 : Memref sig .tc .vmem S1x1024x1408 .f32) (h5 : a5.IsWhole) (hc0 : ¬cond0_0 i) (hc1 : ¬cond0_1 i) (hc2 : cond0_2 i)
    (x0 : Vec Ideal S2048x1024 .bf16) (x1 x2 : Vec Ideal S2048x1408 .bf16) (y : Vec Ideal S1x1024x1408 .f32) :
    out0_D_3 c i a2 h2 a3 h3 a4 h4 a5 h5 hc0 hc1 hc2 x0 x1 x2 y = k0_pay1 x0 y x2 := by
  unfold out0_D_3
  rw [View.read_writes_eq_canon _ _ _ (cover0_D_3 c i a2 h2 a3 h3 a4 h4 a5 h5 hc0 hc1 hc2 x0 x1 x2 y)]
  unfold kernelRun0_D
  dsimp only
  try sl_unfold_words
  rw [View.canon_unit_zero hz3]
  simp only [View.readAt_eq_ld, h2.read_unread, h3.read_unread, h4.read_unread, h5.read_unread, View.ld_unit_zero (S := S1x1024x1408) hz3, View.ld_unit_zero (S := S2048x1024) hz2, View.ld_unit_zero (S := S2048x1408) hz2, shapeCast_self]

theorem pay1_is (x : Vec Ideal S2048x1024 .bf16) (y : Vec Ideal S1x1024x1408 .f32) (w : Vec Ideal S2048x1408 .bf16) (z : Fin 1) (a : Fin 1024) (b : Fin 1408) :
    k0_pay1 (F := Ideal) x y w (ix3 z a b) = y (ix3 z a b) + ∑ k : Fin 2048, x (ix2 k a) * w (ix2 k b) := by
  obtain rfl : z = 0 := Subsingleton.elim _ _
  pointwise [k0_pay1]

theorem pay3_is (x : Vec Ideal S2048x1024 .bf16) (y : Vec Ideal S1x1024x1408 .f32) (w : Vec Ideal S2048x1408 .bf16) (z : Fin 1) (a : Fin 1024) (b : Fin 1408) :
    k0_pay3 (F := Ideal) x y w (ix3 z a b) = y (ix3 z a b) + ∑ k : Fin 2048, x (ix2 k a) * w (ix2 k b) := by
  obtain rfl : z = 0 := Subsingleton.elim _ _
  pointwise [k0_pay3]

theorem pay2_is (z : Fin 1) (a : Fin 1024) (b : Fin 1408) : k0_pay2 (F := Ideal) (ix3 z a b) = 0 := by
  pointwise [k0_pay2]

theorem ix_0 : ∀ t : Fin grid0.N, win0_0.index t = ![t.val % 8, 0] := by decide +kernel
theorem ix_1 : ∀ t : Fin grid0.N, t.val < 16 → win0_1.index t = ![t.val % 8, t.val / 8] := by decide +kernel
theorem ix_2 : ∀ t : Fin grid0.N, 16 ≤ t.val → win0_2.index t = ![t.val % 8, t.val / 8 - 2] := by decide +kernel
theorem ix_3 : ∀ t : Fin grid0.N, win0_3.index t = ![t.val / 8, 0, 0] := by decide +kernel

theorem blk_0 (t : Fin cfg0.N) (k : Fin 2048) (a : Fin 1024) :
    iblk m c 0 t (ix2 (n0 := 2048) (n1 := 1024) k a) = ext (X0 m c) (2048 * (t.val % 8) + k.val) a.val := by
  have ht : t.val < 32 := t.isLt
  have e : (win0_0.blk t).view.emb (ix2 (n0 := 2048) (n1 := 1024) k a) = ix2 (n0 := 16384) (n1 := 1024) ⟨2048 * (t.val % 8) + k.val, by omega⟩ a := by
    blk_ext [ix_0]
  have d : iblk m c 0 t (ix2 (n0 := 2048) (n1 := 1024) k a) = X0 m c ((win0_0.blk t).view.emb (ix2 (n0 := 2048) (n1 := 1024) k a)) := by
    show V m c main_arg0 _ = _
    rw [V_main_arg0]
  rw [d, e]
  exact ext_eq (X0 m c) _ _
theorem blk_1 (t : Fin cfg0.N) (h : t.val < 16) (k : Fin 2048) (b : Fin 1408) :
    iblk m c 1 t (ix2 (n0 := 2048) (n1 := 1408) k b) = ext (X1 m c) (2048 * (t.val % 8) + k.val) (1408 * (t.val / 8) + b.val) := by
  have e : (win0_1.blk t).view.emb (ix2 (n0 := 2048) (n1 := 1408) k b) = ix2 (n0 := 16384) (n1 := 2816) ⟨2048 * (t.val % 8) + k.val, by omega⟩ ⟨1408 * (t.val / 8) + b.val, by omega⟩ := by
    blk_ext [ix_1 t h]
  have d : iblk m c 1 t (ix2 (n0 := 2048) (n1 := 1408) k b) = X1 m c ((win0_1.blk t).view.emb (ix2 (n0 := 2048) (n1 := 1408) k b)) := by
    show V m c main_arg1 _ = _
    rw [V_main_arg1]
  rw [d, e]
  exact ext_eq (X1 m c) _ _
theorem blk_2 (t : Fin cfg0.N) (h : 16 ≤ t.val) (k : Fin 2048) (b : Fin 1408) :
    iblk m c 2 t (ix2 (n0 := 2048) (n1 := 1408) k b) = ext (X2 m c) (2048 * (t.val % 8) + k.val) (1408 * (t.val / 8 - 2) + b.val) := by
  have ht : t.val < 32 := t.isLt
  have e : (win0_2.blk t).view.emb (ix2 (n0 := 2048) (n1 := 1408) k b) = ix2 (n0 := 16384) (n1 := 2816) ⟨2048 * (t.val % 8) + k.val, by omega⟩ ⟨1408 * (t.val / 8 - 2) + b.val, by omega⟩ := by
    blk_ext [ix_2 t h]
  have d : iblk m c 2 t (ix2 (n0 := 2048) (n1 := 1408) k b) = X2 m c ((win0_2.blk t).view.emb (ix2 (n0 := 2048) (n1 := 1408) k b)) := by
    show V m c main_arg2 _ = _
    rw [V_main_arg2]
  rw [d, e]
  exact ext_eq (X2 m c) _ _

/-- The two gradients side by side: column `j` of the 5632. -/
def both (s j : ℕ) : EReal := if j < 2816 then ext (X1 m c) s j else ext (X2 m c) s (j - 2816)

/-- What grid point `n` adds to an entry of the output's block. -/
def part (n a b : ℕ) : EReal :=
  ∑ k ∈ Finset.range 2048, ext (X0 m c) (2048 * (n % 8) + k) a * both m c (2048 * (n % 8) + k) (1408 * (n / 8) + b)

theorem part_1 (t : Fin cfg0.N) (h : t.val < 16) (x : Vec Ideal S2048x1024 .bf16) (hx : x = iblk m c 0 t) (w : Vec Ideal S2048x1408 .bf16) (hw : w = iblk m c 1 t) (a : Fin 1024) (b : Fin 1408) :
    ∑ k : Fin 2048, x (ix2 k a) * w (ix2 k b) = part m c t.val a.val b.val := by
  unfold part
  rw [Finset.sum_range]
  refine Finset.sum_congr rfl fun k _ => ?_
  rw [hx, hw, blk_0, blk_1 m c t h]
  unfold both
  rw [if_pos (by omega)]
theorem part_2 (t : Fin cfg0.N) (h : 16 ≤ t.val) (x : Vec Ideal S2048x1024 .bf16) (hx : x = iblk m c 0 t) (w : Vec Ideal S2048x1408 .bf16) (hw : w = iblk m c 2 t) (a : Fin 1024) (b : Fin 1408) :
    ∑ k : Fin 2048, x (ix2 k a) * w (ix2 k b) = part m c t.val a.val b.val := by
  unfold part
  rw [Finset.sum_range]
  refine Finset.sum_congr rfl fun k _ => ?_
  rw [hx, hw, blk_0, blk_2 m c t h]
  unfold both
  rw [if_neg (by omega), show 1408 * (t.val / 8) + b.val - 2816 = 1408 * (t.val / 8 - 2) + b.val by omega]

/-- After point `n` the output's block holds the sum of the run's parts so far. -/
theorem outs (z : Fin 1) (a : Fin 1024) (b : Fin 1408) : ∀ (n : ℕ) (h : n < cfg0.N),
    outsAt0 m c n h (ix3 z a b) = ∑ s ∈ Finset.range (n % 8 + 1), part m c (8 * (n / 8) + s) a.val b.val := by
  intro n
  induction n with
  | zero =>
    intro h
    rw [outsAt0_A m c ⟨0, h⟩ rfl (by show 0 < 16; omega) (by show ¬ 16 ≤ 0; omega), left_A, pay3_is, pay2_is, zero_add, part_1 m c ⟨0, h⟩ (by show 0 < 16; omega) _ rfl _ rfl]
    exact (Finset.sum_range_one (fun s => part m c (8 * (0 / 8) + s) a.val b.val)).symm
  | succ n ih =>
    intro h
    have hN : n + 1 < 32 := h
    by_cases h0 : (n + 1) % 8 = 0
    · have e : ∑ s ∈ Finset.range ((n + 1) % 8 + 1), part m c (8 * ((n + 1) / 8) + s) a.val b.val = part m c (n + 1) a.val b.val := by
        rw [h0, Finset.sum_range_one, show 8 * ((n + 1) / 8) + 0 = n + 1 by omega]
      by_cases h1 : n + 1 < 16
      · rw [e, outsAt0_A m c ⟨n + 1, h⟩ h0 h1 (by show ¬ 16 ≤ n + 1; omega), left_A, pay3_is, pay2_is, zero_add, part_1 m c ⟨n + 1, h⟩ h1 _ rfl _ rfl]
      · rw [e, outsAt0_C m c ⟨n + 1, h⟩ h0 h1 (by show 16 ≤ n + 1; omega), left_C, pay1_is, pay2_is, zero_add, part_2 m c ⟨n + 1, h⟩ (by show 16 ≤ n + 1; omega) _ rfl _ rfl]
    · have e : ∑ s ∈ Finset.range ((n + 1) % 8 + 1), part m c (8 * ((n + 1) / 8) + s) a.val b.val
          = ∑ s ∈ Finset.range (n % 8 + 1), part m c (8 * (n / 8) + s) a.val b.val + part m c (n + 1) a.val b.val := by
        rw [Finset.sum_range_succ, show (n + 1) / 8 = n / 8 by omega, show (n + 1) % 8 = n % 8 + 1 by omega, show 8 * (n / 8) + (n % 8 + 1) = n + 1 by omega]
      by_cases h1 : n + 1 < 16
      · rw [e, outsAt0_B m c ⟨n + 1, h⟩ h0 h1 (by show ¬ 16 ≤ n + 1; omega), left_B, pay3_is, part_1 m c ⟨n + 1, h⟩ h1 _ rfl _ rfl]
        exact congrArg (· + _) (ih _)
      · rw [e, outsAt0_D m c ⟨n + 1, h⟩ h0 h1 (by show 16 ≤ n + 1; omega), left_D, pay1_is, part_2 m c ⟨n + 1, h⟩ (by show 16 ≤ n + 1; omega) _ rfl _ rfl]
        exact congrArg (· + _) (ih _)

/-- The whole run's sum. -/
theorem whole (t : Fin cfg0.N) (h : t.val % 8 = 7) (z : Fin 1) (a : Fin 1024) (b : Fin 1408) :
    outsAt0 m c t.val t.isLt (ix3 z a b) = ∑ s ∈ Finset.range 16384, ext (X0 m c) s a.val * both m c s (1408 * (t.val / 8) + b.val) := by
  rw [outs, h]
  have hp : ∀ s ∈ Finset.range 8, part m c (8 * (t.val / 8) + s) a.val b.val
      = ∑ k ∈ Finset.range 2048, (fun s => ext (X0 m c) s a.val * both m c s (1408 * (t.val / 8) + b.val)) (2048 * s + k) := by
    intro s hs
    have hs : s < 8 := Finset.mem_range.1 hs
    unfold part
    rw [show (8 * (t.val / 8) + s) % 8 = s by omega, show (8 * (t.val / 8) + s) / 8 = t.val / 8 by omega]
  exact (Finset.sum_congr rfl hp).trans (sum_pieces (fun s => ext (X0 m c) s a.val * both m c s (1408 * (t.val / 8) + b.val)) 2048 8)

open Cert.ReferenceUpIdeal.Read in
theorem reference (x0 : FVec Ideal S16384x1024 .bf16) (x1 x2 : FVec Ideal S16384x2816 .bf16) (o : Fin 4) (a : Fin 1024) (b : Fin 1408) :
    val_main_v8 (F := Ideal) x0 x1 x2 (ix3 o a b) = ∑ s : Fin 16384, val_main_v1 (F := Ideal) x1 x2 (ix2 s ⟨1408 * o.val + b.val, by omega⟩) * x0 (ix2 s a) := by
  pointwise [val_main_v8, val_main_v7, val_main_v6, val_main_v5, val_main_v2, val_main_v0]
  have e : (⟨o.val * 1408 + b.val, by omega⟩ : Fin 5632) = ⟨1408 * o.val + b.val, by omega⟩ := Fin.ext (by show o.val * 1408 + b.val = 1408 * o.val + b.val; omega)
  rw [e]

open Cert.ReferenceUpIdeal.Read in
theorem joined (x1 x2 : FVec Ideal S16384x2816 .bf16) (s : Fin 16384) (j : Fin 5632) :
    val_main_v1 (F := Ideal) x1 x2 (ix2 s j) = if j.val < 2816 then ext x1 s.val j.val else ext x2 s.val (j.val - 2816) := by
  pointwise [val_main_v1]
  split_ifs with h
  · exact ext_eq x1 s ⟨j.val, h⟩
  · exact ext_eq x2 s ⟨j.val - 2816, by omega⟩
  · exact absurd rfl ‹_›

theorem mem_blk3 (t : Fin cfg0.N) (i : S4x1024x1408.Idx) :
    i ∈ ((cfg0.win 3).blk t).view.set ↔ ∀ a : Fin 3, win0_3.index t a * S1x1024x1408.size a ≤ (i a).val ∧ (i a).val < win0_3.index t a * S1x1024x1408.size a + S1x1024x1408.size a := by
  show i ∈ ((View.whole main_v0).slice (win0_3.rect t)).set ↔ _
  rw [View.set_slice_whole, Rect.mem_set_unit]
  exact Iff.rfl
theorem cover3 (i : S4x1024x1408.Idx) : ∃ t : Fin cfg0.N, (cfg0.win 3).flush t = true ∧ i ∈ ((cfg0.win 3).blk t).view.set := by
  have h0 : (i 0).val < 4 := (i 0).isLt
  have h1 : (i 1).val < 1024 := (i 1).isLt
  have h2 : (i 2).val < 1408 := (i 2).isLt
  refine ⟨⟨8 * (i 0).val + 7, by rw [show cfg0.N = 32 from rfl]; omega⟩, (flush0_3 _).2 (by show (8 * (i 0).val + 7) % 8 = 7; omega), ?_⟩
  rw [mem_blk3]
  intro a
  match a with
  | ⟨0, _⟩ => show win0_3.index _ 0 * 1 ≤ (i 0).val ∧ (i 0).val < win0_3.index _ 0 * 1 + 1; rw [ix_3]; dsimp; omega
  | ⟨1, _⟩ => show win0_3.index _ 1 * 1024 ≤ (i 1).val ∧ (i 1).val < win0_3.index _ 1 * 1024 + 1024; rw [ix_3]; dsimp; omega
  | ⟨2, _⟩ => show win0_3.index _ 2 * 1408 ≤ (i 2).val ∧ (i 2).val < win0_3.index _ 2 * 1408 + 1408; rw [ix_3]; dsimp; omega

/-- The gradient of w_gate_up, in the owners' shares. -/
theorem equal : (dats m 0 c).arrAt 3 cfg0.N = Cert.ReferenceUpIdeal.Read.val_main_v8 (F := Ideal) (X0 m c) (X1 m c) (X2 m c) := by
  refine (dats m 0 c).arrAt_eq_of_cover 3 _ (fun t hf => ?_) (fun i => cover3 i)
  have ht : t.val < 32 := t.isLt
  have hm : t.val % 8 = 7 := (flush0_3 t).1 hf
  rw [flushed3]
  funext y
  obtain ⟨z, a, b, rfl⟩ : ∃ (z : Fin 1) (a : Fin 1024) (b : Fin 1408), y = ix3 z a b := ⟨y 0, y 1, y 2, eq_ix3 y⟩
  have e : (win0_3.blk t).view.emb (ix3 (n0 := 1) (n1 := 1024) (n2 := 1408) z a b) = ix3 (n0 := 4) (n1 := 1024) (n2 := 1408) ⟨t.val / 8, by omega⟩ a b := by
    blk_ext [ix_3]
  show outsAt0 m c t.val t.isLt (ix3 (n0 := 1) (n1 := 1024) (n2 := 1408) z a b)
    = Cert.ReferenceUpIdeal.Read.val_main_v8 (F := Ideal) (X0 m c) (X1 m c) (X2 m c) ((win0_3.blk t).view.emb (ix3 (n0 := 1) (n1 := 1024) (n2 := 1408) z a b))
  rw [e, reference, whole m c t hm, Finset.sum_range]
  refine Finset.sum_congr rfl fun s _ => ?_
  rw [joined, ← ext_eq (X0 m c) s a]
  exact mul_comm _ _

end Cert.KernelUpIdeal.Hand

end
-- ==== Proof.In.lean ====
module

public import proofs.«01_k».proof.Proof.Gen.KernelInIdeal.Value
public import proofs.«01_k».proof.Proof.Gen.ReferenceInIdeal.Read
public import proofs.«01_k».proof.Proof.Down

@[expose] public section

set_option maxRecDepth 16384

noncomputable section

namespace Cert.KernelInIdeal.Hand

open Cert.KernelInIdeal Cert.KernelInIdeal.Gen Cert.KernelInIdeal.Value Idealize.ShloMosaic
open Cert.KernelDownIdeal.Hand (ext ext_eq sum_pieces)

variable (m : (ℓ : Loc nD τ sig) → Buf (Elt Ideal) ℓ) (c : Dev nD)

abbrev X0 : FVec Ideal S16384x2816 .bf16 := m ((c.tc : Thread nD τ).loc main_arg0)
abbrev X1 : FVec Ideal S16384x2816 .bf16 := m ((c.tc : Thread nD τ).loc main_arg1)
abbrev X2 : FVec Ideal S1024x5632 .bf16 := m ((c.tc : Thread nD τ).loc main_arg2)
abbrev X3 : FVec Ideal S16384x1024 .f32 := m ((c.tc : Thread nD τ).loc main_arg3)
abbrev X4 : FVec Ideal S16384x1024 .f32 := m ((c.tc : Thread nD τ).loc main_arg4)
abbrev X5 : FVec Ideal S1x1024 .f32 := m ((c.tc : Thread nD τ).loc main_arg5)

/-! The norm's backward, a row at a time. -/

/-- A row's mean square, plus the norm's epsilon. -/
def ms (x : Fin 1024 → EReal) : EReal := Ideal.div (∑ k, x k * x k) (Ideal.ofBits FTy.f32 0x44800000#32) + Ideal.ofBits FTy.f32 0x358637BD#32
/-- A row's scale. -/
def rn (x : Fin 1024 → EReal) : EReal := Ideal.rsqrt (ms x)

theorem wide : Ideal.ofBits FTy.f32 0x44800000#32 = ((1024 : ℝ) : EReal) := by
  simp [Ideal.ofBits, Ideal.ieee, -EReal.coe_mul]; norm_num
theorem half : Ideal.ofBits FTy.f32 0xBF000000#32 = ((-(1 / 2) : ℝ) : EReal) := by
  simp [Ideal.ofBits, Ideal.ieee, -EReal.coe_mul]; norm_num
theorem tiny : ∃ e : ℝ, 0 < e ∧ Ideal.ofBits FTy.f32 0x358637BD#32 = (e : EReal) :=
  ⟨8796093 / 8796093022208, by norm_num, by simp [Ideal.ofBits, Ideal.ieee, -EReal.coe_mul]; norm_num⟩

theorem square_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- Either a row holds an infinity, and its mean square is one, or the row is real and its mean square positive. -/
theorem ms_cases (x : Fin 1024 → EReal) : ms x = ⊤ ∨ (∃ p : ℝ, 0 < p ∧ ms x = (p : EReal)) ∧ ∀ k, ∃ r : ℝ, x k = (r : EReal) := by
  obtain ⟨e, he, h⟩ := tiny
  have hn : 0 ≤ ∑ k, x k * x k := Finset.sum_nonneg fun k _ => square_nonneg (x k)
  have hs : ∀ k, x k * x k ≤ ∑ k, x k * x k := fun k => Finset.single_le_sum (f := fun k => x k * x k) (fun k _ => square_nonneg (x k)) (Finset.mem_univ k)
  unfold ms
  rw [wide, Ideal.div_coe (by norm_num), h]
  generalize ∑ k, x k * x k = T at hn hs
  induction T with
  | bot => exact absurd hn (by decide)
  | top =>
    left
    rw [EReal.top_mul_coe_of_pos (by norm_num)]
    rfl
  | coe t =>
    right
    have ht : 0 ≤ t := by exact_mod_cast hn
    refine ⟨⟨t * (1 / 1024) + e, by positivity, by rw [EReal.coe_add, EReal.coe_mul]⟩, fun k => ?_⟩
    have := hs k
    generalize x k = y at this
    induction y with
    | bot => rw [EReal.bot_mul_bot] at this; exact absurd this (not_le.2 (EReal.coe_lt_top t))
    | top => rw [EReal.top_mul_top] at this; exact absurd this (not_le.2 (EReal.coe_lt_top t))
    | coe r => exact ⟨r, rfl⟩

theorem sum_scale (r : ℝ) (hr : 0 ≤ r) (f : Fin 1024 → EReal) : ∑ k, f k * (r : EReal) = (∑ k, f k) * (r : EReal) := by
  classical
  induction (Finset.univ : Finset (Fin 1024)) using Finset.induction_on with
  | empty => simp
  | insert a s ha ih =>
    rw [Finset.sum_insert ha, Finset.sum_insert ha, ih]
    exact (EReal.right_distrib_of_nonneg_of_ne_top (by exact_mod_cast hr) (EReal.coe_ne_top r) _ _).symm

theorem twice (c : EReal) (s : ℝ) : c * (s : EReal) + c * (s : EReal) = c * ((2 * s : ℝ) : EReal) := by
  induction c with
  | coe c => rw [← EReal.coe_mul, ← EReal.coe_mul, ← EReal.coe_add]; congr 1; ring
  | top =>
    rcases lt_trichotomy s 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy s 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The call's form of the input's gradient is the reference's, whatever infinities there are. -/
theorem row_eq (x y : Fin 1024 → EReal) (o : EReal) (d : Fin 1024) :
    rn x * (y d - x d * rn x * Ideal.div (∑ k, y k * (x k * rn x)) (Ideal.ofBits FTy.f32 0x44800000#32)) + o
      = o + y d * rn x + x d * Ideal.div ((∑ k, x k * y k) * (Ideal.ofBits FTy.f32 0xBF000000#32 * Ideal.div (rn x) (ms x))) (Ideal.ofBits FTy.f32 0x44800000#32)
        + Ideal.div ((∑ k, x k * y k) * (Ideal.ofBits FTy.f32 0xBF000000#32 * Ideal.div (rn x) (ms x))) (Ideal.ofBits FTy.f32 0x44800000#32) * x d := by
  rw [wide, half, Ideal.div_coe (by norm_num), Ideal.div_coe (by norm_num)]
  rcases ms_cases x with h | ⟨⟨p, hp, h⟩, hx⟩
  · have hr : rn x = 0 := by unfold rn; rw [h]; rfl
    have h0 : Ideal.div (0 : EReal) ⊤ = 0 := by
      unfold Ideal.div
      rw [if_neg (by decide), zero_mul]
    rw [hr, h, h0]
    simp only [mul_zero, zero_mul, add_zero, zero_add]
  · obtain ⟨X, hX⟩ := hx d
    have hs : 0 < Real.sqrt p := Real.sqrt_pos.2 hp
    set r : ℝ := (Real.sqrt p)⁻¹ with hrd
    have hr0 : 0 < r := inv_pos.2 hs
    have hr : rn x = (r : EReal) := by
      unfold rn; rw [h, Ideal.rsqrt_coe, if_neg (not_lt.2 hp.le), if_neg hp.ne']
    have hpr : 1 / p = r * r := by
      rw [hrd, ← mul_inv, Real.mul_self_sqrt hp.le, one_div]
    have e1 : ∑ k, y k * (x k * (r : EReal)) = (∑ k, x k * y k) * (r : EReal) := by
      rw [← sum_scale r hr0.le]
      exact Finset.sum_congr rfl fun k _ => by rw [← mul_assoc, mul_comm (y k)]
    rw [hr, h, Ideal.div_coe hp.ne', hpr, e1, hX]
    generalize ∑ k, x k * y k = c
    generalize y d = u
    have k1 : (X : EReal) * (r : EReal) * (c * (r : EReal) * ((1 / 1024 : ℝ) : EReal)) = c * ((X * r * r * (1 / 1024) : ℝ) : EReal) := by
      simp only [EReal.coe_mul]
      ac_rfl
    have k2 : c * (((-(1 / 2) : ℝ) : EReal) * ((r : EReal) * ((r * r : ℝ) : EReal))) * ((1 / 1024 : ℝ) : EReal) * (X : EReal) = c * ((-(1 / 2) * (X * r * r * r * (1 / 1024)) : ℝ) : EReal) := by
      simp only [EReal.coe_mul]
      ac_rfl
    rw [mul_comm (X : EReal) (_ * ((1 / 1024 : ℝ) : EReal)), k2, k1, add_assoc, twice, sub_eq_add_neg,
      EReal.left_distrib_of_nonneg_of_ne_top (by exact_mod_cast hr0.le) (EReal.coe_ne_top r), ← mul_neg, ← EReal.coe_neg,
      mul_left_comm, ← EReal.coe_mul, mul_comm (r : EReal) u, add_comm _ o, ← add_assoc]
    congr 3
    ring

/-- The gradient at the norm's result. -/
def dh (x0 x1 : FVec Ideal S16384x2816 .bf16) (x2 : FVec Ideal S1024x5632 .bf16) (r : Fin 16384) (d : Fin 1024) : EReal :=
  ∑ k : Fin 2816, x0 (ix2 r k) * x2 (ix2 d ⟨k.val, by omega⟩) + ∑ k : Fin 2816, x1 (ix2 r k) * x2 (ix2 d ⟨2816 + k.val, by omega⟩)

/-! What a grid point leaves in the outputs' blocks. -/

theorem hz2 : (![0, 0] : Fin 2 → Nat) = fun _ => 0 := funext fun a => by fin_cases a <;> rfl

theorem left_A7 (c : Dev nD) (i : grid0.Coords) (a0 : Memref sig .tc .vmem S512x2816 .bf16) (h0 : a0.IsWhole) (a1 : Memref sig .tc .vmem S1024x2816 .bf16) (h1 : a1.IsWhole) (a2 : Memref sig .tc .vmem S512x2816 .bf16) (h2 : a2.IsWhole) (a3 : Memref sig .tc .vmem S1024x2816 .bf16) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S1x1024 .f32) (h8 : a8.IsWhole) (hc0 : cond0_0 i)
    (x0 : Vec Ideal S512x2816 .bf16) (x1 : Vec Ideal S1024x2816 .bf16) (x2 : Vec Ideal S512x2816 .bf16) (x3 : Vec Ideal S1024x2816 .bf16) (x4 : Vec Ideal S512x1024 .f32) (x5 : Vec Ideal S512x1024 .f32) (x6 : Vec Ideal S1x1024 .f32) :
    out0_A_7 c i a0 h0 a1 h1 a2 h2 a3 h3 a4 h4 a5 h5 a6 h6 a7 h7 a8 h8 hc0 x0 x1 x2 x3 x4 x5 x6 = k0_pay6 x0 x1 x2 x3 x4 x5 x6 := by
  unfold out0_A_7
  rw [View.read_writes_eq_canon _ _ _ (cover0_A_7 c i a0 h0 a1 h1 a2 h2 a3 h3 a4 h4 a5 h5 a6 h6 a7 h7 a8 h8 hc0 x0 x1 x2 x3 x4 x5 x6)]
  unfold kernelRun0_A
  dsimp only
  try sl_unfold_words
  rw [View.canon_unit_zero hz2]
  simp only [View.readAt_eq_ld, h0.read_unread, h1.read_unread, h2.read_unread, h3.read_unread, h4.read_unread, h5.read_unread, h6.read_unread, h7.read_unread, h8.read_unread, View.ld_unit_zero (S := S512x2816) hz2, View.ld_unit_zero (S := S1024x2816) hz2, View.ld_unit_zero (S := S512x1024) hz2, View.ld_unit_zero (S := S1x1024) hz2, shapeCast_self]

theorem left_A8 (c : Dev nD) (i : grid0.Coords) (a0 : Memref sig .tc .vmem S512x2816 .bf16) (h0 : a0.IsWhole) (a1 : Memref sig .tc .vmem S1024x2816 .bf16) (h1 : a1.IsWhole) (a2 : Memref sig .tc .vmem S512x2816 .bf16) (h2 : a2.IsWhole) (a3 : Memref sig .tc .vmem S1024x2816 .bf16) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S1x1024 .f32) (h8 : a8.IsWhole) (hc0 : cond0_0 i)
    (x0 : Vec Ideal S512x2816 .bf16) (x1 : Vec Ideal S1024x2816 .bf16) (x2 : Vec Ideal S512x2816 .bf16) (x3 : Vec Ideal S1024x2816 .bf16) (x4 : Vec Ideal S512x1024 .f32) (x5 : Vec Ideal S512x1024 .f32) (x6 : Vec Ideal S1x1024 .f32) :
    out0_A_8 c i a0 h0 a1 h1 a2 h2 a3 h3 a4 h4 a5 h5 a6 h6 a7 h7 a8 h8 hc0 x0 x1 x2 x3 x4 x5 x6 = k0_pay2 (k0_pay7 x0 x1 x2 x3 x4) (k0_pay1 (F := Ideal)) := by
  unfold out0_A_8
  rw [View.read_writes_eq_canon _ _ _ (cover0_A_8 c i a0 h0 a1 h1 a2 h2 a3 h3 a4 h4 a5 h5 a6 h6 a7 h7 a8 h8 hc0 x0 x1 x2 x3 x4 x5 x6)]
  unfold kernelRun0_A
  dsimp only
  try sl_unfold_words
  rw [View.canon_cons_unit_zero (S := S1x1024) hz2, View.readCov_unit_zero (S := S1x1024) _ hz2]
  simp only [View.readAt_eq_ld, h0.read_unread, h1.read_unread, h2.read_unread, h3.read_unread, h4.read_unread, h5.read_unread, h6.read_unread, h7.read_unread, h8.read_unread, View.ld_unit_zero (S := S512x2816) hz2, View.ld_unit_zero (S := S1024x2816) hz2, View.ld_unit_zero (S := S512x1024) hz2, View.ld_unit_zero (S := S1x1024) hz2, shapeCast_self]

theorem left_B7 (c : Dev nD) (i : grid0.Coords) (a0 : Memref sig .tc .vmem S512x2816 .bf16) (h0 : a0.IsWhole) (a1 : Memref sig .tc .vmem S1024x2816 .bf16) (h1 : a1.IsWhole) (a2 : Memref sig .tc .vmem S512x2816 .bf16) (h2 : a2.IsWhole) (a3 : Memref sig .tc .vmem S1024x2816 .bf16) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S1x1024 .f32) (h8 : a8.IsWhole) (hc0 : ¬cond0_0 i)
    (x0 : Vec Ideal S512x2816 .bf16) (x1 : Vec Ideal S1024x2816 .bf16) (x2 : Vec Ideal S512x2816 .bf16) (x3 : Vec Ideal S1024x2816 .bf16) (x4 : Vec Ideal S512x1024 .f32) (x5 : Vec Ideal S512x1024 .f32) (x6 : Vec Ideal S1x1024 .f32) (y : Vec Ideal S1x1024 .f32) :
    out0_B_7 c i a0 h0 a1 h1 a2 h2 a3 h3 a4 h4 a5 h5 a6 h6 a7 h7 a8 h8 hc0 x0 x1 x2 x3 x4 x5 x6 y = k0_pay6 x0 x1 x2 x3 x4 x5 x6 := by
  unfold out0_B_7
  rw [View.read_writes_eq_canon _ _ _ (cover0_B_7 c i a0 h0 a1 h1 a2 h2 a3 h3 a4 h4 a5 h5 a6 h6 a7 h7 a8 h8 hc0 x0 x1 x2 x3 x4 x5 x6 y)]
  unfold kernelRun0_B
  dsimp only
  try sl_unfold_words
  rw [View.canon_unit_zero hz2]
  simp only [View.readAt_eq_ld, h0.read_unread, h1.read_unread, h2.read_unread, h3.read_unread, h4.read_unread, h5.read_unread, h6.read_unread, h7.read_unread, h8.read_unread, View.ld_unit_zero (S := S512x2816) hz2, View.ld_unit_zero (S := S1024x2816) hz2, View.ld_unit_zero (S := S512x1024) hz2, View.ld_unit_zero (S := S1x1024) hz2, shapeCast_self]

theorem left_B8 (c : Dev nD) (i : grid0.Coords) (a0 : Memref sig .tc .vmem S512x2816 .bf16) (h0 : a0.IsWhole) (a1 : Memref sig .tc .vmem S1024x2816 .bf16) (h1 : a1.IsWhole) (a2 : Memref sig .tc .vmem S512x2816 .bf16) (h2 : a2.IsWhole) (a3 : Memref sig .tc .vmem S1024x2816 .bf16) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S1x1024 .f32) (h8 : a8.IsWhole) (hc0 : ¬cond0_0 i)
    (x0 : Vec Ideal S512x2816 .bf16) (x1 : Vec Ideal S1024x2816 .bf16) (x2 : Vec Ideal S512x2816 .bf16) (x3 : Vec Ideal S1024x2816 .bf16) (x4 : Vec Ideal S512x1024 .f32) (x5 : Vec Ideal S512x1024 .f32) (x6 : Vec Ideal S1x1024 .f32) (y : Vec Ideal S1x1024 .f32) :
    out0_B_8 c i a0 h0 a1 h1 a2 h2 a3 h3 a4 h4 a5 h5 a6 h6 a7 h7 a8 h8 hc0 x0 x1 x2 x3 x4 x5 x6 y = k0_pay2 (k0_pay7 x0 x1 x2 x3 x4) y := by
  unfold out0_B_8
  rw [View.read_writes_eq_canon _ _ _ (cover0_B_8 c i a0 h0 a1 h1 a2 h2 a3 h3 a4 h4 a5 h5 a6 h6 a7 h7 a8 h8 hc0 x0 x1 x2 x3 x4 x5 x6 y)]
  unfold kernelRun0_B
  dsimp only
  try sl_unfold_words
  rw [View.canon_unit_zero hz2]
  simp only [View.readAt_eq_ld, h0.read_unread, h1.read_unread, h2.read_unread, h3.read_unread, h4.read_unread, h5.read_unread, h6.read_unread, h7.read_unread, h8.read_unread, View.ld_unit_zero (S := S512x2816) hz2, View.ld_unit_zero (S := S1024x2816) hz2, View.ld_unit_zero (S := S512x1024) hz2, View.ld_unit_zero (S := S1x1024) hz2, shapeCast_self]

theorem pay1_is (z : Fin 1) (d : Fin 1024) : k0_pay1 (F := Ideal) (ix2 z d) = 0 := by
  pointwise [k0_pay1]

theorem pay2_is (v y : Vec Ideal S1x1024 .f32) (d : Fin 1024) : k0_pay2 (F := Ideal) v y (ix2 0 d) = y (ix2 0 d) + v (ix2 0 d) := by
  pointwise [k0_pay2]

theorem pay3_is (x0 : Vec Ideal S512x2816 .bf16) (x1 : Vec Ideal S1024x2816 .bf16) (x2 : Vec Ideal S512x2816 .bf16) (x3 : Vec Ideal S1024x2816 .bf16) (a : Fin 512) (d : Fin 1024) :
    k0_pay3 (F := Ideal) x0 x1 x2 x3 (ix2 a d) = ∑ k : Fin 2816, x0 (ix2 a k) * x1 (ix2 d k) + ∑ k : Fin 2816, x2 (ix2 a k) * x3 (ix2 d k) := by
  pointwise [k0_pay3]

theorem pay6_is (x0 : Vec Ideal S512x2816 .bf16) (x1 : Vec Ideal S1024x2816 .bf16) (x2 : Vec Ideal S512x2816 .bf16) (x3 : Vec Ideal S1024x2816 .bf16) (x4 x5 : Vec Ideal S512x1024 .f32) (x6 : Vec Ideal S1x1024 .f32) (a : Fin 512) (d : Fin 1024) :
    k0_pay6 (F := Ideal) x0 x1 x2 x3 x4 x5 x6 (ix2 a d) = rn (fun k => x4 (ix2 a k)) * (k0_pay3 (F := Ideal) x0 x1 x2 x3 (ix2 a d) * x6 (ix2 0 d) - x4 (ix2 a d) * rn (fun k => x4 (ix2 a k)) *
      Ideal.div (∑ k, k0_pay3 (F := Ideal) x0 x1 x2 x3 (ix2 a k) * x6 (ix2 0 k) * (x4 (ix2 a k) * rn (fun k => x4 (ix2 a k)))) (Ideal.ofBits FTy.f32 0x44800000#32)) + x5 (ix2 a d) := by
  pointwise [k0_pay6, k0_pay5, k0_pay4]
  rfl

theorem pay7_is (x0 : Vec Ideal S512x2816 .bf16) (x1 : Vec Ideal S1024x2816 .bf16) (x2 : Vec Ideal S512x2816 .bf16) (x3 : Vec Ideal S1024x2816 .bf16) (x4 : Vec Ideal S512x1024 .f32) (d : Fin 1024) :
    k0_pay7 (F := Ideal) x0 x1 x2 x3 x4 (ix2 0 d) = ∑ a : Fin 512, k0_pay3 (F := Ideal) x0 x1 x2 x3 (ix2 a d) * (x4 (ix2 a d) * rn (fun k => x4 (ix2 a k))) := by
  pointwise [k0_pay7, k0_pay5, k0_pay4]
  rfl

theorem ix_0 : ∀ t : Fin grid0.N, win0_0.index t = ![t.val, 0] := by decide +kernel
theorem ix_1 : ∀ t : Fin grid0.N, win0_1.index t = ![0, 0] := by decide +kernel
theorem ix_2 : ∀ t : Fin grid0.N, win0_2.index t = ![t.val, 0] := by decide +kernel
theorem ix_3 : ∀ t : Fin grid0.N, win0_3.index t = ![0, 1] := by decide +kernel
theorem ix_4 : ∀ t : Fin grid0.N, win0_4.index t = ![t.val, 0] := by decide +kernel
theorem ix_5 : ∀ t : Fin grid0.N, win0_5.index t = ![t.val, 0] := by decide +kernel
theorem ix_6 : ∀ t : Fin grid0.N, win0_6.index t = ![0, 0] := by decide +kernel
theorem ix_7 : ∀ t : Fin grid0.N, win0_7.index t = ![t.val, 0] := by decide +kernel
theorem ix_8 : ∀ t : Fin grid0.N, win0_8.index t = ![0, 0] := by decide +kernel

section
open Cert.ReferenceInIdeal.Read
variable (x0 x1 : FVec Ideal S16384x2816 .bf16) (x2 : FVec Ideal S1024x5632 .bf16) (x3 x4 : FVec Ideal S16384x1024 .f32) (x5 : FVec Ideal S1x1024 .f32)

theorem ref19_is (r : Fin 16384) (d : Fin 1024) : val_main_v19 (F := Ideal) x0 x1 x2 (ix2 r d) = dh x0 x1 x2 r d := by
  pointwise [val_main_v19, val_main_v2, val_main_v0, val_main_v1]
  rfl
theorem ref39_is (r : Fin 16384) (d : Fin 1024) : val_main_v39 (F := Ideal) x0 x1 x2 x3 x4 x5 (ix2 r d)
    = x4 (ix2 r d) + dh x0 x1 x2 r d * x5 (ix2 0 d) * rn (fun k => x3 (ix2 r k)) + x3 (ix2 r d) * Ideal.div ((∑ k, x3 (ix2 r k) * (dh x0 x1 x2 r k * x5 (ix2 0 k))) * (Ideal.ofBits FTy.f32 0xBF000000#32 * Ideal.div (rn (fun k => x3 (ix2 r k))) (ms (fun k => x3 (ix2 r k))))) (Ideal.ofBits FTy.f32 0x44800000#32)
      + Ideal.div ((∑ k, x3 (ix2 r k) * (dh x0 x1 x2 r k * x5 (ix2 0 k))) * (Ideal.ofBits FTy.f32 0xBF000000#32 * Ideal.div (rn (fun k => x3 (ix2 r k))) (ms (fun k => x3 (ix2 r k))))) (Ideal.ofBits FTy.f32 0x44800000#32) * x3 (ix2 r d) := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6]
  simp only [Fin.sum_univ_one, ref19_is]
  rfl
theorem ref22_is (d : Fin 1024) : val_main_v22 (F := Ideal) x0 x1 x2 x3 (ix2 0 d) = ∑ r : Fin 16384, dh x0 x1 x2 r d * (x3 (ix2 r d) * rn (fun k => x3 (ix2 r k))) := by
  pointwise [val_main_v22, val_main_v21, val_main_v20, val_main_v15, val_main_v14, val_main_v10, val_main_v9, val_main_v8, val_main_v7, val_main_v6, val_main_v5, val_main_v4, val_main_v3, val_main_cst, val_main_cst_0, val_main_cst_1, val_main_cst_3]
  simp only [ref19_is]
  exact Finset.sum_congr rfl fun r _ => mul_comm _ _
end

def row (t : Fin cfg0.N) (a : Fin 512) : Fin 16384 := ⟨512 * t.val + a.val, by have : t.val < 32 := t.isLt; omega⟩

theorem blk_0 (t : Fin cfg0.N) (a : Fin 512) (k : Fin 2816) : iblk m c 0 t (ix2 (n0 := 512) (n1 := 2816) a k) = X0 m c (ix2 (row t a) k) := by
  have ht : t.val < 32 := t.isLt
  have e : (win0_0.blk t).view.emb (ix2 (n0 := 512) (n1 := 2816) a k) = ix2 (n0 := 16384) (n1 := 2816) ⟨512 * t.val + a.val, by omega⟩ k := by
    blk_ext [ix_0]
  have d : iblk m c 0 t (ix2 (n0 := 512) (n1 := 2816) a k) = X0 m c ((win0_0.blk t).view.emb (ix2 (n0 := 512) (n1 := 2816) a k)) := by
    show V m c main_arg0 _ = _
    rw [V_main_arg0]
  rw [d, e]
  rfl
theorem blk_2 (t : Fin cfg0.N) (a : Fin 512) (k : Fin 2816) : iblk m c 2 t (ix2 (n0 := 512) (n1 := 2816) a k) = X1 m c (ix2 (row t a) k) := by
  have ht : t.val < 32 := t.isLt
  have e : (win0_2.blk t).view.emb (ix2 (n0 := 512) (n1 := 2816) a k) = ix2 (n0 := 16384) (n1 := 2816) ⟨512 * t.val + a.val, by omega⟩ k := by
    blk_ext [ix_2]
  have d : iblk m c 2 t (ix2 (n0 := 512) (n1 := 2816) a k) = X1 m c ((win0_2.blk t).view.emb (ix2 (n0 := 512) (n1 := 2816) a k)) := by
    show V m c main_arg1 _ = _
    rw [V_main_arg1]
  rw [d, e]
  rfl
theorem blk_4 (t : Fin cfg0.N) (a : Fin 512) (k : Fin 1024) : iblk m c 4 t (ix2 (n0 := 512) (n1 := 1024) a k) = X3 m c (ix2 (row t a) k) := by
  have ht : t.val < 32 := t.isLt
  have e : (win0_4.blk t).view.emb (ix2 (n0 := 512) (n1 := 1024) a k) = ix2 (n0 := 16384) (n1 := 1024) ⟨512 * t.val + a.val, by omega⟩ k := by
    blk_ext [ix_4]
  have d : iblk m c 4 t (ix2 (n0 := 512) (n1 := 1024) a k) = X3 m c ((win0_4.blk t).view.emb (ix2 (n0 := 512) (n1 := 1024) a k)) := by
    show V m c main_arg3 _ = _
    rw [V_main_arg3]
  rw [d, e]
  rfl
theorem blk_5 (t : Fin cfg0.N) (a : Fin 512) (k : Fin 1024) : iblk m c 5 t (ix2 (n0 := 512) (n1 := 1024) a k) = X4 m c (ix2 (row t a) k) := by
  have ht : t.val < 32 := t.isLt
  have e : (win0_5.blk t).view.emb (ix2 (n0 := 512) (n1 := 1024) a k) = ix2 (n0 := 16384) (n1 := 1024) ⟨512 * t.val + a.val, by omega⟩ k := by
    blk_ext [ix_5]
  have d : iblk m c 5 t (ix2 (n0 := 512) (n1 := 1024) a k) = X4 m c ((win0_5.blk t).view.emb (ix2 (n0 := 512) (n1 := 1024) a k)) := by
    show V m c main_arg4 _ = _
    rw [V_main_arg4]
  rw [d, e]
  rfl
theorem blk_1 (t : Fin cfg0.N) (a : Fin 1024) (k : Fin 2816) : iblk m c 1 t (ix2 (n0 := 1024) (n1 := 2816) a k) = X2 m c (ix2 a ⟨k.val, by omega⟩) := by
  have e : (win0_1.blk t).view.emb (ix2 (n0 := 1024) (n1 := 2816) a k) = ix2 (n0 := 1024) (n1 := 5632) a ⟨k.val, by omega⟩ := by
    blk_ext [ix_1]
  have d : iblk m c 1 t (ix2 (n0 := 1024) (n1 := 2816) a k) = X2 m c ((win0_1.blk t).view.emb (ix2 (n0 := 1024) (n1 := 2816) a k)) := by
    show V m c main_arg2 _ = _
    rw [V_main_arg2]
  rw [d, e]
theorem blk_3 (t : Fin cfg0.N) (a : Fin 1024) (k : Fin 2816) : iblk m c 3 t (ix2 (n0 := 1024) (n1 := 2816) a k) = X2 m c (ix2 a ⟨2816 + k.val, by omega⟩) := by
  have e : (win0_3.blk t).view.emb (ix2 (n0 := 1024) (n1 := 2816) a k) = ix2 (n0 := 1024) (n1 := 5632) a ⟨2816 + k.val, by omega⟩ := by
    blk_ext [ix_3]
  have d : iblk m c 3 t (ix2 (n0 := 1024) (n1 := 2816) a k) = X2 m c ((win0_3.blk t).view.emb (ix2 (n0 := 1024) (n1 := 2816) a k)) := by
    show V m c main_arg2 _ = _
    rw [V_main_arg2]
  rw [d, e]
theorem blk_6 (t : Fin cfg0.N) (a : Fin 1) (k : Fin 1024) : iblk m c 6 t (ix2 (n0 := 1) (n1 := 1024) a k) = X5 m c (ix2 a k) := by
  have e : (win0_6.blk t).view.emb (ix2 (n0 := 1) (n1 := 1024) a k) = ix2 (n0 := 1) (n1 := 1024) a k := by
    blk_ext [ix_6]
  have d : iblk m c 6 t (ix2 (n0 := 1) (n1 := 1024) a k) = X5 m c ((win0_6.blk t).view.emb (ix2 (n0 := 1) (n1 := 1024) a k)) := by
    show V m c main_arg5 _ = _
    rw [V_main_arg5]
  rw [d, e]

theorem dh_is (t : Fin cfg0.N) (a : Fin 512) (d : Fin 1024) :
    k0_pay3 (F := Ideal) (iblk m c 0 t) (iblk m c 1 t) (iblk m c 2 t) (iblk m c 3 t) (ix2 a d) = dh (X0 m c) (X1 m c) (X2 m c) (row t a) d := by
  rw [pay3_is]
  unfold dh
  exact congrArg₂ (· + ·) (Finset.sum_congr rfl fun k _ => by rw [blk_0, blk_1]) (Finset.sum_congr rfl fun k _ => by rw [blk_2, blk_3])

theorem first (t : Fin cfg0.N) : (outsAt0 m c t.val t.isLt).1 = k0_pay6 (F := Ideal) (iblk m c 0 t) (iblk m c 1 t) (iblk m c 2 t) (iblk m c 3 t) (iblk m c 4 t) (iblk m c 5 t) (iblk m c 6 t) := by
  by_cases h : t.val % 32 = 0
  · rw [outsAt0_A m c t h]
    dsimp only
    rw [left_A7]
  · rw [outsAt0_B m c t h]
    dsimp only
    rw [left_B7]

/-- What grid point `n` adds to an entry of the gain's gradient. -/
def term (d : Fin 1024) (s : ℕ) : EReal :=
  if h : s < 16384 then dh (X0 m c) (X1 m c) (X2 m c) ⟨s, h⟩ d * (X3 m c (ix2 ⟨s, h⟩ d) * rn (fun k => X3 m c (ix2 ⟨s, h⟩ k))) else 0

theorem part_is (t : Fin cfg0.N) (d : Fin 1024) :
    k0_pay7 (F := Ideal) (iblk m c 0 t) (iblk m c 1 t) (iblk m c 2 t) (iblk m c 3 t) (iblk m c 4 t) (ix2 0 d) = ∑ a ∈ Finset.range 512, term m c d (512 * t.val + a) := by
  rw [pay7_is, Finset.sum_range]
  refine Finset.sum_congr rfl fun a _ => ?_
  rw [dh_is]
  simp only [blk_4]
  unfold term
  rw [dif_pos (show 512 * t.val + a.val < 16384 from (row t a).isLt)]
  rfl

theorem second (d : Fin 1024) : ∀ (n : ℕ) (h : n < cfg0.N),
    (outsAt0 m c n h).2 (ix2 0 d) = ∑ j ∈ Finset.range (n + 1), ∑ a ∈ Finset.range 512, term m c d (512 * j + a) := by
  intro n
  induction n with
  | zero =>
    intro h
    rw [outsAt0_A m c ⟨0, h⟩ rfl]
    dsimp only
    rw [left_A8, pay2_is, pay1_is, zero_add, part_is m c ⟨0, h⟩]
    exact (Finset.sum_range_one (fun j => ∑ a ∈ Finset.range 512, term m c d (512 * j + a))).symm
  | succ n ih =>
    intro h
    have hN : n + 1 < 32 := h
    rw [Finset.sum_range_succ, outsAt0_B m c ⟨n + 1, h⟩ (by show ¬ (n + 1) % 32 = 0; omega)]
    dsimp only
    rw [left_B8, pay2_is, part_is m c ⟨n + 1, h⟩]
    exact congrArg (· + _) (ih _)

theorem mem_blk7 (t : Fin cfg0.N) (i : S16384x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v0_0).slice (win0_7.rect t)).set ↔ _
  rw [View.set_slice_whole, Rect.mem_set_unit]
  exact Iff.rfl
theorem cover7 (i : S16384x1024.Idx) : ∃ t : Fin cfg0.N, (cfg0.win 7).flush t = true ∧ i ∈ ((cfg0.win 7).blk t).view.set := by
  have h0 : (i 0).val < 16384 := (i 0).isLt
  have h1 : (i 1).val < 1024 := (i 1).isLt
  refine ⟨⟨(i 0).val / 512, by rw [show cfg0.N = 32 from rfl]; omega⟩, flush0_7 _, ?_⟩
  rw [mem_blk7]
  intro a
  match a with
  | ⟨0, _⟩ => show win0_7.index _ 0 * 512 ≤ (i 0).val ∧ (i 0).val < win0_7.index _ 0 * 512 + 512; rw [ix_7]; dsimp; omega
  | ⟨1, _⟩ => show win0_7.index _ 1 * 1024 ≤ (i 1).val ∧ (i 1).val < win0_7.index _ 1 * 1024 + 1024; rw [ix_7]; dsimp; omega
theorem mem_blk8 (t : Fin cfg0.N) (i : S1x1024.Idx) :
    i ∈ ((cfg0.win 8).blk t).view.set ↔ ∀ a : Fin 2, win0_8.index t a * S1x1024.size a ≤ (i a).val ∧ (i a).val < win0_8.index t a * S1x1024.size a + S1x1024.size a := by
  show i ∈ ((View.whole main_v0_1).slice (win0_8.rect t)).set ↔ _
  rw [View.set_slice_whole, Rect.mem_set_unit]
  exact Iff.rfl
theorem cover8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  refine ⟨⟨31, by decide⟩, (flush0_8 _).2 rfl, ?_⟩
  rw [mem_blk8]
  intro a
  match a with
  | ⟨0, _⟩ => show win0_8.index _ 0 * 1 ≤ (i 0).val ∧ (i 0).val < win0_8.index _ 0 * 1 + 1; rw [ix_8]; dsimp; omega
  | ⟨1, _⟩ => show win0_8.index _ 1 * 1024 ≤ (i 1).val ∧ (i 1).val < win0_8.index _ 1 * 1024 + 1024; rw [ix_8]; dsimp; omega

/-- The gradient of the block's input. -/
theorem dx_eq : (dats m 0 c).arrAt 7 cfg0.N = Cert.ReferenceInIdeal.Read.val_main_v39 (F := Ideal) (X0 m c) (X1 m c) (X2 m c) (X3 m c) (X4 m c) (X5 m c) := by
  refine (dats m 0 c).arrAt_eq_of_cover 7 _ (fun t _ => ?_) (fun i => cover7 i)
  have ht : t.val < 32 := t.isLt
  rw [flushed7]
  funext y
  obtain ⟨a, d, rfl⟩ : ∃ (a : Fin 512) (d : Fin 1024), y = ix2 a d := ⟨y 0, y 1, eq_ix2 y⟩
  have e : (win0_7.blk t).view.emb (ix2 (n0 := 512) (n1 := 1024) a d) = ix2 (n0 := 16384) (n1 := 1024) ⟨512 * t.val + a.val, by omega⟩ d := by
    blk_ext [ix_7]
  show (outsAt0 m c t.val t.isLt).1 (ix2 (n0 := 512) (n1 := 1024) a d)
    = Cert.ReferenceInIdeal.Read.val_main_v39 (F := Ideal) (X0 m c) (X1 m c) (X2 m c) (X3 m c) (X4 m c) (X5 m c) ((win0_7.blk t).view.emb (ix2 (n0 := 512) (n1 := 1024) a d))
  rw [e, first, pay6_is]
  simp only [dh_is, blk_4, blk_5, blk_6]
  exact (row_eq (fun k => X3 m c (ix2 (row t a) k)) (fun k => dh (X0 m c) (X1 m c) (X2 m c) (row t a) k * X5 m c (ix2 0 k)) (X4 m c (ix2 (row t a) d)) d).trans
    (ref39_is (X0 m c) (X1 m c) (X2 m c) (X3 m c) (X4 m c) (X5 m c) (row t a) d).symm

/-- The gradient of the norm's gain. -/
theorem dg_eq : (dats m 0 c).arrAt 8 cfg0.N = Cert.ReferenceInIdeal.Read.val_main_v22 (F := Ideal) (X0 m c) (X1 m c) (X2 m c) (X3 m c) := by
  refine (dats m 0 c).arrAt_eq_of_cover 8 _ (fun t hf => ?_) (fun i => cover8 i)
  have ht : t.val < 32 := t.isLt
  have hm : t.val = 31 := by have := (flush0_8 t).1 hf; omega
  rw [flushed8]
  funext y
  obtain ⟨z, d, rfl⟩ : ∃ (z : Fin 1) (d : Fin 1024), y = ix2 z d := ⟨y 0, y 1, eq_ix2 y⟩
  obtain rfl : z = 0 := Subsingleton.elim _ _
  have e : (win0_8.blk t).view.emb (ix2 (n0 := 1) (n1 := 1024) 0 d) = ix2 (n0 := 1) (n1 := 1024) 0 d := by
    blk_ext [ix_8]
  show (outsAt0 m c t.val t.isLt).2 (ix2 (n0 := 1) (n1 := 1024) 0 d)
    = Cert.ReferenceInIdeal.Read.val_main_v22 (F := Ideal) (X0 m c) (X1 m c) (X2 m c) (X3 m c) ((win0_8.blk t).view.emb (ix2 (n0 := 1) (n1 := 1024) 0 d))
  rw [e, second, ref22_is, hm]
  refine (sum_pieces (term m c d) 512 32).trans ?_
  rw [Finset.sum_range]
  refine Finset.sum_congr rfl fun r _ => ?_
  unfold term
  rw [dif_pos r.isLt]

end Cert.KernelInIdeal.Hand

end
-- ==== Proof.FwdUp.lean ====
module

public import proofs.«01_k».proof.Proof.Gen.KernelFwdUpIdeal.Value
public import proofs.«01_k».proof.Proof.Gen.ReferenceFwdUpIdeal.Read
public import proofs.«01_k».proof.Proof.Gate
public import Idealize.ShloMosaic.Lib.Pointwise
public import Idealize.ShloMosaic.Lib.Pipeline.ValueKit.Geometry

@[expose] public section

set_option maxRecDepth 16384

noncomputable section

namespace Cert.KernelFwdUpIdeal.Hand

open Cert.KernelFwdUpIdeal Cert.KernelFwdUpIdeal.Gen Cert.KernelFwdUpIdeal.Value Idealize.ShloMosaic
open Cert.KernelGateIdeal.Hand (sigm sig_tanh half)

variable (m : (ℓ : Loc nD τ sig) → Buf (Elt Ideal) ℓ) (c : Dev nD)

abbrev X0 : FVec Ideal S16384x1024 .bf16 := m ((c.tc : Thread nD τ).loc main_arg0)
abbrev X1 : FVec Ideal S1024x5632 .bf16 := m ((c.tc : Thread nD τ).loc main_arg1)

theorem pay3_is (x : Vec Ideal S1024x1024 .bf16) (w v : Vec Ideal S1024x1408 .bf16) (a : Fin 1024) (b : Fin 1408) :
    k0_pay3 (F := Ideal) x w v (ix2 a b) = (∑ k : Fin 1024, x (ix2 a k) * w (ix2 k b)) * sigm (∑ k : Fin 1024, x (ix2 a k) * w (ix2 k b)) * (∑ k : Fin 1024, x (ix2 a k) * v (ix2 k b)) := by
  pointwise [k0_pay3, k0_pay2, k0_pay1]
  rw [half, sig_tanh]
theorem pay4_is (x : Vec Ideal S1024x1024 .bf16) (w : Vec Ideal S1024x1408 .bf16) (a : Fin 1024) (b : Fin 1408) :
    k0_pay4 (F := Ideal) x w (ix2 a b) = (∑ k : Fin 1024, x (ix2 a k) * w (ix2 k b)) := by
  pointwise [k0_pay4, k0_pay1]
theorem pay5_is (x : Vec Ideal S1024x1024 .bf16) (v : Vec Ideal S1024x1408 .bf16) (a : Fin 1024) (b : Fin 1408) :
    k0_pay5 (F := Ideal) x v (ix2 a b) = (∑ k : Fin 1024, x (ix2 a k) * v (ix2 k b)) := by
  pointwise [k0_pay5, k0_pay2]

open Cert.ReferenceFwdUpIdeal.Read in
theorem ref3_is (x : FVec Ideal S16384x1024 .bf16) (w : FVec Ideal S1024x5632 .bf16) (a : Fin 16384) (b : Fin 2816) (r : Fin 5632) (hr : r.val = b.val) : val_main_v3 (F := Ideal) x w (ix2 a b) = (∑ k : Fin 1024, x (ix2 a k) * w (ix2 k r)) := by
  obtain rfl : r = ⟨b.val, Nat.lt_trans b.isLt (by decide)⟩ := Fin.ext hr
  pointwise [val_main_v3, val_main_v2, val_main_v1, val_main_v0]
open Cert.ReferenceFwdUpIdeal.Read in
theorem ref4_is (x : FVec Ideal S16384x1024 .bf16) (w : FVec Ideal S1024x5632 .bf16) (a : Fin 16384) (b : Fin 2816) (s : Fin 5632) (hs : s.val = 2816 + b.val) : val_main_v4 (F := Ideal) x w (ix2 a b) = (∑ k : Fin 1024, x (ix2 a k) * w (ix2 k s)) := by
  obtain rfl : s = ⟨2816 + b.val, Nat.add_lt_add_left b.isLt 2816⟩ := Fin.ext hs
  pointwise [val_main_v4, val_main_v2, val_main_v1, val_main_v0]
open Cert.ReferenceFwdUpIdeal.Read in
theorem ref7_is (x : FVec Ideal S16384x1024 .bf16) (w : FVec Ideal S1024x5632 .bf16) (a : Fin 16384) (b : Fin 2816) : val_main_v7 (F := Ideal) x w (ix2 a b)
    = val_main_v3 (F := Ideal) x w (ix2 a b) * sigm (val_main_v3 (F := Ideal) x w (ix2 a b)) * val_main_v4 (F := Ideal) x w (ix2 a b) := by
  pointwise [val_main_v7, val_main_v6, val_main_v5, val_main_call0_v5, val_main_call0_v4, val_main_call0_cst_0, val_main_call0_v3, val_main_call0_v2, val_main_call0_cst, val_main_call0_v1, val_main_call0_v0]
  rfl
open Cert.ReferenceFwdUpIdeal.Read in
theorem ref8_is (x : FVec Ideal S16384x1024 .bf16) (w : FVec Ideal S1024x5632 .bf16) (a : Fin 16384) (b : Fin 2816) : val_main_v8 (F := Ideal) x w (ix2 a b) = val_main_v3 (F := Ideal) x w (ix2 a b) := by
  pointwise [val_main_v8]
open Cert.ReferenceFwdUpIdeal.Read in
theorem ref9_is (x : FVec Ideal S16384x1024 .bf16) (w : FVec Ideal S1024x5632 .bf16) (a : Fin 16384) (b : Fin 2816) : val_main_v9 (F := Ideal) x w (ix2 a b) = val_main_v4 (F := Ideal) x w (ix2 a b) := by
  pointwise [val_main_v9]

theorem ix_0 : ∀ t : Fin grid0.N, win0_0.index t = ![t.val % 16, 0] := by decide +kernel
theorem ix_1 : ∀ t : Fin grid0.N, win0_1.index t = ![0, t.val / 16] := by decide +kernel
theorem ix_2 : ∀ t : Fin grid0.N, win0_2.index t = ![0, 2 + t.val / 16] := by decide +kernel
theorem ix_3 : ∀ t : Fin grid0.N, win0_3.index t = ![t.val % 16, t.val / 16] := by decide +kernel
theorem ix_4 : ∀ t : Fin grid0.N, win0_4.index t = ![t.val % 16, t.val / 16] := by decide +kernel
theorem ix_5 : ∀ t : Fin grid0.N, win0_5.index t = ![t.val % 16, t.val / 16] := by decide +kernel

theorem blk_0 (t : Fin cfg0.N) (a : Fin 1024) (b : Fin 1024) (r : Fin 16384) (s : Fin 1024) (hr : r.val = 1024 * (t.val % 16) + a.val) (hs : s.val = b.val) :
    iblk m c 0 t (ix2 (n0 := 1024) (n1 := 1024) a b) = X0 m c (ix2 r s) := by
  have e : (win0_0.blk t).view.emb (ix2 (n0 := 1024) (n1 := 1024) a b) = ix2 (n0 := 16384) (n1 := 1024) r s := by
    blk_ext [ix_0]
  have d : iblk m c 0 t (ix2 (n0 := 1024) (n1 := 1024) a b) = X0 m c ((win0_0.blk t).view.emb (ix2 (n0 := 1024) (n1 := 1024) a b)) := by
    show V m c main_arg0 _ = _
    rw [V_main_arg0]
  rw [d, e]
theorem blk_1 (t : Fin cfg0.N) (a : Fin 1024) (b : Fin 1408) (r : Fin 1024) (s : Fin 5632) (hr : r.val = a.val) (hs : s.val = 1408 * (t.val / 16) + b.val) :
    iblk m c 1 t (ix2 (n0 := 1024) (n1 := 1408) a b) = X1 m c (ix2 r s) := by
  have e : (win0_1.blk t).view.emb (ix2 (n0 := 1024) (n1 := 1408) a b) = ix2 (n0 := 1024) (n1 := 5632) r s := by
    blk_ext [ix_1]
  have d : iblk m c 1 t (ix2 (n0 := 1024) (n1 := 1408) a b) = X1 m c ((win0_1.blk t).view.emb (ix2 (n0 := 1024) (n1 := 1408) a b)) := by
    show V m c main_arg1 _ = _
    rw [V_main_arg1]
  rw [d, e]
theorem blk_2 (t : Fin cfg0.N) (a : Fin 1024) (b : Fin 1408) (r : Fin 1024) (s : Fin 5632) (hr : r.val = a.val) (hs : s.val = 2816 + (1408 * (t.val / 16) + b.val)) :
    iblk m c 2 t (ix2 (n0 := 1024) (n1 := 1408) a b) = X1 m c (ix2 r s) := by
  have e : (win0_2.blk t).view.emb (ix2 (n0 := 1024) (n1 := 1408) a b) = ix2 (n0 := 1024) (n1 := 5632) r s := by
    blk_ext [ix_2]
  have d : iblk m c 2 t (ix2 (n0 := 1024) (n1 := 1408) a b) = X1 m c ((win0_2.blk t).view.emb (ix2 (n0 := 1024) (n1 := 1408) a b)) := by
    show V m c main_arg1 _ = _
    rw [V_main_arg1]
  rw [d, e]

theorem hz : (![0, 0] : Fin 2 → Nat) = fun _ => 0 := funext fun a => by fin_cases a <;> rfl

theorem out3_is (x0 : Vec Ideal S1024x1024 .bf16) (x1 x2 : Vec Ideal S1024x1408 .bf16) : out0_3 x0 x1 x2 = k0_pay3 x0 x1 x2 := by
  unfold out0_3 r0_0 r0_1
  rw [View.canon_unit_zero hz, View.ld_unit_zero (S := S1024x1024) hz, View.ld_unit_zero (S := S1024x1408) hz, View.ld_unit_zero (S := S1024x1408) hz]
theorem out4_is (x0 : Vec Ideal S1024x1024 .bf16) (x1 x2 : Vec Ideal S1024x1408 .bf16) : out0_4 x0 x1 x2 = k0_pay4 x0 x1 := by
  unfold out0_4 r0_0 r0_1
  rw [View.canon_unit_zero hz, View.ld_unit_zero (S := S1024x1024) hz, View.ld_unit_zero (S := S1024x1408) hz]
theorem out5_is (x0 : Vec Ideal S1024x1024 .bf16) (x1 x2 : Vec Ideal S1024x1408 .bf16) : out0_5 x0 x1 x2 = k0_pay5 x0 x2 := by
  unfold out0_5 r0_0 r0_1
  rw [View.canon_unit_zero hz, View.ld_unit_zero (S := S1024x1024) hz, View.ld_unit_zero (S := S1024x1408) hz]

/-! Every entry of an output lies in the block of some grid point. -/

theorem mem_blk3 (t : Fin cfg0.N) (i : S16384x2816.Idx) :
    i ∈ ((cfg0.win 3).blk t).view.set ↔ ∀ a : Fin 2, win0_3.index t a * S1024x1408.size a ≤ (i a).val ∧ (i a).val < win0_3.index t a * S1024x1408.size a + S1024x1408.size a := by
  show i ∈ ((View.whole main_v0_0).slice (win0_3.rect t)).set ↔ _
  rw [View.set_slice_whole, Rect.mem_set_unit]
  exact Iff.rfl
theorem cover3 (i : S16384x2816.Idx) : ∃ t : Fin cfg0.N, (cfg0.win 3).flush t = true ∧ i ∈ ((cfg0.win 3).blk t).view.set := by
  have h0 : (i 0).val < 16384 := (i 0).isLt
  have h1 : (i 1).val < 2816 := (i 1).isLt
  refine ⟨⟨16 * ((i 1).val / 1408) + (i 0).val / 1024, by rw [show cfg0.N = 32 from rfl]; omega⟩, flush0_3 _, ?_⟩
  rw [mem_blk3]
  intro a
  match a with
  | ⟨0, _⟩ => show win0_3.index _ 0 * 1024 ≤ (i 0).val ∧ (i 0).val < win0_3.index _ 0 * 1024 + 1024; rw [ix_3]; dsimp; omega
  | ⟨1, _⟩ => show win0_3.index _ 1 * 1408 ≤ (i 1).val ∧ (i 1).val < win0_3.index _ 1 * 1408 + 1408; rw [ix_3]; dsimp; omega

theorem mem_blk4 (t : Fin cfg0.N) (i : S16384x2816.Idx) :
    i ∈ ((cfg0.win 4).blk t).view.set ↔ ∀ a : Fin 2, win0_4.index t a * S1024x1408.size a ≤ (i a).val ∧ (i a).val < win0_4.index t a * S1024x1408.size a + S1024x1408.size a := by
  show i ∈ ((View.whole main_v0_1).slice (win0_4.rect t)).set ↔ _
  rw [View.set_slice_whole, Rect.mem_set_unit]
  exact Iff.rfl
theorem cover4 (i : S16384x2816.Idx) : ∃ t : Fin cfg0.N, (cfg0.win 4).flush t = true ∧ i ∈ ((cfg0.win 4).blk t).view.set := by
  have h0 : (i 0).val < 16384 := (i 0).isLt
  have h1 : (i 1).val < 2816 := (i 1).isLt
  refine ⟨⟨16 * ((i 1).val / 1408) + (i 0).val / 1024, by rw [show cfg0.N = 32 from rfl]; omega⟩, flush0_4 _, ?_⟩
  rw [mem_blk4]
  intro a
  match a with
  | ⟨0, _⟩ => show win0_4.index _ 0 * 1024 ≤ (i 0).val ∧ (i 0).val < win0_4.index _ 0 * 1024 + 1024; rw [ix_4]; dsimp; omega
  | ⟨1, _⟩ => show win0_4.index _ 1 * 1408 ≤ (i 1).val ∧ (i 1).val < win0_4.index _ 1 * 1408 + 1408; rw [ix_4]; dsimp; omega

theorem mem_blk5 (t : Fin cfg0.N) (i : S16384x2816.Idx) :
    i ∈ ((cfg0.win 5).blk t).view.set ↔ ∀ a : Fin 2, win0_5.index t a * S1024x1408.size a ≤ (i a).val ∧ (i a).val < win0_5.index t a * S1024x1408.size a + S1024x1408.size a := by
  show i ∈ ((View.whole main_v0_2).slice (win0_5.rect t)).set ↔ _
  rw [View.set_slice_whole, Rect.mem_set_unit]
  exact Iff.rfl
theorem cover5 (i : S16384x2816.Idx) : ∃ t : Fin cfg0.N, (cfg0.win 5).flush t = true ∧ i ∈ ((cfg0.win 5).blk t).view.set := by
  have h0 : (i 0).val < 16384 := (i 0).isLt
  have h1 : (i 1).val < 2816 := (i 1).isLt
  refine ⟨⟨16 * ((i 1).val / 1408) + (i 0).val / 1024, by rw [show cfg0.N = 32 from rfl]; omega⟩, flush0_5 _, ?_⟩
  rw [mem_blk5]
  intro a
  match a with
  | ⟨0, _⟩ => show win0_5.index _ 0 * 1024 ≤ (i 0).val ∧ (i 0).val < win0_5.index _ 0 * 1024 + 1024; rw [ix_5]; dsimp; omega
  | ⟨1, _⟩ => show win0_5.index _ 1 * 1408 ≤ (i 1).val ∧ (i 1).val < win0_5.index _ 1 * 1408 + 1408; rw [ix_5]; dsimp; omega

/-- The activation. -/
theorem act_eq : (dats m 0 c).arrAt 3 cfg0.N = Cert.ReferenceFwdUpIdeal.Read.val_main_v7 (F := Ideal) (X0 m c) (X1 m c) := by
  refine (dats m 0 c).arrAt_eq_of_cover 3 _ (fun t _ => ?_) (fun i => cover3 i)
  have ht : t.val < 32 := t.isLt
  rw [flushed3]
  funext y
  obtain ⟨a, b, rfl⟩ : ∃ (a : Fin 1024) (b : Fin 1408), y = ix2 a b := ⟨y 0, y 1, eq_ix2 y⟩
  have e : (win0_3.blk t).view.emb (ix2 (n0 := 1024) (n1 := 1408) a b) = ix2 (n0 := 16384) (n1 := 2816) ⟨1024 * (t.val % 16) + a.val, by omega⟩ ⟨1408 * (t.val / 16) + b.val, by omega⟩ := by
    blk_ext [ix_3]
  show out0_3 (iblk m c 0 t) (iblk m c 1 t) (iblk m c 2 t) (ix2 (n0 := 1024) (n1 := 1408) a b)
    = Cert.ReferenceFwdUpIdeal.Read.val_main_v7 (F := Ideal) (X0 m c) (X1 m c) ((win0_3.blk t).view.emb (ix2 (n0 := 1024) (n1 := 1408) a b))
  rw [e, ref7_is, ref3_is _ _ _ _ ⟨1408 * (t.val / 16) + b.val, by omega⟩ rfl, ref4_is _ _ _ _ ⟨2816 + (1408 * (t.val / 16) + b.val), by omega⟩ rfl, out3_is, pay3_is]
  simp only [fun k => blk_0 m c t a k ⟨1024 * (t.val % 16) + a.val, by omega⟩ k rfl rfl, fun k => blk_1 m c t k b k ⟨1408 * (t.val / 16) + b.val, by omega⟩ rfl rfl, fun k => blk_2 m c t k b k ⟨2816 + (1408 * (t.val / 16) + b.val), by omega⟩ rfl rfl]

/-- The gate. -/
theorem gate_eq : (dats m 0 c).arrAt 4 cfg0.N = Cert.ReferenceFwdUpIdeal.Read.val_main_v8 (F := Ideal) (X0 m c) (X1 m c) := by
  refine (dats m 0 c).arrAt_eq_of_cover 4 _ (fun t _ => ?_) (fun i => cover4 i)
  have ht : t.val < 32 := t.isLt
  rw [flushed4]
  funext y
  obtain ⟨a, b, rfl⟩ : ∃ (a : Fin 1024) (b : Fin 1408), y = ix2 a b := ⟨y 0, y 1, eq_ix2 y⟩
  have e : (win0_4.blk t).view.emb (ix2 (n0 := 1024) (n1 := 1408) a b) = ix2 (n0 := 16384) (n1 := 2816) ⟨1024 * (t.val % 16) + a.val, by omega⟩ ⟨1408 * (t.val / 16) + b.val, by omega⟩ := by
    blk_ext [ix_4]
  show out0_4 (iblk m c 0 t) (iblk m c 1 t) (iblk m c 2 t) (ix2 (n0 := 1024) (n1 := 1408) a b)
    = Cert.ReferenceFwdUpIdeal.Read.val_main_v8 (F := Ideal) (X0 m c) (X1 m c) ((win0_4.blk t).view.emb (ix2 (n0 := 1024) (n1 := 1408) a b))
  rw [e, ref8_is, ref3_is _ _ _ _ ⟨1408 * (t.val / 16) + b.val, by omega⟩ rfl, out4_is, pay4_is]
  simp only [fun k => blk_0 m c t a k ⟨1024 * (t.val % 16) + a.val, by omega⟩ k rfl rfl, fun k => blk_1 m c t k b k ⟨1408 * (t.val / 16) + b.val, by omega⟩ rfl rfl]

/-- The other factor. -/
theorem up_eq : (dats m 0 c).arrAt 5 cfg0.N = Cert.ReferenceFwdUpIdeal.Read.val_main_v9 (F := Ideal) (X0 m c) (X1 m c) := by
  refine (dats m 0 c).arrAt_eq_of_cover 5 _ (fun t _ => ?_) (fun i => cover5 i)
  have ht : t.val < 32 := t.isLt
  rw [flushed5]
  funext y
  obtain ⟨a, b, rfl⟩ : ∃ (a : Fin 1024) (b : Fin 1408), y = ix2 a b := ⟨y 0, y 1, eq_ix2 y⟩
  have e : (win0_5.blk t).view.emb (ix2 (n0 := 1024) (n1 := 1408) a b) = ix2 (n0 := 16384) (n1 := 2816) ⟨1024 * (t.val % 16) + a.val, by omega⟩ ⟨1408 * (t.val / 16) + b.val, by omega⟩ := by
    blk_ext [ix_5]
  show out0_5 (iblk m c 0 t) (iblk m c 1 t) (iblk m c 2 t) (ix2 (n0 := 1024) (n1 := 1408) a b)
    = Cert.ReferenceFwdUpIdeal.Read.val_main_v9 (F := Ideal) (X0 m c) (X1 m c) ((win0_5.blk t).view.emb (ix2 (n0 := 1024) (n1 := 1408) a b))
  rw [e, ref9_is, ref4_is _ _ _ _ ⟨2816 + (1408 * (t.val / 16) + b.val), by omega⟩ rfl, out5_is, pay5_is]
  simp only [fun k => blk_0 m c t a k ⟨1024 * (t.val % 16) + a.val, by omega⟩ k rfl rfl, fun k => blk_2 m c t k b k ⟨2816 + (1408 * (t.val / 16) + b.val), by omega⟩ rfl rfl]

end Cert.KernelFwdUpIdeal.Hand

end
-- ==== Proof.FwdDown.lean ====
module

public import proofs.«01_k».proof.Proof.Gen.KernelFwdDownIdeal.Value
public import proofs.«01_k».proof.Proof.Gen.ReferenceFwdDownIdeal.Read
public import Idealize.ShloMosaic.Lib.Pointwise
public import Idealize.ShloMosaic.Lib.Pipeline.ValueKit.Geometry

@[expose] public section

set_option maxRecDepth 16384

noncomputable section

namespace Cert.KernelFwdDownIdeal.Hand

open Cert.KernelFwdDownIdeal Cert.KernelFwdDownIdeal.Gen Cert.KernelFwdDownIdeal.Value Idealize.ShloMosaic

variable (m : (ℓ : Loc nD τ sig) → Buf (Elt Ideal) ℓ) (c : Dev nD)

abbrev X0 : FVec Ideal S16384x2816 .bf16 := m ((c.tc : Thread nD τ).loc main_arg0)
abbrev X1 : FVec Ideal S2816x1024 .bf16 := m ((c.tc : Thread nD τ).loc main_arg1)
abbrev X2 : FVec Ideal S16384x1024 .f32 := m ((c.tc : Thread nD τ).loc main_arg2)

theorem pay1_is (x : Vec Ideal S1024x2816 .bf16) (w : Vec Ideal S2816x1024 .bf16) (z : Vec Ideal S1024x1024 .f32) (a b : Fin 1024) :
    k0_pay1 (F := Ideal) x w z (ix2 a b) = (∑ k : Fin 2816, x (ix2 a k) * w (ix2 k b)) + z (ix2 a b) := by
  pointwise [k0_pay1]
open Cert.ReferenceFwdDownIdeal.Read in
theorem ref3_is (x : FVec Ideal S16384x2816 .bf16) (w : FVec Ideal S2816x1024 .bf16) (z : FVec Ideal S16384x1024 .f32) (a : Fin 16384) (b : Fin 1024) :
    val_main_v3 (F := Ideal) x w z (ix2 a b) = z (ix2 a b) + ∑ k : Fin 2816, x (ix2 a k) * w (ix2 k b) := by
  pointwise [val_main_v3, val_main_v2, val_main_v1, val_main_v0]

theorem ix_0 : ∀ t : Fin grid0.N, win0_0.index t = ![t.val, 0] := by decide +kernel
theorem ix_1 : ∀ t : Fin grid0.N, win0_1.index t = ![0, 0] := by decide +kernel
theorem ix_2 : ∀ t : Fin grid0.N, win0_2.index t = ![t.val, 0] := by decide +kernel
theorem ix_3 : ∀ t : Fin grid0.N, win0_3.index t = ![t.val, 0] := by decide +kernel

theorem blk_0 (t : Fin cfg0.N) (a : Fin 1024) (b : Fin 2816) (r : Fin 16384) (s : Fin 2816) (hr : r.val = 1024 * t.val + a.val) (hs : s.val = b.val) :
    iblk m c 0 t (ix2 (n0 := 1024) (n1 := 2816) a b) = X0 m c (ix2 r s) := by
  have e : (win0_0.blk t).view.emb (ix2 (n0 := 1024) (n1 := 2816) a b) = ix2 (n0 := 16384) (n1 := 2816) r s := by
    blk_ext [ix_0]
  have d : iblk m c 0 t (ix2 (n0 := 1024) (n1 := 2816) a b) = X0 m c ((win0_0.blk t).view.emb (ix2 (n0 := 1024) (n1 := 2816) a b)) := by
    show V m c main_arg0 _ = _
    rw [V_main_arg0]
  rw [d, e]
theorem blk_1 (t : Fin cfg0.N) (a : Fin 2816) (b : Fin 1024) (r : Fin 2816) (s : Fin 1024) (hr : r.val = a.val) (hs : s.val = b.val) :
    iblk m c 1 t (ix2 (n0 := 2816) (n1 := 1024) a b) = X1 m c (ix2 r s) := by
  have e : (win0_1.blk t).view.emb (ix2 (n0 := 2816) (n1 := 1024) a b) = ix2 (n0 := 2816) (n1 := 1024) r s := by
    blk_ext [ix_1]
  have d : iblk m c 1 t (ix2 (n0 := 2816) (n1 := 1024) a b) = X1 m c ((win0_1.blk t).view.emb (ix2 (n0 := 2816) (n1 := 1024) a b)) := by
    show V m c main_arg1 _ = _
    rw [V_main_arg1]
  rw [d, e]
theorem blk_2 (t : Fin cfg0.N) (a : Fin 1024) (b : Fin 1024) (r : Fin 16384) (s : Fin 1024) (hr : r.val = 1024 * t.val + a.val) (hs : s.val = b.val) :
    iblk m c 2 t (ix2 (n0 := 1024) (n1 := 1024) a b) = X2 m c (ix2 r s) := by
  have e : (win0_2.blk t).view.emb (ix2 (n0 := 1024) (n1 := 1024) a b) = ix2 (n0 := 16384) (n1 := 1024) r s := by
    blk_ext [ix_2]
  have d : iblk m c 2 t (ix2 (n0 := 1024) (n1 := 1024) a b) = X2 m c ((win0_2.blk t).view.emb (ix2 (n0 := 1024) (n1 := 1024) a b)) := by
    show V m c main_arg2 _ = _
    rw [V_main_arg2]
  rw [d, e]

theorem hz : (![0, 0] : Fin 2 → Nat) = fun _ => 0 := funext fun a => by fin_cases a <;> rfl

theorem out3_is (x0 : Vec Ideal S1024x2816 .bf16) (x1 : Vec Ideal S2816x1024 .bf16) (x2 : Vec Ideal S1024x1024 .f32) : out0_3 x0 x1 x2 = k0_pay1 x0 x1 x2 := by
  unfold out0_3 r0_0 r0_1 r0_2
  rw [View.canon_unit_zero hz, View.ld_unit_zero (S := S1024x2816) hz, View.ld_unit_zero (S := S2816x1024) hz, View.ld_unit_zero (S := S1024x1024) hz]

/-! Every entry of the output lies in the block of some grid point. -/

theorem mem_blk3 (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl
theorem cover3 (i : S16384x1024.Idx) : ∃ t : Fin cfg0.N, (cfg0.win 3).flush t = true ∧ i ∈ ((cfg0.win 3).blk t).view.set := by
  have h0 : (i 0).val < 16384 := (i 0).isLt
  have h1 : (i 1).val < 1024 := (i 1).isLt
  refine ⟨⟨(i 0).val / 1024, by rw [show cfg0.N = 16 from rfl]; omega⟩, flush0_3 _, ?_⟩
  rw [mem_blk3]
  intro a
  match a with
  | ⟨0, _⟩ => show win0_3.index _ 0 * 1024 ≤ (i 0).val ∧ (i 0).val < win0_3.index _ 0 * 1024 + 1024; rw [ix_3]; dsimp; omega
  | ⟨1, _⟩ => show win0_3.index _ 1 * 1024 ≤ (i 1).val ∧ (i 1).val < win0_3.index _ 1 * 1024 + 1024; rw [ix_3]; dsimp; omega

/-- The residual stream. -/
theorem equal : (dats m 0 c).arrAt 3 cfg0.N = Cert.ReferenceFwdDownIdeal.Read.val_main_v3 (F := Ideal) (X0 m c) (X1 m c) (X2 m c) := by
  refine (dats m 0 c).arrAt_eq_of_cover 3 _ (fun t _ => ?_) (fun i => cover3 i)
  have ht : t.val < 16 := t.isLt
  rw [flushed3]
  funext y
  obtain ⟨a, b, rfl⟩ : ∃ (a : Fin 1024) (b : Fin 1024), y = ix2 a b := ⟨y 0, y 1, eq_ix2 y⟩
  have e : (win0_3.blk t).view.emb (ix2 (n0 := 1024) (n1 := 1024) a b) = ix2 (n0 := 16384) (n1 := 1024) ⟨1024 * t.val + a.val, by omega⟩ ⟨b.val, by omega⟩ := by
    blk_ext [ix_3]
  show out0_3 (iblk m c 0 t) (iblk m c 1 t) (iblk m c 2 t) (ix2 (n0 := 1024) (n1 := 1024) a b)
    = Cert.ReferenceFwdDownIdeal.Read.val_main_v3 (F := Ideal) (X0 m c) (X1 m c) (X2 m c) ((win0_3.blk t).view.emb (ix2 (n0 := 1024) (n1 := 1024) a b))
  rw [e, ref3_is, out3_is, pay1_is, blk_2 m c t a b ⟨1024 * t.val + a.val, by omega⟩ b rfl rfl]
  simp only [fun k => blk_0 m c t a k ⟨1024 * t.val + a.val, by omega⟩ k rfl rfl, fun k => blk_1 m c t k b k b rfl rfl]
  exact add_comm _ _

end Cert.KernelFwdDownIdeal.Hand

end
-- ==== Proof.AttnRun.lean ====
module

public import proofs.«01_k».proof.Proof.Gen.KernelAttnIdeal.Value
public import Idealize.ShloMosaic.Lib.Pipeline.ValueKit.Geometry
public import Idealize.ShloMosaic.Lib.Pipeline.ValueKit.Tiles
public import Idealize.ShloMosaic.Lib.Pointwise

@[expose] public section

set_option maxRecDepth 16384

noncomputable section

namespace Cert.KernelAttnIdeal.Hand

open Cert.KernelAttnIdeal Cert.KernelAttnIdeal.Gen Cert.KernelAttnIdeal.Value Idealize.ShloMosaic

/-! What a grid point leaves in the blocks of the two outputs: the loop over the earlier key blocks, the diagonal block, the stores. -/

theorem coord1 : ∀ t : Fin grid0.N, (grid0.coords t 1).val = t.val % 16 := by decide +kernel
theorem trips1 : ∀ i : grid0.Coords, (k0_t1_loop i).trips = (i 1).val := by decide +kernel
theorem trips2 : ∀ i : grid0.Coords, (k0_t2_loop i).trips = 0 := by decide +kernel
theorem off1 : ∀ (i : grid0.Coords) (k : Fin (k0_t1_loop i).trips), k0_off1 i k = ![1024 * k.val, 0] := by decide +kernel
theorem off2 : ∀ (i : grid0.Coords) (k : Fin (k0_t1_loop i).trips), k0_off2 i k = ![1024 * k.val, 128] := by decide +kernel
theorem off5 : ∀ i : grid0.Coords, k0_off5 i = ![1024 * (i 1).val, 0] := by decide +kernel
theorem off6 : ∀ i : grid0.Coords, k0_off6 i = ![1024 * (i 1).val, 128] := by decide +kernel

/-- The running top and sums of the two heads. -/
abbrev Carry : Type := FVec Ideal S1024x1 .f32 × FVec Ideal S1024x128 .f32 × FVec Ideal S1024x1 .f32 × FVec Ideal S1024x128 .f32

/-- A block of 1024 rows and a head's 128 lanes. -/
def piece (x : Vec Ideal S16384x256 .bf16) (n o : ℕ) : Vec Ideal S1024x128 .bf16 :=
  fun y => x (ix2 (n0 := 16384) (n1 := 256) ⟨(1024 * n + (y 0).val) % 16384, Nat.mod_lt _ (by norm_num)⟩ ⟨(o + (y 1).val) % 256, Nat.mod_lt _ (by norm_num)⟩)
/-- A head's query lanes. -/
def qpiece (x : Vec Ideal S1024x256 .bf16) (o : ℕ) : Vec Ideal S1024x128 .bf16 :=
  fun y => x (ix2 (n0 := 1024) (n1 := 256) (y 0) ⟨(o + (y 1).val) % 256, Nat.mod_lt _ (by norm_num)⟩)

abbrev Head : Type := FVec Ideal S1024x1 .f32 × FVec Ideal S1024x128 .f32

/-- One head's step over a key block, and over the diagonal one. -/
def stepA (v kb vb : Vec Ideal S1024x128 .bf16) (a : Head) : Head := (k0_pay5 v a.1 kb, k0_pay6 v a.1 a.2 kb vb)
def stepB (v kb vb : Vec Ideal S1024x128 .bf16) (a : Head) : Head := (k0_pay28 v a.1 kb, k0_pay29 v a.1 a.2 kb vb)

/-- A head after the first `n` key blocks. -/
def run (v : Vec Ideal S1024x128 .bf16) (x1 x2 : Vec Ideal S16384x256 .bf16) (o : ℕ) : ℕ → Head
  | 0 => (k0_pay18, k0_pay19)
  | n + 1 => stepA v (piece x1 n o) (piece x2 n o) (run v x1 x2 o n)

theorem ld_piece (x : Vec Ideal S16384x256 .bf16) (off : Fin 2 → ℕ) (n o : ℕ) (ho : off = ![1024 * n, o])
    (inb : ∀ a, off a + S1024x128.size a ≤ S16384x256.size a) :
    View.ld x (Rect.unit (s := S16384x256) off S1024x128.size inb) = piece x n o := by
  subst ho
  have h0 : 1024 * n + 1024 ≤ 16384 := inb 0
  have h1 : o + 128 ≤ 256 := inb 1
  funext y
  have y0 : (y 0).val < 1024 := (y 0).isLt
  have y1 : (y 1).val < 128 := (y 1).isLt
  exact View.ld_unit_apply_of _ _ _ _ _ _ fun a => by
    match a with
    | ⟨0, _⟩ => exact Nat.mod_eq_of_lt (show 1024 * n + (y 0).val < 16384 by omega)
    | ⟨1, _⟩ => exact Nat.mod_eq_of_lt (show o + (y 1).val < 256 by omega)
theorem ld_qpiece (x : Vec Ideal S1024x256 .bf16) (o : ℕ)
    (inb : ∀ a, (![0, o] : Fin 2 → ℕ) a + S1024x128.size a ≤ S1024x256.size a) :
    View.ld x (Rect.unit (s := S1024x256) ![0, o] S1024x128.size inb) = qpiece x o := by
  have h1 : o + 128 ≤ 256 := inb 1
  funext y
  have y1 : (y 1).val < 128 := (y 1).isLt
  exact View.ld_unit_apply_of _ _ _ _ _ _ fun a => by
    match a with
    | ⟨0, _⟩ => exact (Nat.zero_add _).symm
    | ⟨1, _⟩ => exact Nat.mod_eq_of_lt (show o + (y 1).val < 256 by omega)

theorem trip_is (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .hbm S16384x1536 .bf16) (harg5 : arg5.IsWhole) (arg6 : Memref sig .tc .vmem S1024x256 .bf16) (harg6 : arg6.IsWhole) (arg7 : Memref sig .tc .vmem S2x8x1024 .f32) (harg7 : arg7.IsWhole) (v0 : Vec Ideal S1024x128 .bf16) (v1 : Vec Ideal S1024x128 .bf16)
    (x1 x2 : Vec Ideal S16384x256 .bf16) (k : Fin (k0_t1_loop i).trips) (acc : Carry) :
    tripR_k0_t1 (F := Ideal) 𝒱 c bd i arg2 harg2 arg3 harg3 arg4 harg4 arg5 harg5 arg6 harg6 arg7 harg7 v0 v1 (harg3.unread x1) (harg4.unread x2) k acc
      = ((stepA v0 (piece x1 k 0) (piece x2 k 0) (acc.1, acc.2.1)).1, (stepA v0 (piece x1 k 0) (piece x2 k 0) (acc.1, acc.2.1)).2,
          (stepA v1 (piece x1 k 128) (piece x2 k 128) acc.2.2).1, (stepA v1 (piece x1 k 128) (piece x2 k 128) acc.2.2).2) := by
  have e1 := ld_piece x1 _ _ _ (off1 i k) (k0_off1_inb i k)
  have e2 := ld_piece x2 _ _ _ (off1 i k) (k0_off1_inb i k)
  have e3 := ld_piece x1 _ _ _ (off2 i k) (k0_off2_inb i k)
  have e4 := ld_piece x2 _ _ _ (off2 i k) (k0_off2_inb i k)
  rw [← e1, ← e2, ← e3, ← e4]
  unfold tripR_k0_t1 trip_k0_t1
  dsimp only
  sl_unfold_words
  simp only [View.readAt_eq_ld, harg3.read_unread, harg4.read_unread]
  rfl

theorem st_is (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .hbm S16384x1536 .bf16) (harg5 : arg5.IsWhole) (arg6 : Memref sig .tc .vmem S1024x256 .bf16) (harg6 : arg6.IsWhole) (arg7 : Memref sig .tc .vmem S2x8x1024 .f32) (harg7 : arg7.IsWhole) (v0 : Vec Ideal S1024x128 .bf16) (v1 : Vec Ideal S1024x128 .bf16)
    (x1 x2 : Vec Ideal S16384x256 .bf16) (n : ℕ) (hn : n ≤ (k0_t1_loop i).trips) :
    st_k0_t1 (F := Ideal) 𝒱 c bd i arg2 harg2 arg3 harg3 arg4 harg4 arg5 harg5 arg6 harg6 arg7 harg7 v0 v1 (harg3.unread x1) (harg4.unread x2) (k0_pay18, k0_pay19, k0_pay18, k0_pay19) n
      = ((run v0 x1 x2 0 n).1, (run v0 x1 x2 0 n).2, (run v1 x1 x2 128 n).1, (run v1 x1 x2 128 n).2) := by
  induction n with
  | zero => rfl
  | succ n ih =>
    rw [st_k0_t1_succ _ _ _ _ _ _ _ _ _ _ _ _ _ _ _ _ _ _ _ _ _ ⟨n, hn⟩, ih (Nat.le_of_succ_le hn), trip_is]
    rfl

/-- A head at the point: after the earlier key blocks and the diagonal one. -/
def fin (i : grid0.Coords) (x0 : Vec Ideal S1024x256 .bf16) (x1 x2 : Vec Ideal S16384x256 .bf16) (o : ℕ) : Head :=
  stepB (qpiece x0 o) (piece x1 (i 1).val o) (piece x2 (i 1).val o) (run (qpiece x0 o) x1 x2 o (i 1).val)

theorem fin_a (c : Dev nD) (i : grid0.Coords) (a2 : Memref sig .tc .vmem S1024x256 .bf16) (h2 : a2.IsWhole) (a3 : Memref sig .tc .vmem S16384x256 .bf16) (h3 : a3.IsWhole) (a4 : Memref sig .tc .vmem S16384x256 .bf16) (h4 : a4.IsWhole) (a6 : Memref sig .tc .vmem S1024x256 .bf16) (h6 : a6.IsWhole) (a7 : Memref sig .tc .vmem S2x8x1024 .f32) (h7 : a7.IsWhole)
    (x0 : Vec Ideal S1024x256 .bf16) (x1 x2 : Vec Ideal S16384x256 .bf16) :
    fin i x0 x1 x2 0 = stepB (View.ld x0 (Rect.unit (s := S1024x256) ![0, 0] S1024x128.size inb_S1024x256_S1024x128_0_0)) (View.ld x1 (Rect.unit (s := S16384x256) (k0_off5 i) S1024x128.size (k0_off5_inb i))) (View.ld x2 (Rect.unit (s := S16384x256) (k0_off5 i) S1024x128.size (k0_off5_inb i))) ((st_k0_t1 (F := Ideal) Variants.none c none i a2 h2 a3 h3 a4 h4 (Memref.whole main_arg3) (Memref.isWhole_whole _) a6 h6 a7 h7 (View.ld x0 (Rect.unit (s := S1024x256) ![0, 0] S1024x128.size inb_S1024x256_S1024x128_0_0)) (View.ld x0 (Rect.unit (s := S1024x256) ![0, 128] S1024x128.size inb_S1024x256_S1024x128_0_128)) (h3.unread x1) (h4.unread x2) (k0_pay18, k0_pay19, k0_pay18, k0_pay19) (i 1).val).1, (st_k0_t1 (F := Ideal) Variants.none c none i a2 h2 a3 h3 a4 h4 (Memref.whole main_arg3) (Memref.isWhole_whole _) a6 h6 a7 h7 (View.ld x0 (Rect.unit (s := S1024x256) ![0, 0] S1024x128.size inb_S1024x256_S1024x128_0_0)) (View.ld x0 (Rect.unit (s := S1024x256) ![0, 128] S1024x128.size inb_S1024x256_S1024x128_0_128)) (h3.unread x1) (h4.unread x2) (k0_pay18, k0_pay19, k0_pay18, k0_pay19) (i 1).val).2.1) := by
  have es := st_is Variants.none c none i a2 h2 a3 h3 a4 h4 (Memref.whole main_arg3) (Memref.isWhole_whole _) a6 h6 a7 h7 (qpiece x0 0) (qpiece x0 128) x1 x2 _ le_rfl
  rw [trips1] at es
  rw [ld_piece x1 _ _ _ (off5 i), ld_piece x2 _ _ _ (off5 i), ld_qpiece, ld_qpiece, es]
  rfl

theorem fin_b (c : Dev nD) (i : grid0.Coords) (a2 : Memref sig .tc .vmem S1024x256 .bf16) (h2 : a2.IsWhole) (a3 : Memref sig .tc .vmem S16384x256 .bf16) (h3 : a3.IsWhole) (a4 : Memref sig .tc .vmem S16384x256 .bf16) (h4 : a4.IsWhole) (a6 : Memref sig .tc .vmem S1024x256 .bf16) (h6 : a6.IsWhole) (a7 : Memref sig .tc .vmem S2x8x1024 .f32) (h7 : a7.IsWhole)
    (x0 : Vec Ideal S1024x256 .bf16) (x1 x2 : Vec Ideal S16384x256 .bf16) :
    fin i x0 x1 x2 128 = stepB (View.ld x0 (Rect.unit (s := S1024x256) ![0, 128] S1024x128.size inb_S1024x256_S1024x128_0_128)) (View.ld x1 (Rect.unit (s := S16384x256) (k0_off6 i) S1024x128.size (k0_off6_inb i))) (View.ld x2 (Rect.unit (s := S16384x256) (k0_off6 i) S1024x128.size (k0_off6_inb i))) ((st_k0_t1 (F := Ideal) Variants.none c none i a2 h2 a3 h3 a4 h4 (Memref.whole main_arg3) (Memref.isWhole_whole _) a6 h6 a7 h7 (View.ld x0 (Rect.unit (s := S1024x256) ![0, 0] S1024x128.size inb_S1024x256_S1024x128_0_0)) (View.ld x0 (Rect.unit (s := S1024x256) ![0, 128] S1024x128.size inb_S1024x256_S1024x128_0_128)) (h3.unread x1) (h4.unread x2) (k0_pay18, k0_pay19, k0_pay18, k0_pay19) (i 1).val).2.2.1, (st_k0_t1 (F := Ideal) Variants.none c none i a2 h2 a3 h3 a4 h4 (Memref.whole main_arg3) (Memref.isWhole_whole _) a6 h6 a7 h7 (View.ld x0 (Rect.unit (s := S1024x256) ![0, 0] S1024x128.size inb_S1024x256_S1024x128_0_0)) (View.ld x0 (Rect.unit (s := S1024x256) ![0, 128] S1024x128.size inb_S1024x256_S1024x128_0_128)) (h3.unread x1) (h4.unread x2) (k0_pay18, k0_pay19, k0_pay18, k0_pay19) (i 1).val).2.2.2) := by
  have es := st_is Variants.none c none i a2 h2 a3 h3 a4 h4 (Memref.whole main_arg3) (Memref.isWhole_whole _) a6 h6 a7 h7 (qpiece x0 0) (qpiece x0 128) x1 x2 _ le_rfl
  rw [trips1] at es
  rw [ld_piece x1 _ _ _ (off6 i), ld_piece x2 _ _ _ (off6 i), ld_qpiece, ld_qpiece, es]
  rfl

theorem left_3 (c : Dev nD) (i : grid0.Coords) (a2 : Memref sig .tc .vmem S1024x256 .bf16) (h2 : a2.IsWhole) (a3 : Memref sig .tc .vmem S16384x256 .bf16) (h3 : a3.IsWhole) (a4 : Memref sig .tc .vmem S16384x256 .bf16) (h4 : a4.IsWhole) (a6 : Memref sig .tc .vmem S1024x256 .bf16) (h6 : a6.IsWhole) (a7 : Memref sig .tc .vmem S2x8x1024 .f32) (h7 : a7.IsWhole)
    (x0 : Vec Ideal S1024x256 .bf16) (x1 x2 : Vec Ideal S16384x256 .bf16) :
    out0_A_3 c i a2 h2 a3 h3 a4 h4 a6 h6 a7 h7 x0 x1 x2
      = View.canon [⟨Rect.unit (s := S1024x256) ![0, 128] S1024x128.size inb_S1024x256_S1024x128_0_128, k0_pay2 (F := Ideal) (fin i x0 x1 x2 128).2⟩,
          ⟨Rect.unit (s := S1024x256) ![0, 0] S1024x128.size inb_S1024x256_S1024x128_0_0, k0_pay2 (F := Ideal) (fin i x0 x1 x2 0).2⟩] := by
  unfold out0_A_3
  rw [View.read_writes_eq_canon _ _ _ (cover0_A_3 c i a2 h2 a3 h3 a4 h4 a6 h6 a7 h7 x0 x1 x2)]
  have ha := fin_a c i a2 h2 a3 h3 a4 h4 a6 h6 a7 h7 x0 x1 x2
  have hb := fin_b c i a2 h2 a3 h3 a4 h4 a6 h6 a7 h7 x0 x1 x2
  rw [ha, hb]
  unfold kernelRun0_A
  dsimp only
  sl_unfold_words
  simp only [View.readAt_eq_ld, h2.read_unread, h3.read_unread, h4.read_unread, shapeCast_self]
  have hs : Scf.trips (0#32) (Scalar.addi (0#32) (Scalar.muli (Scalar.divsi (Scalar.subi (BitVec.ofNat 32 (i 1).val) 0#32) 1#32) 1#32)) 1#32 = (i 1).val := trips1 i
  have ht : Scf.trips (Scalar.addi (0#32) (Scalar.muli (Scalar.divsi (Scalar.subi (BitVec.ofNat 32 (i 1).val) 0#32) 1#32) 1#32)) (Scalar.addi (0#32) (Scalar.subi (BitVec.ofNat 32 (i 1).val) 0#32)) 1#32 = 0 := trips2 i
  rw [hs, ht]
  simp only [st_k0_t2_zero]
  rfl

theorem left_4 (c : Dev nD) (i : grid0.Coords) (a2 : Memref sig .tc .vmem S1024x256 .bf16) (h2 : a2.IsWhole) (a3 : Memref sig .tc .vmem S16384x256 .bf16) (h3 : a3.IsWhole) (a4 : Memref sig .tc .vmem S16384x256 .bf16) (h4 : a4.IsWhole) (a6 : Memref sig .tc .vmem S1024x256 .bf16) (h6 : a6.IsWhole) (a7 : Memref sig .tc .vmem S2x8x1024 .f32) (h7 : a7.IsWhole)
    (x0 : Vec Ideal S1024x256 .bf16) (x1 x2 : Vec Ideal S16384x256 .bf16) :
    out0_A_4 c i a2 h2 a3 h3 a4 h4 a6 h6 a7 h7 x0 x1 x2
      = View.canon [⟨Rect.unit (s := S2x8x1024) ![1, 0, 0] S1x8x1024.size inb_S2x8x1024_S1x8x1024_1_0_0, k0_pay3 (F := Ideal) (fin i x0 x1 x2 128).1 (fin i x0 x1 x2 128).2⟩,
          ⟨Rect.unit (s := S2x8x1024) ![0, 0, 0] S1x8x1024.size inb_S2x8x1024_S1x8x1024_0_0_0, k0_pay3 (F := Ideal) (fin i x0 x1 x2 0).1 (fin i x0 x1 x2 0).2⟩] := by
  unfold out0_A_4
  rw [View.read_writes_eq_canon _ _ _ (cover0_A_4 c i a2 h2 a3 h3 a4 h4 a6 h6 a7 h7 x0 x1 x2)]
  have ha := fin_a c i a2 h2 a3 h3 a4 h4 a6 h6 a7 h7 x0 x1 x2
  have hb := fin_b c i a2 h2 a3 h3 a4 h4 a6 h6 a7 h7 x0 x1 x2
  rw [ha, hb]
  unfold kernelRun0_A
  dsimp only
  sl_unfold_words
  simp only [View.readAt_eq_ld, h2.read_unread, h3.read_unread, h4.read_unread, shapeCast_self]
  have hs : Scf.trips (0#32) (Scalar.addi (0#32) (Scalar.muli (Scalar.divsi (Scalar.subi (BitVec.ofNat 32 (i 1).val) 0#32) 1#32) 1#32)) 1#32 = (i 1).val := trips1 i
  have ht : Scf.trips (Scalar.addi (0#32) (Scalar.muli (Scalar.divsi (Scalar.subi (BitVec.ofNat 32 (i 1).val) 0#32) 1#32) 1#32)) (Scalar.addi (0#32) (Scalar.subi (BitVec.ofNat 32 (i 1).val) 0#32)) 1#32 = 0 := trips2 i
  rw [hs, ht]
  simp only [st_k0_t2_zero]
  rfl

end Cert.KernelAttnIdeal.Hand

end
-- ==== Proof.AttnPay.lean ====
module

public import proofs.«01_k».proof.Proof.AttnRun

@[expose] public section

set_option maxRecDepth 16384

noncomputable section

namespace Cert.KernelAttnIdeal.Hand

open Cert.KernelAttnIdeal Cert.KernelAttnIdeal.Gen Idealize.ShloMosaic

/-- A diagonal block's score: the keys after the query are left out. -/
def low (s : Ideal .f32) (x a : Fin 1024) : Ideal .f32 :=
  Scalar.select (IntOp.cmpi CmpIPredicate.sle (BitVec.ofNat 32 ↑x) (BitVec.ofNat 32 ↑a)) s (Named.named κ "mask" 4048155338#32)

theorem pay5_is (v kb : Vec Ideal S1024x128 .bf16) (mt : FVec Ideal S1024x1 .f32) (a : Fin 1024) :
    k0_pay5 v mt kb (ix2 a 0) = max (mt (ix2 a 0)) (Finset.fold max (Ideal.ofBits FTy.f32 4286578688#32)
      (fun x : Fin 1024 => ∑ y : Fin 128, v (ix2 a y) * kb (ix2 x y)) Finset.univ) := by
  pointwise [k0_pay5, k0_pay4]
theorem pay6_is (v kb vb : Vec Ideal S1024x128 .bf16) (mt : FVec Ideal S1024x1 .f32) (u : FVec Ideal S1024x128 .f32) (a : Fin 1024) (d : Fin 128) :
    k0_pay6 v mt u kb vb (ix2 a d)
      = Ideal.exp2 ((mt (ix2 a 0) - k0_pay5 v mt kb (ix2 a 0)) * (Named.named κ "scale2" 1041680192#32 : Ideal .f32)) * u (ix2 a d)
        + ∑ x : Fin 1024, Ideal.exp2 ((∑ y : Fin 128, v (ix2 a y) * kb (ix2 x y) - k0_pay5 v mt kb (ix2 a 0)) * (Named.named κ "scale2" 1041680192#32 : Ideal .f32))
            * vb (ix2 x d) := by
  pointwise [k0_pay6, k0_pay4]
  rfl
theorem pay28_is (v kb : Vec Ideal S1024x128 .bf16) (mt : FVec Ideal S1024x1 .f32) (a : Fin 1024) :
    k0_pay28 v mt kb (ix2 a 0) = max (mt (ix2 a 0)) (Finset.fold max (Ideal.ofBits FTy.f32 4286578688#32)
      (fun x : Fin 1024 => low (∑ y : Fin 128, v (ix2 a y) * kb (ix2 x y)) x a) Finset.univ) := by
  pointwise [k0_pay28, k0_pay27]
  rfl
theorem pay29_is (v kb vb : Vec Ideal S1024x128 .bf16) (mt : FVec Ideal S1024x1 .f32) (u : FVec Ideal S1024x128 .f32) (a : Fin 1024) (d : Fin 128) :
    k0_pay29 v mt u kb vb (ix2 a d)
      = Ideal.exp2 ((mt (ix2 a 0) - k0_pay28 v mt kb (ix2 a 0)) * (Named.named κ "scale2" 1041680192#32 : Ideal .f32)) * u (ix2 a d)
        + ∑ x : Fin 1024, Ideal.exp2 ((low (∑ y : Fin 128, v (ix2 a y) * kb (ix2 x y)) x a - k0_pay28 v mt kb (ix2 a 0)) * (Named.named κ "scale2" 1041680192#32 : Ideal .f32))
            * vb (ix2 x d) := by
  pointwise [k0_pay29, k0_pay27]
  rfl
theorem pay2_is (u : FVec Ideal S1024x128 .f32) (a : Fin 1024) (d : Fin 128) :
    k0_pay2 u (ix2 a d) = Ideal.div (u (ix2 a d)) (u (ix2 a 64)) := by
  pointwise [k0_pay2, k0_pay1]
theorem pay3_is (mt : FVec Ideal S1024x1 .f32) (u : FVec Ideal S1024x128 .f32) (z : Fin 1) (r : Fin 8) (a : Fin 1024) :
    k0_pay3 mt u (ix3 z r a) = mt (ix2 a 0) * Named.named κ "scale" 1037108716#32 + Ideal.log (u (ix2 a 64)) := by
  obtain rfl : z = 0 := Subsingleton.elim _ _
  pointwise [k0_pay3, k0_pay1]
theorem pay18_is (a : Fin 1024) : k0_pay18 (F := Ideal) (ix2 a 0) = Named.named κ "mask" 4048155338#32 := by
  pointwise [k0_pay18]
theorem pay19_is (a : Fin 1024) (d : Fin 128) : k0_pay19 (F := Ideal) (ix2 a d) = 0 := by
  pointwise [k0_pay19]

end Cert.KernelAttnIdeal.Hand

end
-- ==== Proof.AttnSum.lean ====
module

public import proofs.«01_k».proof.Proof.Host

@[expose] public section

set_option maxRecDepth 16384

noncomputable section

namespace Cert.KernelAttnIdeal.Hand

open Cert.KernelIdeal.Hand (scl l2e scl_pos l2e_pos rpow_l2e coe_sum expo tot top tot_pos masked log_real)
open Idealize.ShloMosaic

/-- Row `i`: the unnormalised weight of key `j` against `μ`, and its score before the scale. -/
def wt (s : ℕ → ℝ) (i : ℕ) (μ : ℝ) (j : ℕ) : ℝ := if j ≤ i then Real.exp ((s j - μ) * scl) else 0
def ms (s : ℕ → ℝ) (i j : ℕ) : EReal := if j ≤ i then ((s j : ℝ) : EReal) else ⊥

theorem exp2_coe (x : ℝ) : Ideal.exp2 ((x : EReal) * ((scl * l2e : ℝ) : EReal)) = ((Real.exp (x * scl) : ℝ) : EReal) := by
  rw [← EReal.coe_mul, ← mul_assoc]
  show ((Real.rpow 2 (x * scl * l2e) : ℝ) : EReal) = _
  rw [rpow_l2e]

theorem exp2_wt (s : ℕ → ℝ) (i : ℕ) (μ : ℝ) (j : ℕ) :
    Ideal.exp2 ((ms s i j - ((μ : ℝ) : EReal)) * ((scl * l2e : ℝ) : EReal)) = ((wt s i μ j : ℝ) : EReal) := by
  unfold ms wt
  split
  · rw [← EReal.coe_sub, exp2_coe]
  · rw [EReal.bot_sub, EReal.bot_mul_coe_of_pos (mul_pos scl_pos l2e_pos)]; rfl

theorem max_real (m : EReal) (hm : m < ⊤) (t : Fin 1024 → EReal) (ht : ∀ x, t x < ⊤) (h0 : ⊥ < t 0) :
    ∃ μ : ℝ, max m (Finset.fold max (⊥ : EReal) t Finset.univ) = ((μ : ℝ) : EReal) := by
  refine ⟨_, (EReal.coe_toReal ?_ ?_).symm⟩
  · exact ne_of_lt (max_lt hm ((Finset.fold_max_lt _).mpr ⟨bot_lt_top, fun j _ => ht j⟩))
  · exact ne_of_gt (lt_of_lt_of_le h0 (le_max_of_le_right (Finset.le_fold_max _ |>.mpr (Or.inr ⟨0, Finset.mem_univ _, le_rfl⟩))))

theorem sum_left (r : ℝ) (hr : 0 ≤ r) (s : Finset ℕ) (f : ℕ → EReal) : (r : EReal) * ∑ k ∈ s, f k = ∑ k ∈ s, (r : EReal) * f k := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- After `N` keys: the running maximum is some real (or no key was seen), the sums are weighted against it. -/
def At (s : ℕ → ℝ) (i : ℕ) (V : ℕ → Fin 128 → EReal) (N : ℕ) (m : EReal) (u : Fin 128 → EReal) : Prop :=
  ∃ μ : ℝ, (m = ((μ : ℝ) : EReal) ∨ (N = 0 ∧ m = ⊥)) ∧ ∀ d, u d = ∑ k ∈ Finset.range N, ((wt s i μ k : ℝ) : EReal) * V k d

variable {s : ℕ → ℝ} {i : ℕ} {V : ℕ → Fin 128 → EReal} {N : ℕ} {m m' : EReal} {u u' : Fin 128 → EReal}

theorem At.zero : At s i V 0 ⊥ fun _ => 0 := ⟨0, Or.inr ⟨rfl, rfl⟩, fun d => by simp⟩

theorem At.step (h : At s i V N m u) (hN : N ≤ i) (t : Fin 1024 → EReal) (ht : ∀ x, t x = ms s i (N + x.val))
    (hm : m' = max m (Finset.fold max (⊥ : EReal) t Finset.univ))
    (hu : ∀ d, u' d = Ideal.exp2 ((m - m') * ((scl * l2e : ℝ) : EReal)) * u d
      + ∑ x : Fin 1024, Ideal.exp2 ((t x - m') * ((scl * l2e : ℝ) : EReal)) * V (N + x.val) d) :
    At s i V (N + 1024) m' u' := by
  obtain ⟨μ, h1, h2⟩ := h
  have hlt : m < ⊤ := by
    rcases h1 with rfl | ⟨_, rfl⟩
    · exact EReal.coe_lt_top _
    · exact bot_lt_top
  obtain ⟨ν, hν⟩ := max_real m hlt t
    (fun x => by rw [ht]; unfold ms; split; exacts [EReal.coe_lt_top _, bot_lt_top])
    (by rw [ht]; unfold ms; rw [if_pos (by simpa using hN)]; exact EReal.bot_lt_coe _)
  rw [hν] at hm
  subst hm
  refine ⟨ν, Or.inl rfl, fun d => ?_⟩
  rw [hu, Finset.sum_range_add, Finset.sum_range (n := 1024)]
  congr 1
  · rcases h1 with rfl | ⟨rfl, rfl⟩
    · rw [h2, ← EReal.coe_sub, exp2_coe, sum_left _ (Real.exp_pos _).le]
      refine Finset.sum_congr rfl fun k _ => ?_
      rw [← mul_assoc, ← EReal.coe_mul]
      congr 2
      unfold wt
      split
      · rw [← Real.exp_add]; congr 1; ring
      · rw [mul_zero]
    · rw [h2]; simp
  · exact Finset.sum_congr rfl fun x _ => by rw [ht, exp2_wt]

theorem wt_expo (s : ℕ → ℝ) (i : ℕ) (μ : ℝ) (j : ℕ) :
    wt s i μ j = Real.exp (top (fun j => s j * scl) i - μ * scl) * expo (fun j => s j * scl) i j := by
  unfold wt expo
  split
  · rw [← Real.exp_add]; congr 1; ring
  · rw [mul_zero]

/-- Keys after the row weigh nothing. -/
theorem sum_all (hi : i < N) (hN : N ≤ 16384) (μ : ℝ) (g : ℕ → EReal) :
    ∑ k ∈ Finset.range N, ((wt s i μ k : ℝ) : EReal) * g k = ∑ k : Fin 16384, ((wt s i μ k.val : ℝ) : EReal) * g k.val := by
  rw [← Finset.sum_range (fun k => ((wt s i μ k : ℝ) : EReal) * g k)]
  refine Finset.sum_subset (Finset.range_subset_range.mpr hN) fun k _ hk => ?_
  have : ¬ k ≤ i := by rw [Finset.mem_range] at hk; omega
  unfold wt
  rw [if_neg this]; simp

theorem sum_wt (s : ℕ → ℝ) (i : ℕ) (μ : ℝ) :
    ∑ k : Fin 16384, wt s i μ k.val = Real.exp (top (fun j => s j * scl) i - μ * scl) * tot (fun j => s j * scl) i := by
  unfold tot
  rw [Finset.mul_sum]
  exact Finset.sum_congr rfl fun k _ => wt_expo s i μ k.val

/-- The last lane holds the weights' sum. -/
theorem At.den (hi : i < N) (hN : N ≤ 16384) (h1 : ∀ k, V k 64 = 1) (μ : ℝ)
    (h : u 64 = ∑ k ∈ Finset.range N, ((wt s i μ k : ℝ) : EReal) * V k 64) :
    u 64 = ((Real.exp (top (fun j => s j * scl) i - μ * scl) * tot (fun j => s j * scl) i : ℝ) : EReal) := by
  rw [h, sum_all hi hN μ fun k => V k 64, ← sum_wt, coe_sum]
  exact Finset.sum_congr rfl fun k _ => by rw [h1, mul_one]

theorem At.out (h : At s i V N m u) (hi : i < N) (hN : N ≤ 16384) (h1 : ∀ k, V k 64 = 1) (d : Fin 128) :
    Ideal.div (u d) (u 64) = ∑ k : Fin 16384, V k.val d * ((expo (fun j => s j * scl) i k.val / tot (fun j => s j * scl) i : ℝ) : EReal) := by
  obtain ⟨μ, -, h2⟩ := h
  have hp := tot_pos (fun j => s j * scl) i
  have he := Real.exp_pos (top (fun j => s j * scl) i - μ * scl)
  rw [At.den hi hN h1 μ (h2 64), Ideal.div_coe (mul_pos he hp).ne', h2 d, sum_all hi hN μ fun k => V k d]
  rw [← Finset.sum_range (fun k => ((wt s i μ k : ℝ) : EReal) * V k d), ← Finset.sum_range (fun k => V k d * ((expo (fun j => s j * scl) i k / tot (fun j => s j * scl) i : ℝ) : EReal)),
    mul_comm, sum_left _ (by positivity)]
  refine Finset.sum_congr rfl fun k _ => ?_
  rw [← mul_assoc, ← EReal.coe_mul, mul_comm]
  congr 2
  rw [wt_expo]
  generalize Real.exp (top (fun j => s j * scl) i - μ * scl) = E at he ⊢
  generalize tot (fun j => s j * scl) i = T at hp ⊢
  generalize expo (fun j => s j * scl) i k = X
  field_simp

theorem At.lse (h : At s i V N m u) (hi : i < N) (hN : N ≤ 16384) (h1 : ∀ k, V k 64 = 1) :
    m * ((scl : ℝ) : EReal) + Ideal.log (u 64) = Ideal.log (∑ k : Fin 16384, Ideal.exp (masked (fun j => s j * scl) i k)) := by
  obtain ⟨μ, hm, h2⟩ := h
  obtain rfl : m = ((μ : ℝ) : EReal) := by
    rcases hm with h | ⟨h, _⟩
    · exact h
    · omega
  have hp := tot_pos (fun j => s j * scl) i
  have he := Real.exp_pos (top (fun j => s j * scl) i - μ * scl)
  have e : ∀ k : Fin 16384, Ideal.exp (masked (fun j => s j * scl) i k)
      = ((Real.exp (top (fun j => s j * scl) i) * expo (fun j => s j * scl) i k.val : ℝ) : EReal) := fun k => by
    unfold masked expo
    split
    · rw [← Real.exp_add, add_sub_cancel]; rfl
    · rw [mul_zero]; rfl
  have et : (∑ k : Fin 16384, Ideal.exp (masked (fun j => s j * scl) i k))
      = ((Real.exp (top (fun j => s j * scl) i) * tot (fun j => s j * scl) i : ℝ) : EReal) := by
    unfold tot
    rw [Finset.mul_sum, coe_sum]
    exact Finset.sum_congr rfl fun k _ => e k
  rw [At.den hi hN h1 μ (h2 64), et, log_real _ (mul_pos he hp), log_real _ (mul_pos (Real.exp_pos _) hp), ← EReal.coe_mul, ← EReal.coe_add,
    Real.log_mul he.ne' hp.ne', Real.log_mul (Real.exp_pos _).ne' hp.ne', Real.log_exp, Real.log_exp]
  generalize Real.log (tot (fun j => s j * scl) i) = L
  generalize top (fun j => s j * scl) i = T
  exact congrArg _ (by ring)

end Cert.KernelAttnIdeal.Hand

end
-- ==== Proof.AttnStep.lean ====
module

public import proofs.«01_k».proof.Proof.AttnPay
public import proofs.«01_k».proof.Proof.AttnSum

@[expose] public section

set_option maxRecDepth 16384

noncomputable section

namespace Cert.KernelAttnIdeal.Hand

open Cert.KernelAttnIdeal Cert.KernelAttnIdeal.Gen Idealize.ShloMosaic
open Cert.KernelIdeal.Hand (scl l2e scl_pos l2e_pos sc sum_sc expo tot masked sle_is ofBits_ninf)

theorem named_scale2 (b : BitVec 32) : (Named.named κ "scale2" b : Ideal .f32) = ((scl * l2e : ℝ) : EReal) :=
  IdealRules.named_const.ideal_named_scalar _ _ _ _ rfl
theorem named_scale (b : BitVec 32) : (Named.named κ "scale" b : Ideal .f32) = ((scl : ℝ) : EReal) :=
  IdealRules.named_const.ideal_named_scalar _ _ _ _ rfl
theorem named_mask (b : BitVec 32) : (Named.named κ "mask" b : Ideal .f32) = (⊥ : EReal) :=
  IdealRules.named_const.ideal_named_scalar _ _ _ _ rfl

theorem low_is (s : EReal) (x a : Fin 1024) : low s x a = if x.val ≤ a.val then s else ⊥ := by
  have hx := x.isLt
  have ha := a.isLt
  unfold low
  rw [named_mask, sle_is ⟨a.val, by omega⟩ ⟨x.val, by omega⟩]
  by_cases h : x.val ≤ a.val
  · rw [if_pos h, decide_eq_true h]; rfl
  · rw [if_neg h, decide_eq_false h]; rfl

/-- A head's value rows. -/
def vals (x2 : Vec Ideal S16384x256 .bf16) (o : ℕ) (j : ℕ) (d : Fin 128) : EReal :=
  x2 (ix2 (n0 := 16384) (n1 := 256) ⟨j % 16384, Nat.mod_lt _ (by omega)⟩ ⟨(o + d.val) % 256, Nat.mod_lt _ (by omega)⟩)

variable {v : Vec Ideal S1024x128 .bf16} {x1 x2 : Vec Ideal S16384x256 .bf16} {o : ℕ} {a : Fin 1024} {r : ℕ} {Q K : ℕ → ℕ → ℝ}

/-- The head's query row, and its keys, are real. -/
def Reals (v : Vec Ideal S1024x128 .bf16) (x1 : Vec Ideal S16384x256 .bf16) (o : ℕ) (a : Fin 1024) (r : ℕ) (Q K : ℕ → ℕ → ℝ) : Prop :=
  (∀ d : Fin 128, v (ix2 a d) = ((Q r d.val : ℝ) : EReal))
    ∧ ∀ (j : ℕ) (d : Fin 128), j < 16384 → vals x1 o j d = ((K j d.val : ℝ) : EReal)

theorem dot_is (h : Reals v x1 o a r Q K) (n : ℕ) (x : Fin 1024) (hn : 1024 * n + x.val < 16384) :
    (∑ y : Fin 128, v (ix2 a y) * piece x1 n o (ix2 x y) : EReal) = ((sc K Q (1024 * n + x.val) r : ℝ) : EReal) := by
  rw [← sum_sc]
  refine Finset.sum_congr rfl fun y _ => ?_
  rw [h.1 y, ← h.2 _ y hn, mul_comm]
  rfl

theorem run_at (h : Reals v x1 o a r Q K) (hr : r < 16384) (n : ℕ) (hn : 1024 * n ≤ r) :
    At (fun j => sc K Q j r) r (vals x2 o) (1024 * n) ((run v x1 x2 o n).1 (ix2 a 0)) fun d => (run v x1 x2 o n).2 (ix2 a d) := by
  induction n with
  | zero =>
    have e1 : (run v x1 x2 o 0).1 (ix2 a 0) = (⊥ : EReal) := (pay18_is a).trans (named_mask _)
    have e2 : (fun d => (run v x1 x2 o 0).2 (ix2 a d)) = fun _ => (0 : EReal) := funext fun d => pay19_is a d
    rw [e1, e2]
    exact At.zero
  | succ n ih =>
    refine (ih (by omega)).step (by omega) (fun x => ∑ y : Fin 128, v (ix2 a y) * piece x1 n o (ix2 x y)) (fun x => ?_) ?_ fun d => ?_
    · have := x.isLt
      rw [dot_is h n x (by omega)]
      unfold ms
      rw [if_pos (by omega)]
    · refine (pay5_is v (piece x1 n o) (run v x1 x2 o n).1 a).trans ?_
      rw [ofBits_ninf]
    · refine (pay6_is v (piece x1 n o) (piece x2 n o) (run v x1 x2 o n).1 (run v x1 x2 o n).2 a d).trans ?_
      rw [named_scale2]
      rfl

/-- The head's row after the diagonal block. -/
theorem fin_at {i : grid0.Coords} {x0 : Vec Ideal S1024x256 .bf16} (h : Reals (qpiece x0 o) x1 o a r Q K) (hi : r = 1024 * (i 1).val + a.val) (hr : r < 16384) :
    At (fun j => sc K Q j r) r (vals x2 o) (1024 * (i 1).val + 1024) ((fin i x0 x1 x2 o).1 (ix2 a 0)) fun d => (fin i x0 x1 x2 o).2 (ix2 a d) := by
  have ha := a.isLt
  refine (run_at h hr (i 1).val (by omega)).step (by omega) (fun x => low (∑ y : Fin 128, qpiece x0 o (ix2 a y) * piece x1 (i 1).val o (ix2 x y)) x a) (fun x => ?_) ?_ fun d => ?_
  · have := x.isLt
    have h16 : (i 1).val < 16 := (i 1).isLt
    rw [low_is, dot_is h (i 1).val x (by omega)]
    unfold ms
    by_cases hx : x.val ≤ a.val
    · rw [if_pos hx, if_pos (by omega)]
    · rw [if_neg hx, if_neg (by omega)]
  · refine (pay28_is (qpiece x0 o) (piece x1 (i 1).val o) (run (qpiece x0 o) x1 x2 o (i 1).val).1 a).trans ?_
    rw [ofBits_ninf]
  · refine (pay29_is (qpiece x0 o) (piece x1 (i 1).val o) (piece x2 (i 1).val o) (run (qpiece x0 o) x1 x2 o (i 1).val).1 (run (qpiece x0 o) x1 x2 o (i 1).val).2 a d).trans ?_
    rw [named_scale2]
    rfl

/-- The head's output row. -/
theorem out_is {i : grid0.Coords} {x0 : Vec Ideal S1024x256 .bf16} (h : Reals (qpiece x0 o) x1 o a r Q K) (hi : r = 1024 * (i 1).val + a.val) (hr : r < 16384)
    (h1 : ∀ j, vals x2 o j 64 = 1) (d : Fin 128) :
    k0_pay2 (F := Ideal) (fin i x0 x1 x2 o).2 (ix2 a d)
      = ∑ j : Fin 16384, vals x2 o j.val d * ((expo (fun j => sc K Q j r * scl) r j.val / tot (fun j => sc K Q j r * scl) r : ℝ) : EReal) := by
  have ha := a.isLt
  have h16 : (i 1).val < 16 := (i 1).isLt
  rw [pay2_is]
  exact (fin_at (x2 := x2) h hi hr).out (by omega) (by omega) h1 d

/-- The head's row log-sum. -/
theorem lse_is {i : grid0.Coords} {x0 : Vec Ideal S1024x256 .bf16} (h : Reals (qpiece x0 o) x1 o a r Q K) (hi : r = 1024 * (i 1).val + a.val) (hr : r < 16384)
    (h1 : ∀ j, vals x2 o j 64 = 1) (z : Fin 1) (b : Fin 8) :
    k0_pay3 (F := Ideal) (fin i x0 x1 x2 o).1 (fin i x0 x1 x2 o).2 (ix3 z b a)
      = Ideal.log (∑ j : Fin 16384, Ideal.exp (masked (fun j => sc K Q j r * scl) r j)) := by
  have ha := a.isLt
  have h16 : (i 1).val < 16 := (i 1).isLt
  rw [pay3_is, named_scale]
  exact (fin_at (x2 := x2) h hi hr).lse (by omega) (by omega) h1

end Cert.KernelAttnIdeal.Hand

end
-- ==== Proof.AttnRef.lean ====
module

public import proofs.«01_k».proof.Proof.Host
public import proofs.«01_k».proof.Proof.Gen.ReferenceAttnIdeal.Read

@[expose] public section

set_option maxRecDepth 16384

noncomputable section

namespace Cert.ReferenceAttnIdeal.Hand

open Cert.ReferenceAttnIdeal Cert.ReferenceAttnIdeal.Gen Cert.ReferenceAttnIdeal.Read Idealize.ShloMosaic
open Cert.KernelIdeal.Hand (A3 Is3 lanes score masked top expo tot prob sc scl ofBits_96 ofBits_ninf div_real masked_is score_is coe_sum top_eq exp_masked tot_pos)

variable {x0 x1 x2 : FVec Ideal S16384x1024 .bf16} {x3 : FVec Ideal S16384x1536 .bf16} {q k : ℕ → ℕ → ℝ}

theorem s_is (h0 : Is3 (val_main_v1 (F := Ideal) x0) q) (h1 : Is3 (val_main_v3 (F := Ideal) x1) k) (g : Fin 8) (i j : Fin 16384) :
    val_main_v17 (F := Ideal) x0 x1 (ix3 g i j) = masked (score q k g.val i.val) i.val j := by
  have e := score_is h0 h1 g i j
  pointwise [val_main_v17, val_main_call0_v0, val_main_call0_v1, val_main_call0_v2, val_main_cst_0, val_main_v16, val_main_v15, val_main_v14, val_main_v13, val_main_v12, val_main_v11, val_main_v10, val_main_v9, val_main_v8, val_main_v7, val_main_v6, val_main_cst]
  rw [e, show id (constant (F := Ideal) S_ FTy.f32 0xFF800000#32) ix0 = ⊥ from ofBits_ninf]
  exact masked_is (score q k g.val i.val) i j

/-- The largest entry of each row. -/
def rowMax (s : FVec Ideal S8x16384x16384 .f32) : FVec Ideal S8x16384 .f32 :=
  Host.reduce FloatOps.maximumf s (constant S_ .f32 0xFF800000#32) reducesTo_S8x16384x16384_S8x16384_d2 h_S_
theorem rowMax_is {s : FVec Ideal S8x16384x16384 .f32} {g : Fin 8} {i : Fin 16384} {f : ℕ → ℝ} (hs : ∀ j, s (ix3 g i j) = masked f i.val j) :
    rowMax s (ix2 g i) = ((top f i.val : ℝ) : EReal) := by
  pointwise [rowMax]
  simp only [hs]
  rw [ofBits_ninf]
  exact top_eq f i.val
def atLeast (y : FVec Ideal S8x16384 .f32) : FVec Ideal S8x16384x1 .f32 :=
  broadcastInDim S8x16384x1 ![0, 1] bcast_S8x16384_S8x16384x1_0_1 (maximumf (broadcastInDim S8x16384 ![] bcast_S_S8x16384 (constant S_ .f32 0xFF800000#32)) y)
theorem atLeast_is (y : FVec Ideal S8x16384 .f32) (g : Fin 8) (i : Fin 16384) : atLeast y (ix3 g i 0) = y (ix2 g i) := by
  pointwise [atLeast]
  rw [ofBits_ninf]
  exact max_eq_right bot_le
theorem v21_eq : val_main_v21 (F := Ideal) x0 x1 = atLeast (rowMax (val_main_v17 (F := Ideal) x0 x1)) := rfl
theorem mx_is (h0 : Is3 (val_main_v1 (F := Ideal) x0) q) (h1 : Is3 (val_main_v3 (F := Ideal) x1) k) (g : Fin 8) (i : Fin 16384) :
    val_main_v21 (F := Ideal) x0 x1 (ix3 g i 0) = ((top (score q k g.val i.val) i.val : ℝ) : EReal) := by
  rw [v21_eq, atLeast_is]
  exact rowMax_is (s_is h0 h1 g i)

theorem e_is (h0 : Is3 (val_main_v1 (F := Ideal) x0) q) (h1 : Is3 (val_main_v3 (F := Ideal) x1) k) (g : Fin 8) (i j : Fin 16384) :
    val_main_v24 (F := Ideal) x0 x1 (ix3 g i j) = ((expo (score q k g.val i.val) i.val j.val : ℝ) : EReal) := by
  pointwise [val_main_v24, val_main_v23, val_main_v22]
  rw [s_is h0 h1, mx_is h0 h1]
  exact exp_masked _ _ _

theorem l_is (h0 : Is3 (val_main_v1 (F := Ideal) x0) q) (h1 : Is3 (val_main_v3 (F := Ideal) x1) k) (g : Fin 8) (i : Fin 16384) :
    val_main_v26 (F := Ideal) x0 x1 (ix3 g i 0) = ((tot (score q k g.val i.val) i.val : ℝ) : EReal) := by
  pointwise [val_main_v26, val_main_v25, val_main_cst_3]
  simp only [e_is h0 h1 g i]
  exact (coe_sum _ _).symm

theorem p_is (h0 : Is3 (val_main_v1 (F := Ideal) x0) q) (h1 : Is3 (val_main_v3 (F := Ideal) x1) k) (g : Fin 8) (i j : Fin 16384) :
    val_main_v28 (F := Ideal) x0 x1 (ix3 g i j) = ((expo (score q k g.val i.val) i.val j.val / tot (score q k g.val i.val) i.val : ℝ) : EReal) := by
  pointwise [val_main_v28, val_main_v27]
  rw [e_is h0 h1, l_is h0 h1, div_real _ _ (tot_pos _ _).ne']

theorem lane_is (j : Fin 16384) (g : Fin 8) (d : Fin 128) :
    val_main_v5 (F := Ideal) x2 (ix3 j g d) = x2 (ix2 j ⟨128 * g.val + d.val, by have := g.isLt; have := d.isLt; omega⟩) := by
  have := g.isLt
  have := d.isLt
  have := j.isLt
  rw [val_main_v5_apply, val_main_v4_apply]
  show x2 _ = x2 _
  congr 1
  funext a
  match a with
  | ⟨0, _⟩ => exact Fin.ext (show ((j.val * 8 + g.val) * 128 + d.val) / 1024 = j.val by omega)
  | ⟨1, _⟩ => exact Fin.ext (show ((j.val * 8 + g.val) * 128 + d.val) % 1024 = 128 * g.val + d.val by omega)

theorem o_is (h0 : Is3 (val_main_v1 (F := Ideal) x0) q) (h1 : Is3 (val_main_v3 (F := Ideal) x1) k) (r : Fin 16384) (g : Fin 8) (d : Fin 128) :
    val_main_v30 (F := Ideal) x0 x1 x2 (ix3 r g d) = ∑ j : Fin 16384, x2 (ix2 j ⟨128 * g.val + d.val, by have := g.isLt; have := d.isLt; omega⟩)
      * ((expo (score q k g.val r.val) r.val j.val / tot (score q k g.val r.val) r.val : ℝ) : EReal) := by
  pointwise [val_main_v30, val_main_v29]
  exact Finset.sum_congr rfl fun j _ => by rw [lane_is, p_is h0 h1]

theorem flat_is (r : Fin 16384) (g : Fin 8) (d : Fin 128) :
    val_main_v37 (F := Ideal) x0 x1 x2 (ix2 r ⟨128 * g.val + d.val, by have := g.isLt; have := d.isLt; omega⟩) = val_main_v30 (F := Ideal) x0 x1 x2 (ix3 r g d) := by
  have := g.isLt
  have := d.isLt
  have := r.isLt
  rw [val_main_v37_apply, val_main_v36_apply]
  show val_main_v30 (F := Ideal) x0 x1 x2 _ = _
  congr 1
  funext a
  match a with
  | ⟨0, _⟩ => exact Fin.ext (show _ = r.val by simp [idx_main_v36, ix2]; omega)
  | ⟨1, _⟩ => exact Fin.ext (show _ = g.val by simp [idx_main_v36, ix2]; omega)
  | ⟨2, _⟩ => exact Fin.ext (show _ = d.val by simp [idx_main_v36, ix2]; omega)

theorem lse_is (h0 : Is3 (val_main_v1 (F := Ideal) x0) q) (h1 : Is3 (val_main_v3 (F := Ideal) x1) k) (g : Fin 8) (i : Fin 16384) :
    val_main_v33 (F := Ideal) x0 x1 (ix2 g i) = Ideal.log (∑ j : Fin 16384, Ideal.exp (masked (score q k g.val i.val) i.val j)) := by
  pointwise [val_main_v33, val_main_v32, val_main_v31, val_main_cst_4]
  simp only [s_is h0 h1 g i]

theorem rows_is (g : Fin 8) (t : Fin 16) (b : Fin 8) (a : Fin 1024) :
    val_main_v40 (F := Ideal) x0 x1 (ix3 g ⟨8 * t.val + b.val, by have := t.isLt; have := b.isLt; omega⟩ a)
      = val_main_v33 (F := Ideal) x0 x1 (ix2 g ⟨1024 * t.val + a.val, by have := t.isLt; have := a.isLt; omega⟩) := by
  have := g.isLt
  have := t.isLt
  have := b.isLt
  have := a.isLt
  rw [val_main_v40_apply, val_main_v35_apply, val_main_v34_apply]
  congr 1
  funext x
  match x with
  | ⟨0, _⟩ => exact Fin.ext (show _ = g.val by simp [idx_main_v40, idx_main_v35, idx_main_v34, ix3]; omega)
  | ⟨1, _⟩ => exact Fin.ext (show _ = 1024 * t.val + a.val by simp [idx_main_v40, idx_main_v35, idx_main_v34, ix3]; omega)

theorem lo_is (r : Fin 16384) (c : Fin 1536) (h : c.val < 512) : val_main_v39 (F := Ideal) x0 x1 x2 x3 (ix2 r c) = x3 (ix2 r c) := by
  pointwise [val_main_v39, val_main_v38]
  exact dif_pos h
theorem hi_is (r : Fin 16384) (c : Fin 1536) (b : Fin 1024) (h : c.val = 512 + b.val) : val_main_v39 (F := Ideal) x0 x1 x2 x3 (ix2 r c) = val_main_v37 (F := Ideal) x0 x1 x2 (ix2 r b) := by
  pointwise [val_main_v39]
  rw [dif_neg (by omega)]
  congr 2
  exact Fin.ext (show c.val - 512 = b.val by omega)

end Cert.ReferenceAttnIdeal.Hand

end
-- ==== Proof.Attn.lean ====
module

public import proofs.«01_k».proof.Proof.AttnStep
public import proofs.«01_k».proof.Proof.AttnRef
public import proofs.«01_k».proof.Proof.Reals
public import proofs.«01_k».proof.Proof.Gen.Pre_finite_attn

@[expose] public section

set_option maxRecDepth 16384

noncomputable section

namespace Cert.KernelAttnIdeal.Hand

open Cert.KernelAttnIdeal Cert.KernelAttnIdeal.Gen Cert.KernelAttnIdeal.Value Idealize.ShloMosaic
open Cert.KernelIdeal.Hand (scl sc lanes score expo tot masked Is3)
open Cert.ReferenceAttnIdeal.Read (val_main_v1 val_main_v3 val_main_v30 val_main_v33 val_main_v37 val_main_v39 val_main_v40 val_main_v0_apply val_main_v1_apply val_main_v2_apply val_main_v3_apply)

variable (m : (ℓ : Loc nD τ sig) → Buf (Elt Ideal) ℓ) (c : Dev nD)

abbrev X0 : FVec Ideal S16384x1024 .bf16 := m ((c.tc : Thread nD τ).loc main_arg0)
abbrev X1 : FVec Ideal S16384x1024 .bf16 := m ((c.tc : Thread nD τ).loc main_arg1)
abbrev X2 : FVec Ideal S16384x1024 .bf16 := m ((c.tc : Thread nD τ).loc main_arg2)
abbrev X3 : FVec Ideal S16384x1536 .bf16 := m ((c.tc : Thread nD τ).loc main_arg3)

/-- Every entry of the array is a real. -/
def Num (x : FVec Ideal S16384x1024 .bf16) : Prop := ∀ i, (x i : EReal) = (((x i : EReal).toReal : ℝ) : EReal)
/-- The array's numbers. -/
def nums (x : FVec Ideal S16384x1024 .bf16) (a b : ℕ) : ℝ :=
  EReal.toReal (x (ix2 (n0 := 16384) (n1 := 1024) ⟨a % 16384, Nat.mod_lt _ (by omega)⟩ ⟨b % 1024, Nat.mod_lt _ (by omega)⟩))
theorem Num.is {x : FVec Ideal S16384x1024 .bf16} (h : Num x) (a : Fin 16384) (b : Fin 1024) (s : ℕ) (hs : b.val = s) : x (ix2 a b) = ((nums x a.val s : ℝ) : EReal) := by
  subst hs
  unfold nums
  have ea : (⟨a.val % 16384, Nat.mod_lt _ (by omega)⟩ : Fin 16384) = a := Fin.ext (Nat.mod_eq_of_lt a.isLt)
  have eb : (⟨b.val % 1024, Nat.mod_lt _ (by omega)⟩ : Fin 1024) = b := Fin.ext (Nat.mod_eq_of_lt b.isLt)
  rw [ea, eb]
  exact h _

theorem is3_q {x : FVec Ideal S16384x1024 .bf16} (h : Num x) : Is3 (val_main_v1 (F := Ideal) x) (nums x) := by
  intro j g d
  have := g.isLt
  have := d.isLt
  have := j.isLt
  unfold lanes
  rw [← h.is j ⟨128 * g.val + d.val, by omega⟩ _ rfl, val_main_v1_apply, val_main_v0_apply]
  show x _ = x _
  congr 1
  funext a
  match a with
  | ⟨0, _⟩ => exact Fin.ext (show ((j.val * 8 + g.val) * 128 + d.val) / 1024 = j.val by omega)
  | ⟨1, _⟩ => exact Fin.ext (show ((j.val * 8 + g.val) * 128 + d.val) % 1024 = 128 * g.val + d.val by omega)
theorem is3_k {x : FVec Ideal S16384x1024 .bf16} (h : Num x) : Is3 (val_main_v3 (F := Ideal) x) (nums x) := is3_q h

theorem ix_0 : ∀ t : Fin grid0.N, win0_0.index t = ![t.val % 16, t.val / 16] := by decide +kernel
theorem ix_1 : ∀ t : Fin grid0.N, win0_1.index t = ![0, t.val / 16] := by decide +kernel
theorem ix_2 : ∀ t : Fin grid0.N, win0_2.index t = ![0, t.val / 16] := by decide +kernel
theorem ix_3 : ∀ t : Fin grid0.N, win0_3.index t = ![t.val % 16, 2 + t.val / 16] := by decide +kernel
theorem ix_4 : ∀ t : Fin grid0.N, win0_4.index t = ![t.val / 16, t.val % 16, 0] := by decide +kernel

theorem blk_0 (t : Fin cfg0.N) (a : Fin 1024) (b : Fin 256) (r : Fin 16384) (s : Fin 1024) (hr : r.val = 1024 * (t.val % 16) + a.val) (hs : s.val = 256 * (t.val / 16) + b.val) :
    iblk m c 0 t (ix2 (n0 := 1024) (n1 := 256) a b) = X0 m c (ix2 r s) := by
  have e : (win0_0.blk t).view.emb (ix2 (n0 := 1024) (n1 := 256) a b) = ix2 (n0 := 16384) (n1 := 1024) r s := by
    blk_ext [ix_0]
  have d : iblk m c 0 t (ix2 (n0 := 1024) (n1 := 256) a b) = X0 m c ((win0_0.blk t).view.emb (ix2 (n0 := 1024) (n1 := 256) a b)) := by
    show V m c main_arg0 _ = _
    rw [V_main_arg0]
  rw [d, e]
theorem blk_1 (t : Fin cfg0.N) (a : Fin 16384) (b : Fin 256) (r : Fin 16384) (s : Fin 1024) (hr : r.val = a.val) (hs : s.val = 256 * (t.val / 16) + b.val) :
    iblk m c 1 t (ix2 (n0 := 16384) (n1 := 256) a b) = X1 m c (ix2 r s) := by
  have e : (win0_1.blk t).view.emb (ix2 (n0 := 16384) (n1 := 256) a b) = ix2 (n0 := 16384) (n1 := 1024) r s := by
    blk_ext [ix_1]
  have d : iblk m c 1 t (ix2 (n0 := 16384) (n1 := 256) a b) = X1 m c ((win0_1.blk t).view.emb (ix2 (n0 := 16384) (n1 := 256) a b)) := by
    show V m c main_arg1 _ = _
    rw [V_main_arg1]
  rw [d, e]
theorem blk_2 (t : Fin cfg0.N) (a : Fin 16384) (b : Fin 256) (r : Fin 16384) (s : Fin 1024) (hr : r.val = a.val) (hs : s.val = 256 * (t.val / 16) + b.val) :
    iblk m c 2 t (ix2 (n0 := 16384) (n1 := 256) a b) = X2 m c (ix2 r s) := by
  have e : (win0_2.blk t).view.emb (ix2 (n0 := 16384) (n1 := 256) a b) = ix2 (n0 := 16384) (n1 := 1024) r s := by
    blk_ext [ix_2]
  have d : iblk m c 2 t (ix2 (n0 := 16384) (n1 := 256) a b) = X2 m c ((win0_2.blk t).view.emb (ix2 (n0 := 16384) (n1 := 256) a b)) := by
    show V m c main_arg2 _ = _
    rw [V_main_arg2]
  rw [d, e]

/-- The rows and columns of `x` at a grid point: row block `i`, pair of heads `h`. -/
def Part (n : ℕ) (x : Vec Ideal ⟨2, ![n, 256]⟩ .bf16) (X : FVec Ideal S16384x1024 .bf16) (i h : ℕ) : Prop :=
  ∀ (a : Fin n) (b : Fin 256) (r : Fin 16384) (s : Fin 1024), r.val = 1024 * i + a.val → s.val = 256 * h + b.val → x (ix2 a b) = X (ix2 r s)

variable {x0 : Vec Ideal S1024x256 .bf16} {x1 x2 : Vec Ideal S16384x256 .bf16} {Y0 Y1 Y2 : FVec Ideal S16384x1024 .bf16} {Y3 : FVec Ideal S16384x1536 .bf16} {i : grid0.Coords} {h : ℕ}

theorem vals_is (p : Part 16384 x2 Y2 0 h) (hh : h < 4) (e : Fin 2) (j : Fin 16384) (d : Fin 128) (s : Fin 1024) (hs : s.val = 128 * (2 * h + e.val) + d.val) :
    vals x2 (128 * e.val) j.val d = Y2 (ix2 j s) := by
  have := e.isLt
  have := d.isLt
  refine p _ _ j s ?_ ?_
  · show j.val = 1024 * 0 + j.val % 16384
    rw [Nat.mod_eq_of_lt j.isLt]; omega
  · show s.val = 256 * h + (128 * e.val + d.val) % 256
    rw [Nat.mod_eq_of_lt (by omega)]; omega

theorem reals_is (n0 : Num Y0) (n1 : Num Y1) (p0 : Part 1024 x0 Y0 (i 1).val h) (p1 : Part 16384 x1 Y1 0 h) (hh : h < 4) (e : Fin 2) (a : Fin 1024) :
    Reals (qpiece x0 (128 * e.val)) x1 (128 * e.val) a (1024 * (i 1).val + a.val) (lanes (nums Y0) (2 * h + e.val)) (lanes (nums Y1) (2 * h + e.val)) := by
  have he := e.isLt
  have ha := a.isLt
  have h16 : (i 1).val < 16 := (i 1).isLt
  refine ⟨fun d => ?_, fun j d hj => ?_⟩
  · have := d.isLt
    unfold lanes
    rw [← n0.is ⟨1024 * (i 1).val + a.val, by omega⟩ ⟨128 * (2 * h + e.val) + d.val, by omega⟩ _ rfl]
    refine p0 a ⟨(128 * e.val + d.val) % 256, Nat.mod_lt _ (by omega)⟩ _ _ rfl ?_
    show 128 * (2 * h + e.val) + d.val = 256 * h + (128 * e.val + d.val) % 256
    rw [Nat.mod_eq_of_lt (by omega)]; omega
  · have := d.isLt
    unfold lanes
    rw [← n1.is ⟨j, hj⟩ ⟨128 * (2 * h + e.val) + d.val, by omega⟩ _ rfl]
    exact vals_is p1 hh e ⟨j, hj⟩ d ⟨128 * (2 * h + e.val) + d.val, by omega⟩ rfl

/-- Lane 64 of each head of the third argument is one. -/
def Ones (x : FVec Ideal S16384x1024 .bf16) : Prop := ∀ (j : Fin 16384) (s : Fin 1024), s.val % 128 = 64 → x (ix2 j s) = (1 : EReal)

theorem ones_is (n2 : Ones Y2) (p2 : Part 16384 x2 Y2 0 h) (hh : h < 4) (e : Fin 2) (j : ℕ) : vals x2 (128 * e.val) j 64 = 1 := by
  have := e.isLt
  have ej : vals x2 (128 * e.val) j 64 = vals x2 (128 * e.val) (j % 16384) 64 := by
    unfold vals
    simp only [Nat.mod_mod]
  rw [ej, vals_is p2 hh e ⟨j % 16384, Nat.mod_lt _ (by omega)⟩ 64 ⟨128 * (2 * h + e.val) + 64, by omega⟩ rfl]
  exact n2 _ _ (by show (128 * (2 * h + e.val) + 64) % 128 = 64; omega)

/-- A head's output block against the reference. -/
theorem head_out (n0 : Num Y0) (n1 : Num Y1) (n2 : Ones Y2) (p0 : Part 1024 x0 Y0 (i 1).val h) (p1 : Part 16384 x1 Y1 0 h) (p2 : Part 16384 x2 Y2 0 h) (hh : h < 4)
    (e : Fin 2) (a : Fin 1024) (d : Fin 128) (r : Fin 16384) (s : Fin 1536) (hr : r.val = 1024 * (i 1).val + a.val) (hs : s.val = 512 + (128 * (2 * h + e.val) + d.val)) :
    k0_pay2 (F := Ideal) (fin i x0 x1 x2 (128 * e.val)).2 (ix2 a d) = val_main_v39 (F := Ideal) Y0 Y1 Y2 Y3 (ix2 r s) := by
  have he := e.isLt
  have hd := d.isLt
  rw [out_is (reals_is n0 n1 p0 p1 hh e a) rfl (by rw [← hr]; exact r.isLt) (ones_is n2 p2 hh e) d]
  rw [Cert.ReferenceAttnIdeal.Hand.hi_is r s ⟨128 * (2 * h + e.val) + d.val, by omega⟩ hs,
    Cert.ReferenceAttnIdeal.Hand.flat_is r ⟨2 * h + e.val, by omega⟩ d, Cert.ReferenceAttnIdeal.Hand.o_is (is3_q n0) (is3_k n1)]
  refine Finset.sum_congr rfl fun j _ => ?_
  rw [vals_is p2 hh e j d ⟨128 * (2 * h + e.val) + d.val, by omega⟩ rfl, ← hr]
  rfl

/-- A head's log-sums against the reference. -/
theorem head_lse (n0 : Num Y0) (n1 : Num Y1) (n2 : Ones Y2) (p0 : Part 1024 x0 Y0 (i 1).val h) (p1 : Part 16384 x1 Y1 0 h) (p2 : Part 16384 x2 Y2 0 h) (hh : h < 4)
    (e : Fin 2) (z : Fin 1) (b : Fin 8) (a : Fin 1024) (g : Fin 8) (s : Fin 128) (hg : g.val = 2 * h + e.val) (hs : s.val = 8 * (i 1).val + b.val) :
    k0_pay3 (F := Ideal) (fin i x0 x1 x2 (128 * e.val)).1 (fin i x0 x1 x2 (128 * e.val)).2 (ix3 z b a) = val_main_v40 (F := Ideal) Y0 Y1 (ix3 g s a) := by
  have he := e.isLt
  have ha := a.isLt
  have h16 : (i 1).val < 16 := (i 1).isLt
  have es : s = ⟨8 * (i 1).val + b.val, by omega⟩ := Fin.ext hs
  have eg : g = ⟨2 * h + e.val, by omega⟩ := Fin.ext hg
  rw [es, eg]
  rw [lse_is (reals_is n0 n1 p0 p1 hh e a) rfl (by omega) (ones_is n2 p2 hh e) z b]
  rw [Cert.ReferenceAttnIdeal.Hand.rows_is ⟨2 * h + e.val, by omega⟩ ⟨(i 1).val, h16⟩ b a, Cert.ReferenceAttnIdeal.Hand.lse_is (is3_q n0) (is3_k n1)]
  rfl

theorem V_entry : V m c main_v0_0 = X3 m c := by
  show StableHlo.after hostOps0 _ _ = _
  rfl

theorem parts (t : Fin cfg0.N) : Part 1024 (iblk m c 0 t) (X0 m c) (grid0.coords t 1).val (t.val / 16)
    ∧ Part 16384 (iblk m c 1 t) (X1 m c) 0 (t.val / 16) ∧ Part 16384 (iblk m c 2 t) (X2 m c) 0 (t.val / 16) :=
  ⟨fun a b r s hr hs => blk_0 m c t a b r s (by rw [← coord1]; exact hr) hs,
    fun a b r s hr hs => blk_1 m c t a b r s (by omega) hs,
    fun a b r s hr hs => blk_2 m c t a b r s (by omega) hs⟩

/-! The blocks a grid point leaves, both heads. -/

theorem block_out (n0 : Num Y0) (n1 : Num Y1) (n2 : Ones Y2) (p0 : Part 1024 x0 Y0 (i 1).val h) (p1 : Part 16384 x1 Y1 0 h) (p2 : Part 16384 x2 Y2 0 h) (hh : h < 4)
    (a2 : Memref sig .tc .vmem S1024x256 .bf16) (h2 : a2.IsWhole) (a3 : Memref sig .tc .vmem S16384x256 .bf16) (h3 : a3.IsWhole) (a4 : Memref sig .tc .vmem S16384x256 .bf16) (h4 : a4.IsWhole) (a6 : Memref sig .tc .vmem S1024x256 .bf16) (h6 : a6.IsWhole) (a7 : Memref sig .tc .vmem S2x8x1024 .f32) (h7 : a7.IsWhole)
    (a : Fin 1024) (b : Fin 256) (r : Fin 16384) (s : Fin 1536) (hr : r.val = 1024 * (i 1).val + a.val) (hs : s.val = 512 + (256 * h + b.val)) :
    out0_A_3 c i a2 h2 a3 h3 a4 h4 a6 h6 a7 h7 x0 x1 x2 (ix2 a b) = val_main_v39 (F := Ideal) Y0 Y1 Y2 Y3 (ix2 r s) := by
  rw [left_3]
  canon_tiles x hx
  · obtain ⟨u, v, rfl⟩ : ∃ (u : Fin 1024) (v : Fin 128), x = ix2 u v := ⟨x 0, x 1, eq_ix2 x⟩
    have k0 : a.val = u.val := hx0
    have k1 : b.val = 128 + v.val := hx1
    exact head_out n0 n1 n2 p0 p1 p2 hh 1 u v r s (by omega) (by show s.val = 512 + (128 * (2 * h + 1) + v.val); omega)
  · obtain ⟨u, v, rfl⟩ : ∃ (u : Fin 1024) (v : Fin 128), x = ix2 u v := ⟨x 0, x 1, eq_ix2 x⟩
    have k0 : a.val = u.val := hx0
    have k1 : b.val = v.val := hx1
    exact head_out n0 n1 n2 p0 p1 p2 hh 0 u v r s (by omega) (by show s.val = 512 + (128 * (2 * h + 0) + v.val); omega)

theorem block_lse (n0 : Num Y0) (n1 : Num Y1) (n2 : Ones Y2) (p0 : Part 1024 x0 Y0 (i 1).val h) (p1 : Part 16384 x1 Y1 0 h) (p2 : Part 16384 x2 Y2 0 h) (hh : h < 4)
    (a2 : Memref sig .tc .vmem S1024x256 .bf16) (h2 : a2.IsWhole) (a3 : Memref sig .tc .vmem S16384x256 .bf16) (h3 : a3.IsWhole) (a4 : Memref sig .tc .vmem S16384x256 .bf16) (h4 : a4.IsWhole) (a6 : Memref sig .tc .vmem S1024x256 .bf16) (h6 : a6.IsWhole) (a7 : Memref sig .tc .vmem S2x8x1024 .f32) (h7 : a7.IsWhole)
    (e : Fin 2) (b : Fin 8) (a : Fin 1024) (g : Fin 8) (s : Fin 128) (hg : g.val = 2 * h + e.val) (hs : s.val = 8 * (i 1).val + b.val) :
    out0_A_4 c i a2 h2 a3 h3 a4 h4 a6 h6 a7 h7 x0 x1 x2 (ix3 e b a) = val_main_v40 (F := Ideal) Y0 Y1 (ix3 g s a) := by
  rw [left_4]
  canon_tiles x hx
  · obtain ⟨u, v, w, rfl⟩ : ∃ (u : Fin 1) (v : Fin 8) (w : Fin 1024), x = ix3 u v w := ⟨x 0, x 1, x 2, eq_ix3 x⟩
    have hu := u.isLt
    have k0 : e.val = 1 + u.val := hx0
    obtain rfl : b = v := Fin.ext hx1
    obtain rfl : a = w := Fin.ext hx2
    exact head_lse n0 n1 n2 p0 p1 p2 hh 1 u b a g s (by show g.val = 2 * h + 1; omega) hs
  · obtain ⟨u, v, w, rfl⟩ : ∃ (u : Fin 1) (v : Fin 8) (w : Fin 1024), x = ix3 u v w := ⟨x 0, x 1, x 2, eq_ix3 x⟩
    have hu := u.isLt
    have k0 : e.val = u.val := hx0
    obtain rfl : b = v := Fin.ext hx1
    obtain rfl : a = w := Fin.ext hx2
    exact head_lse n0 n1 n2 p0 p1 p2 hh 0 u b a g s (by show g.val = 2 * h + 0; omega) hs

/-! Which entries the blocks hold. -/

theorem mem_blk3 (t : Fin cfg0.N) (i : S16384x1536.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v0_0).slice (win0_3.rect t)).set ↔ _
  rw [View.set_slice_whole, Rect.mem_set_unit]
  exact Iff.rfl
theorem mem_blk4 (t : Fin cfg0.N) (i : S8x128x1024.Idx) :
    i ∈ ((cfg0.win 4).blk t).view.set ↔ ∀ a : Fin 3, win0_4.index t a * S2x8x1024.size a ≤ (i a).val ∧ (i a).val < win0_4.index t a * S2x8x1024.size a + S2x8x1024.size a := by
  show i ∈ ((View.whole main_v0_1).slice (win0_4.rect t)).set ↔ _
  rw [View.set_slice_whole, Rect.mem_set_unit]
  exact Iff.rfl
theorem cover4 (i : S8x128x1024.Idx) : ∃ t : Fin cfg0.N, (cfg0.win 4).flush t = true ∧ i ∈ ((cfg0.win 4).blk t).view.set := by
  have h0 : (i 0).val < 8 := (i 0).isLt
  have h1 : (i 1).val < 128 := (i 1).isLt
  have h2 : (i 2).val < 1024 := (i 2).isLt
  refine ⟨⟨16 * ((i 0).val / 2) + (i 1).val / 8, by rw [show cfg0.N = 64 from rfl]; omega⟩, flush0_4 _, ?_⟩
  rw [mem_blk4]
  intro a
  match a with
  | ⟨0, _⟩ => show win0_4.index _ 0 * 2 ≤ (i 0).val ∧ (i 0).val < win0_4.index _ 0 * 2 + 2; rw [ix_4]; dsimp; omega
  | ⟨1, _⟩ => show win0_4.index _ 1 * 8 ≤ (i 1).val ∧ (i 1).val < win0_4.index _ 1 * 8 + 8; rw [ix_4]; dsimp; omega
  | ⟨2, _⟩ => show win0_4.index _ 2 * 1024 ≤ (i 2).val ∧ (i 2).val < win0_4.index _ 2 * 1024 + 1024; rw [ix_4]; dsimp; omega

variable {m c}

/-- The attention's output, beside the columns the call leaves alone. -/
theorem att_eq (n0 : Num (X0 m c)) (n1 : Num (X1 m c)) (n2 : Ones (X2 m c)) :
    (dats m 0 c).arrAt 3 cfg0.N = val_main_v39 (F := Ideal) (X0 m c) (X1 m c) (X2 m c) (X3 m c) := by
  funext y
  obtain ⟨r, s, rfl⟩ : ∃ (r : Fin 16384) (s : Fin 1536), y = ix2 r s := ⟨y 0, y 1, eq_ix2 y⟩
  have hr := r.isLt
  have hs := s.isLt
  by_cases hc : s.val < 512
  · rw [Cert.ReferenceAttnIdeal.Hand.lo_is r s hc, entry3 m c _ fun t _ hm => ?_]
    · show V m c main_v0_0 _ = _
      rw [V_entry]
    · have h1 : win0_3.index t 1 * 256 ≤ s.val := (((mem_blk3 t _).mp hm) 1).1
      rw [ix_3] at h1
      dsimp at h1
      omega
  · obtain ⟨t, ht, a, ha, b, hb⟩ : ∃ t : ℕ, ∃ ht : t < 64, ∃ a : Fin 1024, ∃ _ : r.val = 1024 * (t % 16) + a.val, ∃ b : Fin 256, s.val = 512 + (256 * (t / 16) + b.val) :=
      ⟨16 * ((s.val - 512) / 256) + r.val / 1024, by omega, ⟨r.val % 1024, by omega⟩, by show r.val = 1024 * _ + r.val % 1024; omega, ⟨(s.val - 512) % 256, by omega⟩, by show s.val = 512 + (256 * _ + (s.val - 512) % 256); omega⟩
    have e : (win0_3.blk ⟨t, ht⟩).view.emb (ix2 (n0 := 1024) (n1 := 256) a b) = ix2 (n0 := 16384) (n1 := 1536) r s := by
      blk_ext [ix_3]
    have k := congrFun (blocks3 m c ⟨t, ht⟩ (flush0_3 _)) (ix2 (n0 := 1024) (n1 := 256) a b)
    rw [flushed3_A] at k
    have k' : (dats m 0 c).arrAt 3 cfg0.N ((win0_3.blk ⟨t, ht⟩).view.emb (ix2 (n0 := 1024) (n1 := 256) a b)) = _ := k
    rw [e] at k'
    obtain ⟨p0, p1, p2⟩ := parts m c ⟨t, ht⟩
    exact k'.trans (block_out c n0 n1 n2 p0 p1 p2 (by show t / 16 < 4; omega) _ _ _ _ _ _ _ _ _ _ a b r s (by rw [coord1]; exact ha) hb)

/-- The rows' log-sums. -/
theorem lse_eq (n0 : Num (X0 m c)) (n1 : Num (X1 m c)) (n2 : Ones (X2 m c)) :
    (dats m 0 c).arrAt 4 cfg0.N = val_main_v40 (F := Ideal) (X0 m c) (X1 m c) := by
  refine (dats m 0 c).arrAt_eq_of_cover 4 _ (fun t _ => ?_) (fun i => cover4 i)
  have ht : t.val < 64 := t.isLt
  rw [flushed4_A]
  funext y
  obtain ⟨e, b, a, rfl⟩ : ∃ (e : Fin 2) (b : Fin 8) (a : Fin 1024), y = ix3 e b a := ⟨y 0, y 1, y 2, eq_ix3 y⟩
  have he := e.isLt
  have hb := b.isLt
  have k : (win0_4.blk t).view.emb (ix3 (n0 := 2) (n1 := 8) (n2 := 1024) e b a) = ix3 (n0 := 8) (n1 := 128) (n2 := 1024) ⟨2 * (t.val / 16) + e.val, by omega⟩ ⟨8 * (t.val % 16) + b.val, by omega⟩ a := by
    blk_ext [ix_4]
  obtain ⟨p0, p1, p2⟩ := parts m c t
  refine (block_lse c n0 n1 n2 p0 p1 p2 (by omega) _ _ _ _ _ _ _ _ _ _ e b a ⟨2 * (t.val / 16) + e.val, by omega⟩ ⟨8 * (t.val % 16) + b.val, by omega⟩ rfl (by rw [coord1])).trans ?_
  show _ = val_main_v40 (F := Ideal) (X0 m c) (X1 m c) ((win0_4.blk t).view.emb (ix3 (n0 := 2) (n1 := 8) (n2 := 1024) e b a))
  rw [k]

theorem lane64 (x : FVec Ideal Cert.Pre_finite_attn.S16384x1024 .bf16) (j : Fin 16384) (g : Fin 8) :
    shapeCast Cert.Pre_finite_attn.S16384x8 (extractStridedSlice Cert.Pre_finite_attn.S16384x8x1 ![0, 0, 64] (shapeCast Cert.Pre_finite_attn.S16384x8x128 (extf .f32 x Cert.Pre_finite_attn.Facts.bitsLt_bf16_f32) Cert.Pre_finite_attn.Facts.shapeCasts_S16384x1024_S16384x8x128) Cert.Pre_finite_attn.Facts.slices_S16384x8x128_S16384x8x1_0_0_64) Cert.Pre_finite_attn.Facts.shapeCasts_S16384x8x1_S16384x8 (ix2 j g)
      = x (ix2 j ⟨g.val * 128 + 64, by have := g.isLt; omega⟩) := by
  pointwise []

theorem one_bits : Ideal.ofBits .f32 0x3F800000#32 = 1 := by
  rw [← EReal.coe_one]
  simp [Ideal.ofBits, Ideal.ieee, -EReal.coe_mul, -EReal.coe_one]; norm_num

theorem eq_of_oeq (y z : EReal) (h : Ideal.cmp .oeq y z = 1#1) : y = z := by
  by_contra hne
  simp [Ideal.cmp, hne] at h

open Cert.Pre_finite_attn Cert.Pre_finite_attn.Gen in
/-- What the precondition says. -/
theorem reals {x0 x1 x2 : FVec Ideal Cert.KernelAttnIdeal.S16384x1024 .bf16} {x3 : FVec Ideal Cert.KernelAttnIdeal.S16384x1536 .bf16}
    (h : Cert.Pre_finite_attn.fn (F := Ideal) x0 x1 x2 x3 = fun _ => 1#1) : Num x0 ∧ Num x1 ∧ Ones x2 := by
  have e := congrFun h ix0
  have h2 := Cert.KernelIdeal.Hand.and_one e
  have h1 := Cert.KernelIdeal.Hand.and_one h2.1
  refine ⟨fun i => Cert.KernelIdeal.Hand.real_of_lt _ ?_, fun i => Cert.KernelIdeal.Hand.real_of_lt _ ?_, fun j s hs => ?_⟩
  · rw [← Cert.KernelIdeal.Hand.ofBits_pinf]
    exact Host.reduce_andi_all _ _ _ _ _ h1.1 i
  · rw [← Cert.KernelIdeal.Hand.ofBits_pinf]
    exact Host.reduce_andi_all _ _ _ _ _ h1.2 i
  · have k := Host.reduce_andi_all _ _ _ _ _ h2.2 (ix2 j (⟨s.val / 128, by have := s.isLt; omega⟩ : Fin 8))
    have k' := eq_of_oeq _ (Ideal.ofBits .f32 0x3F800000#32) k
    have l := (lane64 x2 j ⟨s.val / 128, by have := s.isLt; omega⟩).symm.trans (k'.trans one_bits)
    have es : (⟨s.val / 128 * 128 + 64, by have := s.isLt; omega⟩ : Fin 1024) = s := Fin.ext (by show s.val / 128 * 128 + 64 = s.val; omega)
    rw [es] at l
    exact l

end Cert.KernelAttnIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite_gate
public import proofs.«01_k».proof.Proof.Gen.KernelGate.Frame
public import proofs.«01_k».proof.Proof.Gen.KernelGateIdeal.Value
public import proofs.«01_k».proof.Proof.Gen.ReferenceGateIdeal.Run
public import proofs.«01_k».proof.Proof.Gen.ReferenceGateIdeal.Read
public import proofs.«01_k».proof.Proof.Gen.KernelDown.Frame
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Run
public import proofs.«01_k».proof.Proof.Entry
public import proofs.«01_k».proof.Proof.RefVal
public import proofs.«01_k».proof.Proof.Reals
public import proofs.«01_k».proof.Proof.Kern.Run
public import proofs.«01_k».proof.Proof.Gate
public import proofs.«01_k».proof.Proof.Down
public import Idealize.ShloMosaic.Adequacy
public import Idealize.ShloMosaic.Init
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Up
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.In
public import proofs.«01_k».proof.Proof.Gen.KernelFwdUp.Frame
public import proofs.«01_k».proof.Proof.Gen.KernelFwdUpIdeal.Value
public import proofs.«01_k».proof.Proof.Gen.ReferenceFwdUpIdeal.Run
public import proofs.«01_k».proof.Proof.Gen.ReferenceFwdUpIdeal.Read
public import proofs.«01_k».proof.Proof.FwdUp
public import proofs.«01_k».proof.Proof.Gen.KernelFwdDown.Frame
public import proofs.«01_k».proof.Proof.Gen.KernelFwdDownIdeal.Value
public import proofs.«01_k».proof.Proof.Gen.ReferenceFwdDownIdeal.Run
public import proofs.«01_k».proof.Proof.Gen.ReferenceFwdDownIdeal.Read
public import proofs.«01_k».proof.Proof.FwdDown
public import proofs.«01_k».proof.Proof.Gen.KernelAttn.Frame
public import proofs.«01_k».proof.Proof.Gen.KernelAttnIdeal.Value
public import proofs.«01_k».proof.Proof.Gen.ReferenceAttnIdeal.Run
public import proofs.«01_k».proof.Proof.Gen.ReferenceAttnIdeal.Read
public import proofs.«01_k».proof.Proof.Gen.Pre_finite_attn
public import proofs.«01_k».proof.Proof.Attn

@[expose] public section

noncomputable section

namespace Cert.Proof

open Idealize.ShloMosaic Idealize.SL.Sem Cert.Kernel

theorem kernel_frame : Cert.quiescent_Kernel (hKernel := Cert.Kernel.Gen.facts) :=
  fun m g _ => Cert.Kernel.Hand.frame_run (F := Bits) m g

theorem ideal_frame : Cert.quiescent_KernelIdeal (hKernelIdeal := Cert.KernelIdeal.Gen.facts) :=
  fun m g _ => Cert.KernelIdeal.Hand.frame_run (F := Ideal) m g

theorem ideal_frame_finite : Cert.quiescent_KernelIdeal_pre_finite (hKernelIdeal := Cert.KernelIdeal.Gen.facts) (hPre_finite := Cert.Pre_finite.Gen.facts) :=
  fun m g _ => Cert.KernelIdeal.Hand.frame_run (F := Ideal) m g

/-- The reference declares no semaphore. -/
theorem no_sem (r : MemSt Cert.ReferenceIdeal.nD Cert.ReferenceIdeal.τ Cert.ReferenceIdeal.sig (Elt Ideal)) : r.sem = fun _ => 0 :=
  funext fun g => match g with
    | ⟨_, .reg s⟩ => Fin.elim0 s
    | ⟨_, .dma s⟩ => Fin.elim0 s

theorem reference_frame : Cert.quiescent_ReferenceIdeal (hReferenceIdeal := Cert.ReferenceIdeal.Gen.facts) :=
  fun m g _ => (θ_run _ _ _).mono (fun r h => ⟨fun c => (h c).2.2.2, no_sem _⟩) (Cert.ReferenceIdeal.Value.run (F := Ideal) m g)

theorem reference_frame_finite : Cert.quiescent_ReferenceIdeal_pre_finite (hReferenceIdeal := Cert.ReferenceIdeal.Gen.facts) (hPre_finite := Cert.Pre_finite.Gen.facts) :=
  fun m g _ => reference_frame m g trivial

theorem preserves : Cert.preserves_Kernel_KernelIdeal :=
  ⟨IdealRules.named_const.statement Cert.KernelIdeal.κ "log2e" .f32 0x3FB8AA3B#32 _ rfl,
    IdealRules.named_const.statement Cert.KernelIdeal.κ "mask" .f32 0xF149F2CA#32 _ rfl,
    IdealRules.named_const.statement Cert.KernelIdeal.κ "scale2" .f32 0x3E16C740#32 _ rfl,
    IdealRules.named_const.statement Cert.KernelIdeal.κ "scale" .f32 0x3DD105EC#32 _ rfl⟩

/-- An array is told by its numbers. -/
theorem table_eq {x : FVec Ideal Cert.KernelIdeal.S16384x1024 .f32} {f : ℕ → ℕ → ℝ} (h : ∀ (a : Fin 16384) (b : Fin 1024), x (ix2 a b) = ((f a.val b.val : ℝ) : EReal)) :
    x = fun i : Cert.KernelIdeal.S16384x1024.Idx => ((f (i 0).val (i 1).val : ℝ) : EReal) :=
  funext fun i => (congrArg x (eq_ix2 i)).trans (h (i 0) (i 1))

open Cert.KernelIdeal.Hand in
/-- The reference's three gradients are the call's. -/
theorem gradients_eq (m : (ℓ : Loc Cert.KernelIdeal.nD Cert.KernelIdeal.τ Cert.KernelIdeal.sig) → Buf (Elt Ideal) ℓ) (c : Dev Cert.KernelIdeal.nD)
    (h : Cert.Pre_finite.fn (F := Ideal) (X0 m c) (X1 m c) (X2 m c) (X3 m c) = fun _ => 1#1) :
    Cert.ReferenceIdeal.Read.val_main_v65 (F := Ideal) (X0 m c) (X1 m c) (X2 m c) (X3 m c) = (trk m c 128).2
    ∧ Cert.ReferenceIdeal.Read.val_main_v66 (F := Ideal) (X0 m c) (X1 m c) (X2 m c) (X3 m c) = (dats m 0 c).arrAt 4 Cert.KernelIdeal.cfg0.N
    ∧ Cert.ReferenceIdeal.Read.val_main_v67 (F := Ideal) (X0 m c) (X1 m c) (X3 m c) = (dats m 0 c).arrAt 5 Cert.KernelIdeal.cfg0.N := by
  obtain ⟨h0, h1, h2, h3⟩ := reals _ _ _ _ h
  have H := given h0 h1 h2 h3
  exact ⟨(table_eq (Cert.ReferenceIdeal.Hand.dq_is h0 h1 h2 h3)).trans (table_eq H.dq).symm, (table_eq (Cert.ReferenceIdeal.Hand.dk_is h0 h1 h2 h3)).trans H.dk.symm,
    (table_eq (Cert.ReferenceIdeal.Hand.dv_is h0 h1 h3)).trans H.dv.symm⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hm
  refine ⟨fun c => (Cert.KernelIdeal.Hand.trk m c 128).2, fun c => (Cert.KernelIdeal.Hand.dats m 0 c).arrAt 4 Cert.KernelIdeal.cfg0.N,
    fun c => (Cert.KernelIdeal.Hand.dats m 0 c).arrAt 5 Cert.KernelIdeal.cfg0.N, ?_, ?_⟩
  · refine (θ_run _ _ _).mono (fun r h c => ?_) (Cert.KernelIdeal.Hand.run (F := Ideal) m g)
    obtain ⟨e, d0, d1, d2⟩ := h.1 c
    exact ⟨d0, d1, d2, e⟩
  · refine (θ_run _ _ _).mono (fun r h c => ?_) (Cert.ReferenceIdeal.Value.run (F := Ideal) m' g')
    obtain ⟨e0, e1, e2, e⟩ := h c
    obtain ⟨a0, a1, a2, a3⟩ := hm c
    obtain ⟨d0, d1, d2⟩ := gradients_eq m c (hpre c)
    rw [Cert.ReferenceIdeal.Read.val_main_v65_eq, a0, a1, a2, a3] at e0
    rw [Cert.ReferenceIdeal.Read.val_main_v66_eq, a0, a1, a2, a3] at e1
    rw [Cert.ReferenceIdeal.Read.val_main_v67_eq, a0, a1, a3] at e2
    exact ⟨e0.trans d0, e1.trans d1, e2.trans d2, e⟩

/-! The gradient through the feed-forward gate. -/

theorem gate_frame : Cert.quiescent_KernelGate (hKernelGate := Cert.KernelGate.Gen.facts) :=
  fun m g _ => Cert.KernelGate.Gen.frame m g

theorem gate_ideal_frame : Cert.quiescent_KernelGateIdeal (hKernelGateIdeal := Cert.KernelGateIdeal.Gen.facts) :=
  fun m g _ => Cert.KernelGateIdeal.Gen.frame m g

theorem gate_ideal_frame_finite : Cert.quiescent_KernelGateIdeal_pre_finite_gate (hKernelGateIdeal := Cert.KernelGateIdeal.Gen.facts) (hPre_finite_gate := Cert.Pre_finite_gate.Gen.facts) :=
  fun m g _ => Cert.KernelGateIdeal.Gen.frame m g

theorem gate_no_sem (r : MemSt Cert.ReferenceGateIdeal.nD Cert.ReferenceGateIdeal.τ Cert.ReferenceGateIdeal.sig (Elt Ideal)) : r.sem = fun _ => 0 :=
  funext fun g => match g with
    | ⟨_, .reg s⟩ => Fin.elim0 s
    | ⟨_, .dma s⟩ => Fin.elim0 s

theorem gate_reference_frame : Cert.quiescent_ReferenceGateIdeal (hReferenceGateIdeal := Cert.ReferenceGateIdeal.Gen.facts) :=
  fun m g _ => (θ_run _ _ _).mono (fun r h => ⟨fun c => (h c).2.2, gate_no_sem _⟩) (Cert.ReferenceGateIdeal.Value.run (F := Ideal) m g)

theorem gate_reference_frame_finite : Cert.quiescent_ReferenceGateIdeal_pre_finite_gate (hReferenceGateIdeal := Cert.ReferenceGateIdeal.Gen.facts) (hPre_finite_gate := Cert.Pre_finite_gate.Gen.facts) :=
  fun m g _ => gate_reference_frame m g trivial

theorem gate_algebraic : Cert.algebraic_KernelGateIdeal_ReferenceGateIdeal_pre_finite_gate (hKernelGateIdeal := Cert.KernelGateIdeal.Gen.facts)
    (hReferenceGateIdeal := Cert.ReferenceGateIdeal.Gen.facts) (hPre_finite_gate := Cert.Pre_finite_gate.Gen.facts) := by
  intro m g m' g' hpre hm
  refine ⟨fun c => (Cert.KernelGateIdeal.Gen.dats m 0 c).arrAt 4 Cert.KernelGateIdeal.cfg0.N,
    fun c => (Cert.KernelGateIdeal.Gen.dats m 0 c).arrAt 5 Cert.KernelGateIdeal.cfg0.N, Cert.KernelGateIdeal.Value.run_blocks (F := Ideal) m g, ?_⟩
  refine (θ_run _ _ _).mono (fun r h c => ?_) (Cert.ReferenceGateIdeal.Value.run (F := Ideal) m' g')
  obtain ⟨e0, e1, e⟩ := h c
  obtain ⟨a0, a1, a2, a3⟩ := hm c
  obtain ⟨h0, h2, h3⟩ := Cert.KernelGateIdeal.Hand.reals (hpre c)
  rw [Cert.ReferenceGateIdeal.Read.val_main_v10_eq, a0, a1, a2, a3] at e0
  rw [Cert.ReferenceGateIdeal.Read.val_main_v11_eq, a0, a1, a3] at e1
  exact ⟨e0.trans (Cert.KernelGateIdeal.Hand.gate_eq h0 h2 h3).symm, e1.trans Cert.KernelGateIdeal.Hand.up_eq.symm, e⟩

/-! The gradient of the feed-forward down projection. -/

theorem down_frame : Cert.quiescent_KernelDown (hKernelDown := Cert.KernelDown.Gen.facts) :=
  fun m g _ => Cert.KernelDown.Gen.frame m g

theorem down_ideal_frame : Cert.quiescent_KernelDownIdeal (hKernelDownIdeal := Cert.KernelDownIdeal.Gen.facts) :=
  fun m g _ => Cert.KernelDownIdeal.Gen.frame m g

theorem down_no_sem (r : MemSt Cert.ReferenceDownIdeal.nD Cert.ReferenceDownIdeal.τ Cert.ReferenceDownIdeal.sig (Elt Ideal)) : r.sem = fun _ => 0 :=
  funext fun g => match g with
    | ⟨_, .reg s⟩ => Fin.elim0 s
    | ⟨_, .dma s⟩ => Fin.elim0 s

theorem down_reference_frame : Cert.quiescent_ReferenceDownIdeal (hReferenceDownIdeal := Cert.ReferenceDownIdeal.Gen.facts) :=
  fun m g _ => (θ_run _ _ _).mono (fun r h => ⟨fun c => (h c).2, down_no_sem _⟩) (Cert.ReferenceDownIdeal.Value.run (F := Ideal) m g)

theorem down_algebraic : Cert.algebraic_KernelDownIdeal_ReferenceDownIdeal (hKernelDownIdeal := Cert.KernelDownIdeal.Gen.facts)
    (hReferenceDownIdeal := Cert.ReferenceDownIdeal.Gen.facts) := by
  intro m g m' g' _ hm
  refine ⟨fun c => Cert.KernelDownIdeal.Value.G2 m c, Cert.KernelDownIdeal.Value.run (F := Ideal) m g, ?_⟩
  refine (θ_run _ _ _).mono (fun r h c => ?_) (Cert.ReferenceDownIdeal.Value.run (F := Ideal) m' g')
  obtain ⟨e0, e⟩ := h c
  obtain ⟨a0, a1⟩ := hm c
  rw [Cert.ReferenceDownIdeal.Read.val_main_v4_eq, a0, a1] at e0
  exact ⟨e0.trans (Cert.KernelDownIdeal.Hand.equal m c), e⟩

/-! The gradient of the feed-forward gate and up projections. -/

theorem up_frame : Cert.quiescent_KernelUp (hKernelUp := Cert.KernelUp.Gen.facts) :=
  fun m g _ => Cert.KernelUp.Gen.frame m g

theorem up_ideal_frame : Cert.quiescent_KernelUpIdeal (hKernelUpIdeal := Cert.KernelUpIdeal.Gen.facts) :=
  fun m g _ => Cert.KernelUpIdeal.Gen.frame m g

theorem up_no_sem (r : MemSt Cert.ReferenceUpIdeal.nD Cert.ReferenceUpIdeal.τ Cert.ReferenceUpIdeal.sig (Elt Ideal)) : r.sem = fun _ => 0 :=
  funext fun g => match g with
    | ⟨_, .reg s⟩ => Fin.elim0 s
    | ⟨_, .dma s⟩ => Fin.elim0 s

theorem up_reference_frame : Cert.quiescent_ReferenceUpIdeal (hReferenceUpIdeal := Cert.ReferenceUpIdeal.Gen.facts) :=
  fun m g _ => (θ_run _ _ _).mono (fun r h => ⟨fun c => (h c).2, up_no_sem _⟩) (Cert.ReferenceUpIdeal.Value.run (F := Ideal) m g)

theorem up_algebraic : Cert.algebraic_KernelUpIdeal_ReferenceUpIdeal (hKernelUpIdeal := Cert.KernelUpIdeal.Gen.facts)
    (hReferenceUpIdeal := Cert.ReferenceUpIdeal.Gen.facts) := by
  intro m g m' g' _ hm
  refine ⟨fun c => (Cert.KernelUpIdeal.Gen.dats m 0 c).arrAt 3 Cert.KernelUpIdeal.cfg0.N, Cert.KernelUpIdeal.Value.run_blocks (F := Ideal) m g, ?_⟩
  refine (θ_run _ _ _).mono (fun r h c => ?_) (Cert.ReferenceUpIdeal.Value.run (F := Ideal) m' g')
  obtain ⟨e0, e⟩ := h c
  obtain ⟨a0, a1, a2⟩ := hm c
  rw [Cert.ReferenceUpIdeal.Read.val_main_v8_eq, a0, a1, a2] at e0
  exact ⟨e0.trans (Cert.KernelUpIdeal.Hand.equal m c).symm, e⟩

/-! The gradient through the norm before the feed-forward. -/

theorem inner_frame : Cert.quiescent_KernelIn (hKernelIn := Cert.KernelIn.Gen.facts) :=
  fun m g _ => Cert.KernelIn.Gen.frame m g

theorem inner_ideal_frame : Cert.quiescent_KernelInIdeal (hKernelInIdeal := Cert.KernelInIdeal.Gen.facts) :=
  fun m g _ => Cert.KernelInIdeal.Gen.frame m g

theorem inner_no_sem (r : MemSt Cert.ReferenceInIdeal.nD Cert.ReferenceInIdeal.τ Cert.ReferenceInIdeal.sig (Elt Ideal)) : r.sem = fun _ => 0 :=
  funext fun g => match g with
    | ⟨_, .reg s⟩ => Fin.elim0 s
    | ⟨_, .dma s⟩ => Fin.elim0 s

theorem inner_reference_frame : Cert.quiescent_ReferenceInIdeal (hReferenceInIdeal := Cert.ReferenceInIdeal.Gen.facts) :=
  fun m g _ => (θ_run _ _ _).mono (fun r h => ⟨fun c => (h c).2.2, inner_no_sem _⟩) (Cert.ReferenceInIdeal.Value.run (F := Ideal) m g)

theorem inner_algebraic : Cert.algebraic_KernelInIdeal_ReferenceInIdeal (hKernelInIdeal := Cert.KernelInIdeal.Gen.facts)
    (hReferenceInIdeal := Cert.ReferenceInIdeal.Gen.facts) := by
  intro m g m' g' _ hm
  refine ⟨fun c => (Cert.KernelInIdeal.Gen.dats m 0 c).arrAt 7 Cert.KernelInIdeal.cfg0.N,
    fun c => (Cert.KernelInIdeal.Gen.dats m 0 c).arrAt 8 Cert.KernelInIdeal.cfg0.N, Cert.KernelInIdeal.Value.run_blocks (F := Ideal) m g, ?_⟩
  refine (θ_run _ _ _).mono (fun r h c => ?_) (Cert.ReferenceInIdeal.Value.run (F := Ideal) m' g')
  obtain ⟨e0, e1, e⟩ := h c
  obtain ⟨a0, a1, a2, a3, a4, a5⟩ := hm c
  rw [Cert.ReferenceInIdeal.Read.val_main_v39_eq, a0, a1, a2, a3, a4, a5] at e0
  rw [Cert.ReferenceInIdeal.Read.val_main_v22_eq, a0, a1, a2, a3] at e1
  exact ⟨e0.trans (Cert.KernelInIdeal.Hand.dx_eq m c).symm, e1.trans (Cert.KernelInIdeal.Hand.dg_eq m c).symm, e⟩

/-! The feed-forward up to the activation. -/

theorem fwd_up_frame : Cert.quiescent_KernelFwdUp (hKernelFwdUp := Cert.KernelFwdUp.Gen.facts) :=
  fun m g _ => Cert.KernelFwdUp.Gen.frame m g

theorem fwd_up_ideal_frame : Cert.quiescent_KernelFwdUpIdeal (hKernelFwdUpIdeal := Cert.KernelFwdUpIdeal.Gen.facts) :=
  fun m g _ => Cert.KernelFwdUpIdeal.Gen.frame m g

theorem fwd_up_no_sem (r : MemSt Cert.ReferenceFwdUpIdeal.nD Cert.ReferenceFwdUpIdeal.τ Cert.ReferenceFwdUpIdeal.sig (Elt Ideal)) : r.sem = fun _ => 0 :=
  funext fun g => match g with
    | ⟨_, .reg s⟩ => Fin.elim0 s
    | ⟨_, .dma s⟩ => Fin.elim0 s

theorem fwd_up_reference_frame : Cert.quiescent_ReferenceFwdUpIdeal (hReferenceFwdUpIdeal := Cert.ReferenceFwdUpIdeal.Gen.facts) :=
  fun m g _ => (θ_run _ _ _).mono (fun r h => ⟨fun c => (h c).2.2.2, fwd_up_no_sem _⟩) (Cert.ReferenceFwdUpIdeal.Value.run (F := Ideal) m g)

theorem fwd_up_algebraic : Cert.algebraic_KernelFwdUpIdeal_ReferenceFwdUpIdeal (hKernelFwdUpIdeal := Cert.KernelFwdUpIdeal.Gen.facts)
    (hReferenceFwdUpIdeal := Cert.ReferenceFwdUpIdeal.Gen.facts) := by
  intro m g m' g' _ hm
  refine ⟨fun c => (Cert.KernelFwdUpIdeal.Gen.dats m 0 c).arrAt 3 Cert.KernelFwdUpIdeal.cfg0.N,
    fun c => (Cert.KernelFwdUpIdeal.Gen.dats m 0 c).arrAt 4 Cert.KernelFwdUpIdeal.cfg0.N,
    fun c => (Cert.KernelFwdUpIdeal.Gen.dats m 0 c).arrAt 5 Cert.KernelFwdUpIdeal.cfg0.N, Cert.KernelFwdUpIdeal.Value.run_blocks (F := Ideal) m g, ?_⟩
  refine (θ_run _ _ _).mono (fun r h c => ?_) (Cert.ReferenceFwdUpIdeal.Value.run (F := Ideal) m' g')
  obtain ⟨e0, e1, e2, e⟩ := h c
  obtain ⟨a0, a1⟩ := hm c
  rw [Cert.ReferenceFwdUpIdeal.Read.val_main_v7_eq, a0, a1] at e0
  rw [Cert.ReferenceFwdUpIdeal.Read.val_main_v8_eq, a0, a1] at e1
  rw [Cert.ReferenceFwdUpIdeal.Read.val_main_v9_eq, a0, a1] at e2
  exact ⟨e0.trans (Cert.KernelFwdUpIdeal.Hand.act_eq m c).symm, e1.trans (Cert.KernelFwdUpIdeal.Hand.gate_eq m c).symm, e2.trans (Cert.KernelFwdUpIdeal.Hand.up_eq m c).symm, e⟩

/-! The feed-forward down projection, with the residual. -/

theorem fwd_down_frame : Cert.quiescent_KernelFwdDown (hKernelFwdDown := Cert.KernelFwdDown.Gen.facts) :=
  fun m g _ => Cert.KernelFwdDown.Gen.frame m g

theorem fwd_down_ideal_frame : Cert.quiescent_KernelFwdDownIdeal (hKernelFwdDownIdeal := Cert.KernelFwdDownIdeal.Gen.facts) :=
  fun m g _ => Cert.KernelFwdDownIdeal.Gen.frame m g

theorem fwd_down_no_sem (r : MemSt Cert.ReferenceFwdDownIdeal.nD Cert.ReferenceFwdDownIdeal.τ Cert.ReferenceFwdDownIdeal.sig (Elt Ideal)) : r.sem = fun _ => 0 :=
  funext fun g => match g with
    | ⟨_, .reg s⟩ => Fin.elim0 s
    | ⟨_, .dma s⟩ => Fin.elim0 s

theorem fwd_down_reference_frame : Cert.quiescent_ReferenceFwdDownIdeal (hReferenceFwdDownIdeal := Cert.ReferenceFwdDownIdeal.Gen.facts) :=
  fun m g _ => (θ_run _ _ _).mono (fun r h => ⟨fun c => (h c).2, fwd_down_no_sem _⟩) (Cert.ReferenceFwdDownIdeal.Value.run (F := Ideal) m g)

theorem fwd_down_algebraic : Cert.algebraic_KernelFwdDownIdeal_ReferenceFwdDownIdeal (hKernelFwdDownIdeal := Cert.KernelFwdDownIdeal.Gen.facts)
    (hReferenceFwdDownIdeal := Cert.ReferenceFwdDownIdeal.Gen.facts) := by
  intro m g m' g' _ hm
  refine ⟨fun c => (Cert.KernelFwdDownIdeal.Gen.dats m 0 c).arrAt 3 Cert.KernelFwdDownIdeal.cfg0.N, Cert.KernelFwdDownIdeal.Value.run_blocks (F := Ideal) m g, ?_⟩
  refine (θ_run _ _ _).mono (fun r h c => ?_) (Cert.ReferenceFwdDownIdeal.Value.run (F := Ideal) m' g')
  obtain ⟨e0, e⟩ := h c
  obtain ⟨a0, a1, a2⟩ := hm c
  rw [Cert.ReferenceFwdDownIdeal.Read.val_main_v3_eq, a0, a1, a2] at e0
  exact ⟨e0.trans (Cert.KernelFwdDownIdeal.Hand.equal m c).symm, e⟩

/-! The attention's forward. -/

theorem attn_frame : Cert.quiescent_KernelAttn (hKernelAttn := Cert.KernelAttn.Gen.facts) :=
  fun m g _ => Cert.KernelAttn.Gen.frame m g

theorem attn_ideal_frame : Cert.quiescent_KernelAttnIdeal (hKernelAttnIdeal := Cert.KernelAttnIdeal.Gen.facts) :=
  fun m g _ => Cert.KernelAttnIdeal.Gen.frame m g

theorem attn_ideal_frame_finite : Cert.quiescent_KernelAttnIdeal_pre_finite_attn (hKernelAttnIdeal := Cert.KernelAttnIdeal.Gen.facts) (hPre_finite_attn := Cert.Pre_finite_attn.Gen.facts) :=
  fun m g _ => Cert.KernelAttnIdeal.Gen.frame m g

theorem attn_no_sem (r : MemSt Cert.ReferenceAttnIdeal.nD Cert.ReferenceAttnIdeal.τ Cert.ReferenceAttnIdeal.sig (Elt Ideal)) : r.sem = fun _ => 0 :=
  funext fun g => match g with
    | ⟨_, .reg s⟩ => Fin.elim0 s
    | ⟨_, .dma s⟩ => Fin.elim0 s

theorem attn_reference_frame : Cert.quiescent_ReferenceAttnIdeal (hReferenceAttnIdeal := Cert.ReferenceAttnIdeal.Gen.facts) :=
  fun m g _ => (θ_run _ _ _).mono (fun r h => ⟨fun c => (h c).2.2, attn_no_sem _⟩) (Cert.ReferenceAttnIdeal.Value.run (F := Ideal) m g)

theorem attn_reference_frame_finite : Cert.quiescent_ReferenceAttnIdeal_pre_finite_attn (hReferenceAttnIdeal := Cert.ReferenceAttnIdeal.Gen.facts) (hPre_finite_attn := Cert.Pre_finite_attn.Gen.facts) :=
  fun m g _ => attn_reference_frame m g trivial

theorem attn_preserves : Cert.preserves_KernelAttn_KernelAttnIdeal :=
  ⟨IdealRules.named_const.statement Cert.KernelAttnIdeal.κ "mask" .f32 0xF149F2CA#32 _ rfl,
    IdealRules.named_const.statement Cert.KernelAttnIdeal.κ "scale2" .f32 0x3E16C740#32 _ rfl,
    IdealRules.named_const.statement Cert.KernelAttnIdeal.κ "scale" .f32 0x3DD105EC#32 _ rfl⟩

theorem attn_algebraic : Cert.algebraic_KernelAttnIdeal_ReferenceAttnIdeal_pre_finite_attn (hKernelAttnIdeal := Cert.KernelAttnIdeal.Gen.facts)
    (hReferenceAttnIdeal := Cert.ReferenceAttnIdeal.Gen.facts) (hPre_finite_attn := Cert.Pre_finite_attn.Gen.facts) := by
  intro m g m' g' hpre hm
  refine ⟨fun c => (Cert.KernelAttnIdeal.Gen.dats m 0 c).arrAt 3 Cert.KernelAttnIdeal.cfg0.N,
    fun c => (Cert.KernelAttnIdeal.Gen.dats m 0 c).arrAt 4 Cert.KernelAttnIdeal.cfg0.N, Cert.KernelAttnIdeal.Value.run_blocks (F := Ideal) m g, ?_⟩
  refine (θ_run _ _ _).mono (fun r h c => ?_) (Cert.ReferenceAttnIdeal.Value.run (F := Ideal) m' g')
  obtain ⟨e0, e1, e⟩ := h c
  obtain ⟨a0, a1, a2, a3⟩ := hm c
  obtain ⟨h0, h1, h2⟩ := Cert.KernelAttnIdeal.Hand.reals (hpre c)
  rw [Cert.ReferenceAttnIdeal.Read.val_main_v39_eq, a0, a1, a2, a3] at e0
  rw [Cert.ReferenceAttnIdeal.Read.val_main_v40_eq, a0, a1] at e1
  exact ⟨e0.trans (Cert.KernelAttnIdeal.Hand.att_eq h0 h1 h2).symm, e1.trans (Cert.KernelAttnIdeal.Hand.lse_eq h0 h1 h2).symm, e⟩

theorem claim : Cert.Claim :=
  ⟨Cert.Kernel.Gen.facts, Cert.KernelIdeal.Gen.facts, Cert.ReferenceIdeal.Gen.facts,
    Cert.KernelGate.Gen.facts, Cert.KernelGateIdeal.Gen.facts, Cert.ReferenceGateIdeal.Gen.facts,
    Cert.KernelDown.Gen.facts, Cert.KernelDownIdeal.Gen.facts, Cert.ReferenceDownIdeal.Gen.facts,
    Cert.KernelUp.Gen.facts, Cert.KernelUpIdeal.Gen.facts, Cert.ReferenceUpIdeal.Gen.facts,
    Cert.KernelIn.Gen.facts, Cert.KernelInIdeal.Gen.facts, Cert.ReferenceInIdeal.Gen.facts,
    Cert.KernelFwdUp.Gen.facts, Cert.KernelFwdUpIdeal.Gen.facts, Cert.ReferenceFwdUpIdeal.Gen.facts,
    Cert.KernelFwdDown.Gen.facts, Cert.KernelFwdDownIdeal.Gen.facts, Cert.ReferenceFwdDownIdeal.Gen.facts,
    Cert.KernelAttn.Gen.facts, Cert.KernelAttnIdeal.Gen.facts, Cert.ReferenceAttnIdeal.Gen.facts,
    Cert.Pre_finite.Gen.facts, Cert.Pre_finite_gate.Gen.facts, Cert.Pre_finite_attn.Gen.facts,
    kernel_frame, ideal_frame, ideal_frame_finite, reference_frame, reference_frame_finite,
    gate_frame, gate_ideal_frame, gate_ideal_frame_finite, gate_reference_frame, gate_reference_frame_finite,
    down_frame, down_ideal_frame, down_reference_frame,
    up_frame, up_ideal_frame, up_reference_frame,
    inner_frame, inner_ideal_frame, inner_reference_frame,
    fwd_up_frame, fwd_up_ideal_frame, fwd_up_reference_frame,
    fwd_down_frame, fwd_down_ideal_frame, fwd_down_reference_frame,
    attn_frame, attn_ideal_frame, attn_ideal_frame_finite, attn_reference_frame, attn_reference_frame_finite,
    preserves, algebraic, trivial, gate_algebraic, trivial, down_algebraic, trivial, up_algebraic, trivial, inner_algebraic, trivial, fwd_up_algebraic, trivial, fwd_down_algebraic, attn_preserves, attn_algebraic⟩

end Cert.Proof

end
